-- ==== Defs.lean ====
def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def Pre_QtKernel (m : (ℓ : Loc Cert.QtKernel.nD Cert.QtKernel.τ Cert.QtKernel.sig) → Buf (Elt Bits) ℓ) : Prop :=
  True

def Pre_QtKernelIdeal (m : (ℓ : Loc Cert.QtKernelIdeal.nD Cert.QtKernelIdeal.τ Cert.QtKernelIdeal.sig) → Buf (Elt Ideal) ℓ) : Prop :=
  True

def Pre_QtReferenceIdeal (m : (ℓ : Loc Cert.QtReferenceIdeal.nD Cert.QtReferenceIdeal.τ Cert.QtReferenceIdeal.sig) → Buf (Elt Ideal) ℓ) : Prop :=
  True

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1))
      ∧ r.2.sem = fun _ => 0)

def quiescent_QtKernel [hQtKernel : Cert.QtKernel.Facts] : Prop :=
  ∀ (m : (ℓ : Loc Cert.QtKernel.nD Cert.QtKernel.τ Cert.QtKernel.sig) → Buf (Elt Bits) ℓ) (g : Dev Cert.QtKernel.nD → PrngReg), Pre_QtKernel m →
    θ_run (Cert.QtKernel.defs (F := Bits)) (onTc (τ := Cert.QtKernel.τ) (Cert.QtKernel.main (F := Bits))) ⟨m, fun _ => 0, g⟩ (fun r => (∀ c : Dev Cert.QtKernel.nD,
      r.2.mem ((c.tc : Thread Cert.QtKernel.nD Cert.QtKernel.τ).loc Cert.QtKernel.main_arg0) = m ((c.tc : Thread Cert.QtKernel.nD Cert.QtKernel.τ).loc Cert.QtKernel.main_arg0)
      ∧ r.2.mem ((c.tc : Thread Cert.QtKernel.nD Cert.QtKernel.τ).loc Cert.QtKernel.main_arg1) = m ((c.tc : Thread Cert.QtKernel.nD Cert.QtKernel.τ).loc Cert.QtKernel.main_arg1)
      ∧ r.2.mem ((c.tc : Thread Cert.QtKernel.nD Cert.QtKernel.τ).loc Cert.QtKernel.main_arg2) = m ((c.tc : Thread Cert.QtKernel.nD Cert.QtKernel.τ).loc Cert.QtKernel.main_arg2))
      ∧ r.2.sem = fun _ => 0)

def quiescent_QtKernelIdeal [hQtKernelIdeal : Cert.QtKernelIdeal.Facts] : Prop :=
  ∀ (m : (ℓ : Loc Cert.QtKernelIdeal.nD Cert.QtKernelIdeal.τ Cert.QtKernelIdeal.sig) → Buf (Elt Ideal) ℓ) (g : Dev Cert.QtKernelIdeal.nD → PrngReg), Pre_QtKernelIdeal m →
    θ_run (Cert.QtKernelIdeal.defs (F := Ideal)) (onTc (τ := Cert.QtKernelIdeal.τ) (Cert.QtKernelIdeal.main (F := Ideal))) ⟨m, fun _ => 0, g⟩ (fun r => (∀ c : Dev Cert.QtKernelIdeal.nD,
      r.2.mem ((c.tc : Thread Cert.QtKernelIdeal.nD Cert.QtKernelIdeal.τ).loc Cert.QtKernelIdeal.main_arg0) = m ((c.tc : Thread Cert.QtKernelIdeal.nD Cert.QtKernelIdeal.τ).loc Cert.QtKernelIdeal.main_arg0)
      ∧ r.2.mem ((c.tc : Thread Cert.QtKernelIdeal.nD Cert.QtKernelIdeal.τ).loc Cert.QtKernelIdeal.main_arg1) = m ((c.tc : Thread Cert.QtKernelIdeal.nD Cert.QtKernelIdeal.τ).loc Cert.QtKernelIdeal.main_arg1)
      ∧ r.2.mem ((c.tc : Thread Cert.QtKernelIdeal.nD Cert.QtKernelIdeal.τ).loc Cert.QtKernelIdeal.main_arg2) = m ((c.tc : Thread Cert.QtKernelIdeal.nD Cert.QtKernelIdeal.τ).loc Cert.QtKernelIdeal.main_arg2))
      ∧ r.2.sem = fun _ => 0)

def quiescent_QtReferenceIdeal [hQtReferenceIdeal : Cert.QtReferenceIdeal.Facts] : Prop :=
  ∀ (m : (ℓ : Loc Cert.QtReferenceIdeal.nD Cert.QtReferenceIdeal.τ Cert.QtReferenceIdeal.sig) → Buf (Elt Ideal) ℓ) (g : Dev Cert.QtReferenceIdeal.nD → PrngReg), Pre_QtReferenceIdeal m →
    θ_run (Cert.QtReferenceIdeal.defs (F := Ideal)) (onTc (τ := Cert.QtReferenceIdeal.τ) (Cert.QtReferenceIdeal.main (F := Ideal))) ⟨m, fun _ => 0, g⟩ (fun r => (∀ c : Dev Cert.QtReferenceIdeal.nD,
      r.2.mem ((c.tc : Thread Cert.QtReferenceIdeal.nD Cert.QtReferenceIdeal.τ).loc Cert.QtReferenceIdeal.main_arg0) = m ((c.tc : Thread Cert.QtReferenceIdeal.nD Cert.QtReferenceIdeal.τ).loc Cert.QtReferenceIdeal.main_arg0)
      ∧ r.2.mem ((c.tc : Thread Cert.QtReferenceIdeal.nD Cert.QtReferenceIdeal.τ).loc Cert.QtReferenceIdeal.main_arg1) = m ((c.tc : Thread Cert.QtReferenceIdeal.nD Cert.QtReferenceIdeal.τ).loc Cert.QtReferenceIdeal.main_arg1)
      ∧ r.2.mem ((c.tc : Thread Cert.QtReferenceIdeal.nD Cert.QtReferenceIdeal.τ).loc Cert.QtReferenceIdeal.main_arg2) = m ((c.tc : Thread Cert.QtReferenceIdeal.nD Cert.QtReferenceIdeal.τ).loc Cert.QtReferenceIdeal.main_arg2))
      ∧ r.2.sem = fun _ => 0)

def preserves_DxKernel_DxKernelIdeal : Prop :=
  True

def algebraic_DxKernelIdeal_DxReferenceIdeal_on_in_range [hDxKernelIdeal : Cert.DxKernelIdeal.Facts] [hDxReferenceIdeal : Cert.DxReferenceIdeal.Facts] [hOn_in_range : Cert.On_in_range.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)) →
    ∃ (v0 : (c : Dev Cert.DxKernelIdeal.nD) → Buf (Elt Ideal) ((c.tc : Thread Cert.DxKernelIdeal.nD Cert.DxKernelIdeal.τ).loc Cert.DxKernelIdeal.main_v0_0)) (v1 : (c : Dev Cert.DxKernelIdeal.nD) → Buf (Elt Ideal) ((c.tc : Thread Cert.DxKernelIdeal.nD Cert.DxKernelIdeal.τ).loc Cert.DxKernelIdeal.main_v0_1)) (v2 : (c : Dev Cert.DxKernelIdeal.nD) → Buf (Elt Ideal) ((c.tc : Thread Cert.DxKernelIdeal.nD Cert.DxKernelIdeal.τ).loc Cert.DxKernelIdeal.main_v0_2)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          (∀ i : (⟨2, ![6144, 4096]⟩ : Shape).Idx, (Cert.On_in_range.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1))).1 i = 1#1 → r.2.mem ((c.tc : Thread Cert.DxKernelIdeal.nD Cert.DxKernelIdeal.τ).loc Cert.DxKernelIdeal.main_v0_0) i = v0 c i)
          ∧ (∀ i : (⟨2, ![6144, 4096]⟩ : Shape).Idx, (Cert.On_in_range.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1))).2.1 i = 1#1 → r.2.mem ((c.tc : Thread Cert.DxKernelIdeal.nD Cert.DxKernelIdeal.τ).loc Cert.DxKernelIdeal.main_v0_1) i = v1 c i)
          ∧ (∀ i : (⟨2, ![6144, 128]⟩ : Shape).Idx, (Cert.On_in_range.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1))).2.2 i = 1#1 → r.2.mem ((c.tc : Thread Cert.DxKernelIdeal.nD Cert.DxKernelIdeal.τ).loc Cert.DxKernelIdeal.main_v0_2) i = v2 c i)
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          (∀ i : (⟨2, ![6144, 4096]⟩ : Shape).Idx, (Cert.On_in_range.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1))).1 i = 1#1 → r.2.mem ((c.tc : Thread Cert.DxReferenceIdeal.nD Cert.DxReferenceIdeal.τ).loc Cert.DxReferenceIdeal.main_v0_0) i = v0 c i)
          ∧ (∀ i : (⟨2, ![6144, 4096]⟩ : Shape).Idx, (Cert.On_in_range.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1))).2.1 i = 1#1 → r.2.mem ((c.tc : Thread Cert.DxReferenceIdeal.nD Cert.DxReferenceIdeal.τ).loc Cert.DxReferenceIdeal.main_v0_1) i = v1 c i)
          ∧ (∀ i : (⟨2, ![6144, 128]⟩ : Shape).Idx, (Cert.On_in_range.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1))).2.2 i = 1#1 → r.2.mem ((c.tc : Thread Cert.DxReferenceIdeal.nD Cert.DxReferenceIdeal.τ).loc Cert.DxReferenceIdeal.main_v0_2) i = v2 c i)
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v0)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v0) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v2) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1))

def preserves_QtKernel_QtKernelIdeal : Prop :=
  True

def algebraic_QtKernelIdeal_QtReferenceIdeal_on_qt_in_range [hQtKernelIdeal : Cert.QtKernelIdeal.Facts] [hQtReferenceIdeal : Cert.QtReferenceIdeal.Facts] [hOn_qt_in_range : Cert.On_qt_in_range.Facts] : Prop :=
  ∀ (m : (ℓ : Loc Cert.QtKernelIdeal.nD Cert.QtKernelIdeal.τ Cert.QtKernelIdeal.sig) → Buf (Elt Ideal) ℓ) (g : Dev Cert.QtKernelIdeal.nD → PrngReg)
    (m' : (ℓ : Loc Cert.QtReferenceIdeal.nD Cert.QtReferenceIdeal.τ Cert.QtReferenceIdeal.sig) → Buf (Elt Ideal) ℓ) (g' : Dev Cert.QtReferenceIdeal.nD → PrngReg), Pre_QtKernelIdeal m →
    (∀ c : Dev Cert.QtKernelIdeal.nD,
      m' ((c.tc : Thread Cert.QtReferenceIdeal.nD Cert.QtReferenceIdeal.τ).loc Cert.QtReferenceIdeal.main_arg0) = m ((c.tc : Thread Cert.QtKernelIdeal.nD Cert.QtKernelIdeal.τ).loc Cert.QtKernelIdeal.main_arg0)
      ∧ m' ((c.tc : Thread Cert.QtReferenceIdeal.nD Cert.QtReferenceIdeal.τ).loc Cert.QtReferenceIdeal.main_arg1) = m ((c.tc : Thread Cert.QtKernelIdeal.nD Cert.QtKernelIdeal.τ).loc Cert.QtKernelIdeal.main_arg1)
      ∧ m' ((c.tc : Thread Cert.QtReferenceIdeal.nD Cert.QtReferenceIdeal.τ).loc Cert.QtReferenceIdeal.main_arg2) = m ((c.tc : Thread Cert.QtKernelIdeal.nD Cert.QtKernelIdeal.τ).loc Cert.QtKernelIdeal.main_arg2)) →
    ∃ (v0 : (c : Dev Cert.QtKernelIdeal.nD) → Buf (Elt Ideal) ((c.tc : Thread Cert.QtKernelIdeal.nD Cert.QtKernelIdeal.τ).loc Cert.QtKernelIdeal.main_v23_1)),
      θ_run (Cert.QtKernelIdeal.defs (F := Ideal)) (onTc (τ := Cert.QtKernelIdeal.τ) (Cert.QtKernelIdeal.main (F := Ideal))) ⟨m, fun _ => 0, g⟩ (fun r => ∀ c : Dev Cert.QtKernelIdeal.nD,
          (∀ i : (⟨2, ![192, 4096]⟩ : Shape).Idx, (Cert.On_qt_in_range.fn (F := Ideal) (m ((c.tc : Thread Cert.QtKernelIdeal.nD Cert.QtKernelIdeal.τ).loc Cert.QtKernelIdeal.main_arg0)) (m ((c.tc : Thread Cert.QtKernelIdeal.nD Cert.QtKernelIdeal.τ).loc Cert.QtKernelIdeal.main_arg1)) (m ((c.tc : Thread Cert.QtKernelIdeal.nD Cert.QtKernelIdeal.τ).loc Cert.QtKernelIdeal.main_arg2))) i = 1#1 → r.2.mem ((c.tc : Thread Cert.QtKernelIdeal.nD Cert.QtKernelIdeal.τ).loc Cert.QtKernelIdeal.main_v23_1) i = v0 c i)
          ∧ r.2.mem ((c.tc : Thread Cert.QtKernelIdeal.nD Cert.QtKernelIdeal.τ).loc Cert.QtKernelIdeal.main_arg0) = m ((c.tc : Thread Cert.QtKernelIdeal.nD Cert.QtKernelIdeal.τ).loc Cert.QtKernelIdeal.main_arg0)
          ∧ r.2.mem ((c.tc : Thread Cert.QtKernelIdeal.nD Cert.QtKernelIdeal.τ).loc Cert.QtKernelIdeal.main_arg1) = m ((c.tc : Thread Cert.QtKernelIdeal.nD Cert.QtKernelIdeal.τ).loc Cert.QtKernelIdeal.main_arg1)
          ∧ r.2.mem ((c.tc : Thread Cert.QtKernelIdeal.nD Cert.QtKernelIdeal.τ).loc Cert.QtKernelIdeal.main_arg2) = m ((c.tc : Thread Cert.QtKernelIdeal.nD Cert.QtKernelIdeal.τ).loc Cert.QtKernelIdeal.main_arg2))
      ∧ θ_run (Cert.QtReferenceIdeal.defs (F := Ideal)) (onTc (τ := Cert.QtReferenceIdeal.τ) (Cert.QtReferenceIdeal.main (F := Ideal))) ⟨m', fun _ => 0, g'⟩ (fun r => ∀ c : Dev Cert.QtReferenceIdeal.nD,
          (∀ i : (⟨2, ![192, 4096]⟩ : Shape).Idx, (Cert.On_qt_in_range.fn (F := Ideal) (m ((c.tc : Thread Cert.QtKernelIdeal.nD Cert.QtKernelIdeal.τ).loc Cert.QtKernelIdeal.main_arg0)) (m ((c.tc : Thread Cert.QtKernelIdeal.nD Cert.QtKernelIdeal.τ).loc Cert.QtKernelIdeal.main_arg1)) (m ((c.tc : Thread Cert.QtKernelIdeal.nD Cert.QtKernelIdeal.τ).loc Cert.QtKernelIdeal.main_arg2))) i = 1#1 → r.2.mem ((c.tc : Thread Cert.QtReferenceIdeal.nD Cert.QtReferenceIdeal.τ).loc Cert.QtReferenceIdeal.main_v42) i = v0 c i)
          ∧ r.2.mem ((c.tc : Thread Cert.QtReferenceIdeal.nD Cert.QtReferenceIdeal.τ).loc Cert.QtReferenceIdeal.main_arg0) = m' ((c.tc : Thread Cert.QtReferenceIdeal.nD Cert.QtReferenceIdeal.τ).loc Cert.QtReferenceIdeal.main_arg0)
          ∧ r.2.mem ((c.tc : Thread Cert.QtReferenceIdeal.nD Cert.QtReferenceIdeal.τ).loc Cert.QtReferenceIdeal.main_arg1) = m' ((c.tc : Thread Cert.QtReferenceIdeal.nD Cert.QtReferenceIdeal.τ).loc Cert.QtReferenceIdeal.main_arg1)
          ∧ r.2.mem ((c.tc : Thread Cert.QtReferenceIdeal.nD Cert.QtReferenceIdeal.τ).loc Cert.QtReferenceIdeal.main_arg2) = m' ((c.tc : Thread Cert.QtReferenceIdeal.nD Cert.QtReferenceIdeal.τ).loc Cert.QtReferenceIdeal.main_arg2))

def Claim : Prop :=
  ∃ (hDxKernel : Cert.DxKernel.Facts) (hDxKernelIdeal : Cert.DxKernelIdeal.Facts) (hDxReferenceIdeal : Cert.DxReferenceIdeal.Facts) (hDwKernel : Cert.DwKernel.Facts) (hDwKernelIdeal : Cert.DwKernelIdeal.Facts) (hDwReferenceIdeal : Cert.DwReferenceIdeal.Facts) (hQtKernel : Cert.QtKernel.Facts) (hQtKernelIdeal : Cert.QtKernelIdeal.Facts) (hQtReferenceIdeal : Cert.QtReferenceIdeal.Facts) (hOn_in_range : Cert.On_in_range.Facts) (hOn_qt_in_range : Cert.On_qt_in_range.Facts),
    quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ quiescent_QtKernel (hQtKernel := hQtKernel)
    ∧ quiescent_QtKernelIdeal (hQtKernelIdeal := hQtKernelIdeal)
    ∧ quiescent_QtReferenceIdeal (hQtReferenceIdeal := hQtReferenceIdeal)
    ∧ preserves_DxKernel_DxKernelIdeal
    ∧ algebraic_DxKernelIdeal_DxReferenceIdeal_on_in_range (hDxKernelIdeal := hDxKernelIdeal) (hDxReferenceIdeal := hDxReferenceIdeal) (hOn_in_range := hOn_in_range)
    ∧ preserves_DwKernel_DwKernelIdeal
    ∧ algebraic_DwKernelIdeal_DwReferenceIdeal (hDwKernelIdeal := hDwKernelIdeal) (hDwReferenceIdeal := hDwReferenceIdeal)
    ∧ preserves_QtKernel_QtKernelIdeal
    ∧ algebraic_QtKernelIdeal_QtReferenceIdeal_on_qt_in_range (hQtKernelIdeal := hQtKernelIdeal) (hQtReferenceIdeal := hQtReferenceIdeal) (hOn_qt_in_range := hOn_qt_in_range)
-- ==== On_in_range.lean ====
abbrev S6144x14336 : Shape := ⟨2, ![6144, 14336]⟩
abbrev S4096x14336 : Shape := ⟨2, ![4096, 14336]⟩
abbrev S6144x4096 : Shape := ⟨2, ![6144, 4096]⟩
abbrev S_ : Shape := ⟨0, ![]⟩
abbrev S6144x128x32 : Shape := ⟨3, ![6144, 128, 32]⟩
abbrev S6144x128 : Shape := ⟨2, ![6144, 128]⟩
abbrev S6144x128x1 : Shape := ⟨3, ![6144, 128, 1]⟩

class Facts : Prop where
  bcast_S_S6144x4096 : S_.BroadcastsInDim S6144x4096 (![] : Fin 0 → Fin S6144x4096.rank)
  bitsLt_bf16_f32 : FTy.bits .bf16 < FTy.bits .f32
  shapeCasts_S6144x4096_S6144x128x32 : S6144x4096.ShapeCasts S6144x128x32
  reducesTo_S6144x128x32_S6144x128_d2 : S6144x128x32.ReducesTo [2] S6144x128
  h_S_ : 0 < S_.numel
  bcast_S_S6144x128 : S_.BroadcastsInDim S6144x128 (![] : Fin 0 → Fin S6144x128.rank)
  bcast_S6144x128_S6144x128x1_0_1 : S6144x128.BroadcastsInDim S6144x128x1 (![0, 1] : Fin 2 → Fin S6144x128x1.rank)
  bcast_S6144x128x1_S6144x128x32_0_1_2 : S6144x128x1.BroadcastsInDim S6144x128x32 (![0, 1, 2] : Fin 3 → Fin S6144x128x32.rank)
  shapeCasts_S6144x128x32_S6144x4096 : S6144x128x32.ShapeCasts S6144x4096
  dot_S6144x14336_S4096x14336_S6144x4096_1_1_0_0_n_n_wf : DotDims.WF S6144x14336 S4096x14336 S6144x4096 [1] [1] [0] [0] [] []

variable [Facts]

def dot_S6144x14336_S4096x14336_S6144x4096_1_1_0_0_n_n : DotDims S6144x14336 S4096x14336 S6144x4096 where
  lhsContracting := [1]
  rhsContracting := [1]
  lhsNonContracting := [0]
  rhsNonContracting := [0]
  lhsBatch := []
  rhsBatch := []
  wf := dot_S6144x14336_S4096x14336_S6144x4096_1_1_0_0_n_n_wf
def fn_part1 {F : FTy → Type} [FloatOps F] (main_v17 : IVec S6144x128 1) : IVec S6144x4096 1 × IVec S6144x4096 1 × IVec S6144x128 1 :=
  let main_v18 : IVec S6144x128x1 1 := broadcastInDim S6144x128x1 ![0, 1] bcast_S6144x128_S6144x128x1_0_1 main_v17
  let main_v19 : IVec S6144x128x32 1 := broadcastInDim S6144x128x32 ![0, 1, 2] bcast_S6144x128x1_S6144x128x32_0_1_2 main_v18
  let main_v20 : IVec S6144x4096 1 := shapeCast S6144x4096 main_v19 shapeCasts_S6144x128x32_S6144x4096
  let main_c : IVec S_ 1 := constantI S_ 1 1#1
  let main_v21 : IVec S6144x4096 1 := broadcastInDim S6144x4096 ![] bcast_S_S6144x4096 main_c
  (main_v21, main_v20, main_v17)

def fn {F : FTy → Type} [FloatOps F] (main_arg0 : FVec F S6144x14336 .bf16) (main_arg1 : FVec F S4096x14336 .bf16) : IVec S6144x4096 1 × IVec S6144x4096 1 × IVec S6144x128 1 :=
  let main_v0 : FVec F S6144x4096 .f32 := (fun l r => Host.dotGeneral dot_S6144x14336_S4096x14336_S6144x4096_1_1_0_0_n_n none l r) main_arg0 main_arg1
  let main_cst : FVec F S_ .f32 := constant S_ .f32 0x3FE38E39#32
  let main_v1 : FVec F S6144x4096 .f32 := broadcastInDim S6144x4096 ![] bcast_S_S6144x4096 main_cst
  let main_v2 : FVec F S6144x4096 .f32 := mulf main_v0 main_v1
  let main_v3 : FVec F S6144x4096 .bf16 := (truncf .bf16 · bitsLt_bf16_f32) main_v2
  let main_v4 : FVec F S6144x4096 .f32 := (extf .f32 · bitsLt_bf16_f32) main_v3
  let main_v5 : FVec F S6144x128x32 .f32 := shapeCast S6144x128x32 main_v4 shapeCasts_S6144x4096_S6144x128x32
  let main_v6 : FVec F S6144x128x32 .f32 := Host.absf main_v5
  let main_cst_0 : FVec F S_ .f32 := constant S_ .f32 0xFF800000#32
  let main_v7 : FVec F S6144x128 .f32 := (fun x v => Host.reduce FloatOps.maximumf x v reducesTo_S6144x128x32_S6144x128_d2 h_S_) main_v6 main_cst_0
  let main_cst_1 : FVec F S_ .f32 := constant S_ .f32 0x3B124925#32
  let main_v8 : FVec F S6144x128 .f32 := broadcastInDim S6144x128 ![] bcast_S_S6144x128 main_cst_1
  let main_v9 : FVec F S6144x128 .f32 := mulf main_v7 main_v8
  let main_cst_2 : FVec F S_ .f32 := constant S_ .f32 0x00000000#32
  let main_v10 : FVec F S6144x128 .f32 := broadcastInDim S6144x128 ![] bcast_S_S6144x128 main_cst_2
  let main_v11 : IVec S6144x128 1 := cmpf .oeq main_v9 main_v10
  let main_cst_3 : FVec F S_ .f32 := constant S_ .f32 0x00800000#32
  let main_v12 : FVec F S6144x128 .f32 := broadcastInDim S6144x128 ![] bcast_S_S6144x128 main_cst_3
  let main_v13 : IVec S6144x128 1 := cmpf .oge main_v9 main_v12
  let main_cst_4 : FVec F S_ .f32 := constant S_ .f32 0x7E800000#32
  let main_v14 : FVec F S6144x128 .f32 := broadcastInDim S6144x128 ![] bcast_S_S6144x128 main_cst_4
  let main_v15 : IVec S6144x128 1 := cmpf .olt main_v9 main_v14
  let main_v16 : IVec S6144x128 1 := andi main_v13 main_v15
  let main_v17 : IVec S6144x128 1 := ori main_v11 main_v16
  fn_part1 (F := F) main_v17
-- ==== On_qt_in_range.lean ====
abbrev S6144x4096 : Shape := ⟨2, ![6144, 4096]⟩
abbrev S6144 : Shape := ⟨1, ![6144]⟩
abbrev S6144x1 : Shape := ⟨2, ![6144, 1]⟩
abbrev S192x1x32x4096 : Shape := ⟨4, ![192, 1, 32, 4096]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x32x1 : Shape := ⟨3, ![32, 32, 1]⟩
abbrev S1x32x32x1 : Shape := ⟨4, ![1, 32, 32, 1]⟩
abbrev S192x32x32x4096 : Shape := ⟨4, ![192, 32, 32, 4096]⟩
abbrev S192x32x4096 : Shape := ⟨3, ![192, 32, 4096]⟩
abbrev S192x4096 : Shape := ⟨2, ![192, 4096]⟩

class Facts : Prop where
  bitsLt_bf16_f32 : FTy.bits .bf16 < FTy.bits .f32
  bcast_S6144_S6144x1_0 : S6144.BroadcastsInDim S6144x1 (![0] : Fin 1 → Fin S6144x1.rank)
  bcast_S6144x1_S6144x4096_0_1 : S6144x1.BroadcastsInDim S6144x4096 (![0, 1] : Fin 2 → Fin S6144x4096.rank)
  shapeCasts_S6144x4096_S192x1x32x4096 : S6144x4096.ShapeCasts S192x1x32x4096
  bcast_S32_S32x1_0 : S32.BroadcastsInDim S32x1 (![0] : Fin 1 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S32x32x1_S1x32x32x1_1_2_3 : S32x32x1.BroadcastsInDim S1x32x32x1 (![1, 2, 3] : Fin 3 → Fin S1x32x32x1.rank)
  bcast_S192x1x32x4096_S192x32x32x4096_0_1_2_3 : S192x1x32x4096.BroadcastsInDim S192x32x32x4096 (![0, 1, 2, 3] : Fin 4 → Fin S192x32x32x4096.rank)
  bcast_S1x32x32x1_S192x32x32x4096_0_1_2_3 : S1x32x32x1.BroadcastsInDim S192x32x32x4096 (![0, 1, 2, 3] : Fin 4 → Fin S192x32x32x4096.rank)
  reducesTo_S192x32x32x4096_S192x32x4096_d2 : S192x32x32x4096.ReducesTo [2] S192x32x4096
  h_S_ : 0 < S_.numel
  reducesTo_S192x32x4096_S192x4096_d1 : S192x32x4096.ReducesTo [1] S192x4096
  bcast_S_S192x4096 : S_.BroadcastsInDim S192x4096 (![] : Fin 0 → Fin S192x4096.rank)

variable [Facts]

def fn_part1 {F : FTy → Type} [FloatOps F] (main_v4 : FVec F S192x1x32x4096 .f32) (main_v19 : FVec F S32x32 .f32) : IVec S192x4096 1 :=
  let main_v20 : FVec F S32x32x1 .f32 := broadcastInDim S32x32x1 ![0, 1] bcast_S32x32_S32x32x1_0_1 main_v19
  let main_v21 : FVec F S1x32x32x1 .f32 := broadcastInDim S1x32x32x1 ![1, 2, 3] bcast_S32x32x1_S1x32x32x1_1_2_3 main_v20
  let main_v22 : FVec F S192x32x32x4096 .f32 := broadcastInDim S192x32x32x4096 ![0, 1, 2, 3] bcast_S192x1x32x4096_S192x32x32x4096_0_1_2_3 main_v4
  let main_v23 : FVec F S192x32x32x4096 .f32 := broadcastInDim S192x32x32x4096 ![0, 1, 2, 3] bcast_S1x32x32x1_S192x32x32x4096_0_1_2_3 main_v21
  let main_v24 : FVec F S192x32x32x4096 .f32 := mulf main_v22 main_v23
  let main_cst_2 : FVec F S_ .f32 := constant S_ .f32 0x00000000#32
  let main_v25 : FVec F S192x32x4096 .f32 := (fun x v => Host.reduceAdd x v reducesTo_S192x32x32x4096_S192x32x4096_d2 h_S_) main_v24 main_cst_2
  let main_v26 : FVec F S192x32x4096 .f32 := Host.absf main_v25
  let main_cst_3 : FVec F S_ .f32 := constant S_ .f32 0xFF800000#32
  let main_v27 : FVec F S192x4096 .f32 := (fun x v => Host.reduce FloatOps.maximumf x v reducesTo_S192x32x4096_S192x4096_d1 h_S_) main_v26 main_cst_3
  let main_cst_4 : FVec F S_ .f32 := constant S_ .f32 0x00000000#32
  let main_v28 : FVec F S192x4096 .f32 := broadcastInDim S192x4096 ![] bcast_S_S192x4096 main_cst_4
  let main_v29 : IVec S192x4096 1 := cmpf .oeq main_v27 main_v28
  let main_cst_5 : FVec F S_ .f32 := constant S_ .f32 0x00800000#32
  let main_v30 : FVec F S192x4096 .f32 := broadcastInDim S192x4096 ![] bcast_S_S192x4096 main_cst_5
  let main_v31 : IVec S192x4096 1 := cmpf .oge main_v27 main_v30
  let main_cst_6 : FVec F S_ .f32 := constant S_ .f32 0x7F7FFFFF#32
  let main_v32 : FVec F S192x4096 .f32 := broadcastInDim S192x4096 ![] bcast_S_S192x4096 main_cst_6
  let main_v33 : IVec S192x4096 1 := cmpf .ole main_v27 main_v32
  let main_v34 : IVec S192x4096 1 := andi main_v31 main_v33
  let main_v35 : IVec S192x4096 1 := ori main_v29 main_v34
  main_v35

def fn {F : FTy → Type} [FloatOps F] (main_arg0 : FVec F S6144x4096 .bf16) (main_arg1 : IVec S6144x4096 8) (main_arg2 : FVec F S6144 .f32) : IVec S192x4096 1 :=
  let main_v0 : FVec F S6144x4096 .f32 := (extf .f32 · bitsLt_bf16_f32) main_arg0
  let main_v1 : FVec F S6144x1 .f32 := broadcastInDim S6144x1 ![0] bcast_S6144_S6144x1_0 main_arg2
  let main_v2 : FVec F S6144x4096 .f32 := broadcastInDim S6144x4096 ![0, 1] bcast_S6144x1_S6144x4096_0_1 main_v1
  let main_v3 : FVec F S6144x4096 .f32 := mulf main_v0 main_v2
  let main_v4 : FVec F S192x1x32x4096 .f32 := shapeCast S192x1x32x4096 main_v3 shapeCasts_S6144x4096_S192x1x32x4096
  let main_v5 : IVec S32 32 := iotaInDim S32 32 0
  let main_v6 : IVec S32x1 32 := broadcastInDim S32x1 ![0] bcast_S32_S32x1_0 main_v5
  let main_v7 : IVec S1x32 32 := broadcastInDim S1x32 ![1] bcast_S32_S1x32_1 main_v5
  let main_v8 : IVec S32x32 32 := broadcastInDim S32x32 ![0, 1] bcast_S32x1_S32x32_0_1 main_v6
  let main_v9 : IVec S32x32 32 := broadcastInDim S32x32 ![0, 1] bcast_S1x32_S32x32_0_1 main_v7
  let main_v10 : IVec S32x32 32 := andi main_v8 main_v9
  let main_v11 : IVec S32x32 32 := ctpop main_v10
  let main_c : IVec S_ 32 := constantI S_ 32 1#32
  let main_v12 : IVec S32x32 32 := broadcastInDim S32x32 ![] bcast_S_S32x32 main_c
  let main_v13 : IVec S32x32 32 := andi main_v11 main_v12
  let main_c_0 : IVec S_ 32 := constantI S_ 32 0#32
  let main_v14 : IVec S32x32 32 := broadcastInDim S32x32 ![] bcast_S_S32x32 main_c_0
  let main_v15 : IVec S32x32 1 := cmpi .eq main_v13 main_v14
  let main_cst : FVec F S_ .f32 := constant S_ .f32 0x3E3504F3#32
  let main_v16 : FVec F S32x32 .f32 := broadcastInDim S32x32 ![] bcast_S_S32x32 main_cst
  let main_cst_1 : FVec F S_ .f32 := constant S_ .f32 0x3E3504F3#32
  let main_v17 : FVec F S_ .f32 := Host.negf main_cst_1
  let main_v18 : FVec F S32x32 .f32 := broadcastInDim S32x32 ![] bcast_S_S32x32 main_v17
  let main_v19 : FVec F S32x32 .f32 := select main_v15 main_v16 main_v18
  fn_part1 (F := F) main_v4 main_v19
-- ==== DxKernel.lean ====
abbrev S6144x14336 : Shape := ⟨2, ![6144, 14336]⟩
abbrev S4096x14336 : Shape := ⟨2, ![4096, 14336]⟩
abbrev S6144x4096 : Shape := ⟨2, ![6144, 4096]⟩
abbrev S6144x128 : Shape := ⟨2, ![6144, 128]⟩
abbrev S512x1024 : Shape := ⟨2, ![512, 1024]⟩
abbrev S4096x1024 : Shape := ⟨2, ![4096, 1024]⟩
abbrev S512x4096 : Shape := ⟨2, ![512, 4096]⟩
abbrev S512x128 : Shape := ⟨2, ![512, 128]⟩
abbrev S8x128 : Shape := ⟨2, ![8, 128]⟩
abbrev S32x4096 : Shape := ⟨2, ![32, 4096]⟩
abbrev S8x4096 : Shape := ⟨2, ![8, 4096]⟩
abbrev S8x128x1 : Shape := ⟨3, ![8, 128, 1]⟩
abbrev S32x128 : Shape := ⟨2, ![32, 128]⟩

abbrev nBuf : Space → Nat
  | .hbm => 5
  | .vmem => 11
  | .smem => 0
  | _ => 0

abbrev bufTy : (tb : Table) → Fin (tcTables nBuf tb) → BufTy
  | .hbm, ⟨0, _⟩ => ⟨S6144x14336, .bf16⟩
  | .hbm, ⟨1, _⟩ => ⟨S4096x14336, .bf16⟩
  | .hbm, ⟨2, _⟩ => ⟨S6144x4096, .bf16⟩
  | .hbm, ⟨3, _⟩ => ⟨S6144x4096, .fp8e4m3⟩
  | .hbm, ⟨4, _⟩ => ⟨S6144x128, .i8⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .fp8e4m3⟩
  | .local _ .vmem, ⟨7, _⟩ => ⟨S512x4096, .fp8e4m3⟩
  | .local _ .vmem, ⟨8, _⟩ => ⟨S512x128, .i8⟩
  | .local _ .vmem, ⟨9, _⟩ => ⟨S512x128, .i8⟩
  | .local _ .vmem, ⟨10, _⟩ => ⟨S512x4096, .f32⟩
  | _, _ => ⟨S6144x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 14], ![false, false]⟩

def k0_cond2 (i : grid0.Coords) : BitVec 1 :=
  let arg1 : BitVec 32 := BitVec.ofNat 32 (i 1).val
  let c13_i32 : BitVec 32 := 13#32
  let v11 : BitVec 1 := Scalar.cmpi .eq arg1 c13_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c16_i32 : BitVec 32 := 16#32
  let v15 : BitVec 32 := Scalar.addi c0_i32_9 c16_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  v16
def k0_off1 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v18 : Index := Scalar.indexCast v17
  let c0_11 : Index := 0#32
  ![v18.toNat, 0]
def k0_off2 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12836 : Index := Scalar.indexCast v17
  let c0_4071 : Index := 0#32
  ![v12836.toNat, 0]
def k0_off3 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12840 : Index := Scalar.indexCast v17
  let c128 : Index := 128#32
  ![v12840.toNat, 128]
def k0_off4 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12844 : Index := Scalar.indexCast v17
  let c256 : Index := 256#32
  ![v12844.toNat, 256]
def k0_off5 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12848 : Index := Scalar.indexCast v17
  let c384 : Index := 384#32
  ![v12848.toNat, 384]
def k0_off6 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12852 : Index := Scalar.indexCast v17
  let c512 : Index := 512#32
  ![v12852.toNat, 512]
def k0_off7 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12856 : Index := Scalar.indexCast v17
  let c640 : Index := 640#32
  ![v12856.toNat, 640]
def k0_off8 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12860 : Index := Scalar.indexCast v17
  let c768 : Index := 768#32
  ![v12860.toNat, 768]
def k0_off9 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12864 : Index := Scalar.indexCast v17
  let c896 : Index := 896#32
  ![v12864.toNat, 896]
def k0_off10 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12868 : Index := Scalar.indexCast v17
  let c1024 : Index := 1024#32
  ![v12868.toNat, 1024]
def k0_off11 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12872 : Index := Scalar.indexCast v17
  let c1152 : Index := 1152#32
  ![v12872.toNat, 1152]
def k0_off12 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12876 : Index := Scalar.indexCast v17
  let c1280 : Index := 1280#32
  ![v12876.toNat, 1280]
def k0_off13 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12880 : Index := Scalar.indexCast v17
  let c1408 : Index := 1408#32
  ![v12880.toNat, 1408]
def k0_off14 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12884 : Index := Scalar.indexCast v17
  let c1536 : Index := 1536#32
  ![v12884.toNat, 1536]
def k0_off15 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12888 : Index := Scalar.indexCast v17
  let c1664 : Index := 1664#32
  ![v12888.toNat, 1664]
def k0_off16 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12892 : Index := Scalar.indexCast v17
  let c1792 : Index := 1792#32
  ![v12892.toNat, 1792]
def k0_off17 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12896 : Index := Scalar.indexCast v17
  let c1920 : Index := 1920#32
  ![v12896.toNat, 1920]
def k0_off18 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12900 : Index := Scalar.indexCast v17
  let c2048 : Index := 2048#32
  ![v12900.toNat, 2048]
def k0_off19 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12904 : Index := Scalar.indexCast v17
  let c2176 : Index := 2176#32
  ![v12904.toNat, 2176]
def k0_off20 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12908 : Index := Scalar.indexCast v17
  let c2304 : Index := 2304#32
  ![v12908.toNat, 2304]
def k0_off21 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12912 : Index := Scalar.indexCast v17
  let c2432 : Index := 2432#32
  ![v12912.toNat, 2432]
def k0_off22 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12916 : Index := Scalar.indexCast v17
  let c2560 : Index := 2560#32
  ![v12916.toNat, 2560]
def k0_off23 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12920 : Index := Scalar.indexCast v17
  let c2688 : Index := 2688#32
  ![v12920.toNat, 2688]
def k0_off24 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12924 : Index := Scalar.indexCast v17
  let c2816 : Index := 2816#32
  ![v12924.toNat, 2816]
def k0_off25 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12928 : Index := Scalar.indexCast v17
  let c2944 : Index := 2944#32
  ![v12928.toNat, 2944]
def k0_off26 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12932 : Index := Scalar.indexCast v17
  let c3072 : Index := 3072#32
  ![v12932.toNat, 3072]
def k0_off27 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12936 : Index := Scalar.indexCast v17
  let c3200 : Index := 3200#32
  ![v12936.toNat, 3200]
def k0_off28 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12940 : Index := Scalar.indexCast v17
  let c3328 : Index := 3328#32
  ![v12940.toNat, 3328]
def k0_off29 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12944 : Index := Scalar.indexCast v17
  let c3456 : Index := 3456#32
  ![v12944.toNat, 3456]
def k0_off30 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12948 : Index := Scalar.indexCast v17
  let c3584 : Index := 3584#32
  ![v12948.toNat, 3584]
def k0_off31 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12952 : Index := Scalar.indexCast v17
  let c3712 : Index := 3712#32
  ![v12952.toNat, 3712]
def k0_off32 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12956 : Index := Scalar.indexCast v17
  let c3840 : Index := 3840#32
  ![v12956.toNat, 3840]
def k0_off33 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12960 : Index := Scalar.indexCast v17
  let c3968 : Index := 3968#32
  ![v12960.toNat, 3968]
def k0_off34 (k0_t1 : Fin k0_t1_loop.trips) : Fin 2 → Nat :=
  let c0_i32_9 : BitVec 32 := 0#32
  let c1_i32 : BitVec 32 := 1#32
  let arg8 : BitVec 32 := Scf.iv c0_i32_9 c1_i32 k0_t1
  let c32_i32 : BitVec 32 := 32#32
  let v16 : BitVec 32 := Scalar.muli arg8 c32_i32
  let v17 : BitVec 32 := v16
  let v12964 : Index := Scalar.indexCast v17
  let c0_4072 : Index := 0#32
  ![v12964.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DxReferenceIdeal.lean ====
abbrev S6144x14336 : Shape := ⟨2, ![6144, 14336]⟩
abbrev S4096x14336 : Shape := ⟨2, ![4096, 14336]⟩
abbrev S6144x4096 : Shape := ⟨2, ![6144, 4096]⟩
abbrev S6144x128 : Shape := ⟨2, ![6144, 128]⟩
abbrev S6144x128x32 : Shape := ⟨3, ![6144, 128, 32]⟩
abbrev S6144x128x1 : Shape := ⟨3, ![6144, 128, 1]⟩

abbrev nBuf : Space → Nat
  | .hbm => 5
  | .vmem => 5
  | .smem => 0
  | _ => 0

abbrev bufTy : (tb : Table) → Fin (tcTables nBuf tb) → BufTy
  | .hbm, ⟨0, _⟩ => ⟨S6144x14336, .bf16⟩
  | .hbm, ⟨1, _⟩ => ⟨S4096x14336, .bf16⟩
  | .hbm, ⟨2, _⟩ => ⟨S6144x4096, .bf16⟩
  | .hbm, ⟨3, _⟩ => ⟨S6144x4096, .fp8e4m3⟩
  | .hbm, ⟨4, _⟩ => ⟨S6144x128, .i8⟩
  | .local _ .vmem, ⟨0, _⟩ => ⟨S6144x14336, .bf16⟩
  | .local _ .vmem, ⟨1, _⟩ => ⟨S4096x14336, .bf16⟩
  | .local _ .vmem, ⟨2, _⟩ => ⟨S6144x4096, .bf16⟩
  | .local _ .vmem, ⟨3, _⟩ => ⟨S6144x4096, .fp8e4m3⟩
  | .local _ .vmem, ⟨4, _⟩ => ⟨S6144x128, .i8⟩
  | _, _ => ⟨S6144x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14336 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwKernel.lean ====
abbrev S6144x4096 : Shape := ⟨2, ![6144, 4096]⟩
abbrev S6144x14336 : Shape := ⟨2, ![6144, 14336]⟩
abbrev S4096x14336 : Shape := ⟨2, ![4096, 14336]⟩
abbrev S6144x512 : Shape := ⟨2, ![6144, 512]⟩
abbrev S6144x1024 : Shape := ⟨2, ![6144, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S6144x4096, .bf16⟩
  | .hbm, ⟨1, _⟩ => ⟨S6144x14336, .bf16⟩
  | .hbm, ⟨2, _⟩ => ⟨S4096x14336, .f32⟩
  | .local _ .vmem, ⟨0, _⟩ => ⟨S6144x512, .bf16⟩
  | .local _ .vmem, ⟨1, _⟩ => ⟨S6144x512, .bf16⟩
  | .local _ .vmem, ⟨2, _⟩ => ⟨S6144x1024, .bf16⟩
  | .local _ .vmem, ⟨3, _⟩ => ⟨S6144x1024, .bf16⟩
  | .local _ .vmem, ⟨4, _⟩ => ⟨S512x1024, .f32⟩
  | .local _ .vmem, ⟨5, _⟩ => ⟨S512x1024, .f32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![14, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S6144x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwReferenceIdeal.lean ====
abbrev S6144x4096 : Shape := ⟨2, ![6144, 4096]⟩
abbrev S6144x14336 : Shape := ⟨2, ![6144, 14336]⟩
abbrev S4096x14336 : Shape := ⟨2, ![4096, 14336]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S6144x14336, .bf16⟩
  | .hbm, ⟨2, _⟩ => ⟨S4096x14336, .f32⟩
  | .hbm, ⟨3, _⟩ => ⟨S_, .f32⟩
  | .hbm, ⟨4, _⟩ => ⟨S4096x14336, .f32⟩
  | .hbm, ⟨5, _⟩ => ⟨S4096x14336, .f32⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QtKernel.lean ====
abbrev S6144x4096 : Shape := ⟨2, ![6144, 4096]⟩
abbrev S6144 : Shape := ⟨1, ![6144]⟩
abbrev S256x256 : Shape := ⟨2, ![256, 256]⟩
abbrev S_ : Shape := ⟨0, ![]⟩
abbrev S1x6144 : Shape := ⟨2, ![1, 6144]⟩
abbrev S3072x4096 : Shape := ⟨2, ![3072, 4096]⟩
abbrev S192x4096 : Shape := ⟨2, ![192, 4096]⟩
abbrev S1024x1024 : Shape := ⟨2, ![1024, 1024]⟩
abbrev S1x1024 : Shape := ⟨2, ![1, 1024]⟩
abbrev S512x1024 : Shape := ⟨2, ![512, 1024]⟩
abbrev S32x1024 : Shape := ⟨2, ![32, 1024]⟩
abbrev S256x1024 : Shape := ⟨2, ![256, 1024]⟩
abbrev S16x128 : Shape := ⟨2, ![16, 128]⟩
abbrev S64x128 : Shape := ⟨2, ![64, 128]⟩
abbrev S32x128 : Shape := ⟨2, ![32, 128]⟩
abbrev S1x256 : Shape := ⟨2, ![1, 256]⟩
abbrev S256x128 : Shape := ⟨2, ![256, 128]⟩
abbrev S8x128 : Shape := ⟨2, ![8, 128]⟩
abbrev S128x128 : Shape := ⟨2, ![128, 128]⟩

abbrev nBuf : Space → Nat
  | .hbm => 39
  | .vmem => 18
  | .smem => 0
  | _ => 0

abbrev bufTy : (tb : Table) → Fin (tcTables nBuf tb) → BufTy
  | .hbm, ⟨0, _⟩ => ⟨S6144x4096, .bf16⟩
  | .hbm, ⟨1, _⟩ => ⟨S6144x4096, .i8⟩
  | .hbm, ⟨2, _⟩ => ⟨S6144, .f32⟩
  | .hbm, ⟨3, _⟩ => ⟨S256x256, .i32⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S_, .i32⟩
  | .hbm, ⟨21, _⟩ => ⟨S256x256, .i32⟩
  | .hbm, ⟨22, _⟩ => ⟨S256x256, .i32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S1x6144, .f32⟩
  | .hbm, ⟨36, _⟩ => ⟨S3072x4096, .i8⟩
  | .hbm, ⟨37, _⟩ => ⟨S192x4096, .i8⟩
  | .hbm, ⟨38, _⟩ => ⟨S6144x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .i8⟩
  | .local _ .vmem, ⟨3, _⟩ => ⟨S1024x1024, .i8⟩
  | .local _ .vmem, ⟨4, _⟩ => ⟨S1x1024, .f32⟩
  | .local _ .vmem, ⟨5, _⟩ => ⟨S1x1024, .f32⟩
  | .local _ .vmem, ⟨6, _⟩ => ⟨S256x256, .bf16⟩
  | .local _ .vmem, ⟨7, _⟩ => ⟨S512x1024, .i8⟩
  | .local _ .vmem, ⟨8, _⟩ => ⟨S512x1024, .i8⟩
  | .local _ .vmem, ⟨9, _⟩ => ⟨S32x1024, .i8⟩
  | .local _ .vmem, ⟨10, _⟩ => ⟨S32x1024, .i8⟩
  | .local _ .vmem, ⟨11, _⟩ => ⟨S1024x1024, .bf16⟩
  | .local _ .vmem, ⟨12, _⟩ => ⟨S1024x1024, .bf16⟩
  | .local _ .vmem, ⟨13, _⟩ => ⟨S256x1024, .f32⟩
  | .local _ .vmem, ⟨14, _⟩ => ⟨S16x128, .i32⟩
  | .local _ .vmem, ⟨15, _⟩ => ⟨S64x128, .i32⟩
  | .local _ .vmem, ⟨16, _⟩ => ⟨S32x128, .i32⟩
  | .local _ .vmem, ⟨17, _⟩ => ⟨S32x1024, .i32⟩
  | _, _ => ⟨S6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![6, 4], ![false, false]⟩

@[reducible] def k0_t1_loop : Scf.Loop 32 :=
  let c0_i32 : BitVec 32 := 0#32
  let c8_i32 : BitVec 32 := 8#32
  let v12 : BitVec 32 := Scalar.addi c0_i32 c8_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  v55
def k0_off1 (k0_t1 : Fin k0_t1_loop.trips) : Fin 2 → Nat :=
  let c0_48 : Index := 0#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v57 : Index := Scalar.indexCast v56
  ![0, v57.toNat]
def k0_off2 (k0_t1 : Fin k0_t1_loop.trips) : Fin 2 → Nat :=
  let c0_51 : Index := 0#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v63 : Index := Scalar.indexCast v56
  ![0, v63.toNat]
def k0_off3 (k0_t1 : Fin k0_t1_loop.trips) : Fin 2 → Nat :=
  let c8 : Index := 8#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v66 : Index := Scalar.indexCast v56
  ![8, v66.toNat]
def k0_off4 (k0_t1 : Fin k0_t1_loop.trips) : Fin 2 → Nat :=
  let c16 : Index := 16#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v69 : Index := Scalar.indexCast v56
  ![16, v69.toNat]
def k0_off5 (k0_t1 : Fin k0_t1_loop.trips) : Fin 2 → Nat :=
  let c24 : Index := 24#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v72 : Index := Scalar.indexCast v56
  ![24, v72.toNat]
def k0_off6 (k0_t1 : Fin k0_t1_loop.trips) : Fin 2 → Nat :=
  let c32 : Index := 32#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v75 : Index := Scalar.indexCast v56
  ![32, v75.toNat]
def k0_off7 (k0_t1 : Fin k0_t1_loop.trips) : Fin 2 → Nat :=
  let c40 : Index := 40#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v78 : Index := Scalar.indexCast v56
  ![40, v78.toNat]
def k0_off8 (k0_t1 : Fin k0_t1_loop.trips) : Fin 2 → Nat :=
  let c48 : Index := 48#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v81 : Index := Scalar.indexCast v56
  ![48, v81.toNat]
def k0_off9 (k0_t1 : Fin k0_t1_loop.trips) : Fin 2 → Nat :=
  let c56 : Index := 56#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v84 : Index := Scalar.indexCast v56
  ![56, v84.toNat]
def k0_off10 (k0_t1 : Fin k0_t1_loop.trips) : Fin 2 → Nat :=
  let c64 : Index := 64#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v87 : Index := Scalar.indexCast v56
  ![64, v87.toNat]
def k0_off11 (k0_t1 : Fin k0_t1_loop.trips) : Fin 2 → Nat :=
  let c72 : Index := 72#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v90 : Index := Scalar.indexCast v56
  ![72, v90.toNat]
def k0_off12 (k0_t1 : Fin k0_t1_loop.trips) : Fin 2 → Nat :=
  let c80 : Index := 80#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v93 : Index := Scalar.indexCast v56
  ![80, v93.toNat]
def k0_off13 (k0_t1 : Fin k0_t1_loop.trips) : Fin 2 → Nat :=
  let c88 : Index := 88#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v96 : Index := Scalar.indexCast v56
  ![88, v96.toNat]
def k0_off14 (k0_t1 : Fin k0_t1_loop.trips) : Fin 2 → Nat :=
  let c96 : Index := 96#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v99 : Index := Scalar.indexCast v56
  ![96, v99.toNat]
def k0_off15 (k0_t1 : Fin k0_t1_loop.trips) : Fin 2 → Nat :=
  let c104 : Index := 104#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v102 : Index := Scalar.indexCast v56
  ![104, v102.toNat]
def k0_off16 (k0_t1 : Fin k0_t1_loop.trips) : Fin 2 → Nat :=
  let c112 : Index := 112#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v105 : Index := Scalar.indexCast v56
  ![112, v105.toNat]
def k0_off17 (k0_t1 : Fin k0_t1_loop.trips) : Fin 2 → Nat :=
  let c120 : Index := 120#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v108 : Index := Scalar.indexCast v56
  ![120, v108.toNat]
def k0_off18 (k0_t1 : Fin k0_t1_loop.trips) : Fin 2 → Nat :=
  let c128 : Index := 128#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v111 : Index := Scalar.indexCast v56
  ![128, v111.toNat]
def k0_off19 (k0_t1 : Fin k0_t1_loop.trips) : Fin 2 → Nat :=
  let c136 : Index := 136#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v114 : Index := Scalar.indexCast v56
  ![136, v114.toNat]
def k0_off20 (k0_t1 : Fin k0_t1_loop.trips) : Fin 2 → Nat :=
  let c144 : Index := 144#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v117 : Index := Scalar.indexCast v56
  ![144, v117.toNat]
def k0_off21 (k0_t1 : Fin k0_t1_loop.trips) : Fin 2 → Nat :=
  let c152 : Index := 152#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v120 : Index := Scalar.indexCast v56
  ![152, v120.toNat]
def k0_off22 (k0_t1 : Fin k0_t1_loop.trips) : Fin 2 → Nat :=
  let c160 : Index := 160#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v123 : Index := Scalar.indexCast v56
  ![160, v123.toNat]
def k0_off23 (k0_t1 : Fin k0_t1_loop.trips) : Fin 2 → Nat :=
  let c168 : Index := 168#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v126 : Index := Scalar.indexCast v56
  ![168, v126.toNat]
def k0_off24 (k0_t1 : Fin k0_t1_loop.trips) : Fin 2 → Nat :=
  let c176 : Index := 176#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v129 : Index := Scalar.indexCast v56
  ![176, v129.toNat]
def k0_off25 (k0_t1 : Fin k0_t1_loop.trips) : Fin 2 → Nat :=
  let c184 : Index := 184#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v132 : Index := Scalar.indexCast v56
  ![184, v132.toNat]
def k0_off26 (k0_t1 : Fin k0_t1_loop.trips) : Fin 2 → Nat :=
  let c192 : Index := 192#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v135 : Index := Scalar.indexCast v56
  ![192, v135.toNat]
def k0_off27 (k0_t1 : Fin k0_t1_loop.trips) : Fin 2 → Nat :=
  let c200 : Index := 200#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v138 : Index := Scalar.indexCast v56
  ![200, v138.toNat]
def k0_off28 (k0_t1 : Fin k0_t1_loop.trips) : Fin 2 → Nat :=
  let c208 : Index := 208#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v141 : Index := Scalar.indexCast v56
  ![208, v141.toNat]
def k0_off29 (k0_t1 : Fin k0_t1_loop.trips) : Fin 2 → Nat :=
  let c216 : Index := 216#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v144 : Index := Scalar.indexCast v56
  ![216, v144.toNat]
def k0_off30 (k0_t1 : Fin k0_t1_loop.trips) : Fin 2 → Nat :=
  let c224 : Index := 224#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v147 : Index := Scalar.indexCast v56
  ![224, v147.toNat]
def k0_off31 (k0_t1 : Fin k0_t1_loop.trips) : Fin 2 → Nat :=
  let c232 : Index := 232#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v150 : Index := Scalar.indexCast v56
  ![232, v150.toNat]
def k0_off32 (k0_t1 : Fin k0_t1_loop.trips) : Fin 2 → Nat :=
  let c240 : Index := 240#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v153 : Index := Scalar.indexCast v56
  ![240, v153.toNat]
def k0_off33 (k0_t1 : Fin k0_t1_loop.trips) : Fin 2 → Nat :=
  let c248 : Index := 248#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v156 : Index := Scalar.indexCast v56
  ![248, v156.toNat]
def k0_off34 (k0_t1 : Fin k0_t1_loop.trips) : Fin 2 → Nat :=
  let c0_891 : Index := 0#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3025 : Index := Scalar.indexCast v56
  ![0, v3025.toNat]
def k0_off35 (k0_t1 : Fin k0_t1_loop.trips) : Fin 2 → Nat :=
  let c0_892 : Index := 0#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3027 : Index := Scalar.indexCast v56
  ![0, v3027.toNat]
def k0_off36 (k0_t1 : Fin k0_t1_loop.trips) : Fin 2 → Nat :=
  let c0_893 : Index := 0#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3031 : Index := Scalar.indexCast v56
  ![0, v3031.toNat]
def k0_off37 (k0_t1 : Fin k0_t1_loop.trips) : Fin 2 → Nat :=
  let c32_894 : Index := 32#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3033 : Index := Scalar.indexCast v56
  ![32, v3033.toNat]
def k0_off38 (k0_t1 : Fin k0_t1_loop.trips) : Fin 2 → Nat :=
  let c64_895 : Index := 64#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3035 : Index := Scalar.indexCast v56
  ![64, v3035.toNat]
def k0_off39 (k0_t1 : Fin k0_t1_loop.trips) : Fin 2 → Nat :=
  let c96_896 : Index := 96#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3037 : Index := Scalar.indexCast v56
  ![96, v3037.toNat]
def k0_off40 (k0_t1 : Fin k0_t1_loop.trips) : Fin 2 → Nat :=
  let c128_897 : Index := 128#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3039 : Index := Scalar.indexCast v56
  ![128, v3039.toNat]
def k0_off41 (k0_t1 : Fin k0_t1_loop.trips) : Fin 2 → Nat :=
  let c160_898 : Index := 160#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3041 : Index := Scalar.indexCast v56
  ![160, v3041.toNat]
def k0_off42 (k0_t1 : Fin k0_t1_loop.trips) : Fin 2 → Nat :=
  let c192_899 : Index := 192#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3043 : Index := Scalar.indexCast v56
  ![192, v3043.toNat]
def k0_off43 (k0_t1 : Fin k0_t1_loop.trips) : Fin 2 → Nat :=
  let c224_900 : Index := 224#32
  let c0_i32 : BitVec 32 := 0#32
  let c1_i32 : BitVec 32 := 1#32
  let arg14 : BitVec 32 := Scf.iv c0_i32 c1_i32 k0_t1
  let c128_i32 : BitVec 32 := 128#32
  let v55 : BitVec 32 := Scalar.muli arg14 c128_i32
  let v56 : BitVec 32 := v55
  let v3045 : Index := Scalar.indexCast v56
  ![224, v3045.toNat]
@[reducible] def k0_t2_loop : Scf.Loop 32 :=
  let c0_i32_16 : BitVec 32 := 0#32
  let c8_i32_17 : BitVec 32 := 8#32
  let v25 : BitVec 32 := Scalar.addi c0_i32_16 c8_i32_17
  let c1_i32_18 : BitVec 32 := 1#32
  ⟨c0_i32_16, v25, c1_i32_18⟩
def k0_mult2 (k0_t2 : Fin k0_t2_loop.trips) : BitVec 32 :=
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  v55
def k0_off44 (k0_t2 : Fin k0_t2_loop.trips) : Fin 2 → Nat :=
  let c256_48 : Index := 256#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v57 : Index := Scalar.indexCast v56
  ![256, v57.toNat]
def k0_off45 (k0_t2 : Fin k0_t2_loop.trips) : Fin 2 → Nat :=
  let c0_51 : Index := 0#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v63 : Index := Scalar.indexCast v56
  ![0, v63.toNat]
def k0_off46 (k0_t2 : Fin k0_t2_loop.trips) : Fin 2 → Nat :=
  let c8 : Index := 8#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v66 : Index := Scalar.indexCast v56
  ![8, v66.toNat]
def k0_off47 (k0_t2 : Fin k0_t2_loop.trips) : Fin 2 → Nat :=
  let c16 : Index := 16#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v69 : Index := Scalar.indexCast v56
  ![16, v69.toNat]
def k0_off48 (k0_t2 : Fin k0_t2_loop.trips) : Fin 2 → Nat :=
  let c24 : Index := 24#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v72 : Index := Scalar.indexCast v56
  ![24, v72.toNat]
def k0_off49 (k0_t2 : Fin k0_t2_loop.trips) : Fin 2 → Nat :=
  let c32 : Index := 32#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v75 : Index := Scalar.indexCast v56
  ![32, v75.toNat]
def k0_off50 (k0_t2 : Fin k0_t2_loop.trips) : Fin 2 → Nat :=
  let c40 : Index := 40#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v78 : Index := Scalar.indexCast v56
  ![40, v78.toNat]
def k0_off51 (k0_t2 : Fin k0_t2_loop.trips) : Fin 2 → Nat :=
  let c48 : Index := 48#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v81 : Index := Scalar.indexCast v56
  ![48, v81.toNat]
def k0_off52 (k0_t2 : Fin k0_t2_loop.trips) : Fin 2 → Nat :=
  let c56 : Index := 56#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v84 : Index := Scalar.indexCast v56
  ![56, v84.toNat]
def k0_off53 (k0_t2 : Fin k0_t2_loop.trips) : Fin 2 → Nat :=
  let c64 : Index := 64#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v87 : Index := Scalar.indexCast v56
  ![64, v87.toNat]
def k0_off54 (k0_t2 : Fin k0_t2_loop.trips) : Fin 2 → Nat :=
  let c72 : Index := 72#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v90 : Index := Scalar.indexCast v56
  ![72, v90.toNat]
def k0_off55 (k0_t2 : Fin k0_t2_loop.trips) : Fin 2 → Nat :=
  let c80 : Index := 80#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v93 : Index := Scalar.indexCast v56
  ![80, v93.toNat]
def k0_off56 (k0_t2 : Fin k0_t2_loop.trips) : Fin 2 → Nat :=
  let c88 : Index := 88#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v96 : Index := Scalar.indexCast v56
  ![88, v96.toNat]
def k0_off57 (k0_t2 : Fin k0_t2_loop.trips) : Fin 2 → Nat :=
  let c96 : Index := 96#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v99 : Index := Scalar.indexCast v56
  ![96, v99.toNat]
def k0_off58 (k0_t2 : Fin k0_t2_loop.trips) : Fin 2 → Nat :=
  let c104 : Index := 104#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v102 : Index := Scalar.indexCast v56
  ![104, v102.toNat]
def k0_off59 (k0_t2 : Fin k0_t2_loop.trips) : Fin 2 → Nat :=
  let c112 : Index := 112#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v105 : Index := Scalar.indexCast v56
  ![112, v105.toNat]
def k0_off60 (k0_t2 : Fin k0_t2_loop.trips) : Fin 2 → Nat :=
  let c120 : Index := 120#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v108 : Index := Scalar.indexCast v56
  ![120, v108.toNat]
def k0_off61 (k0_t2 : Fin k0_t2_loop.trips) : Fin 2 → Nat :=
  let c128 : Index := 128#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v111 : Index := Scalar.indexCast v56
  ![128, v111.toNat]
def k0_off62 (k0_t2 : Fin k0_t2_loop.trips) : Fin 2 → Nat :=
  let c136 : Index := 136#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v114 : Index := Scalar.indexCast v56
  ![136, v114.toNat]
def k0_off63 (k0_t2 : Fin k0_t2_loop.trips) : Fin 2 → Nat :=
  let c144 : Index := 144#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v117 : Index := Scalar.indexCast v56
  ![144, v117.toNat]
def k0_off64 (k0_t2 : Fin k0_t2_loop.trips) : Fin 2 → Nat :=
  let c152 : Index := 152#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v120 : Index := Scalar.indexCast v56
  ![152, v120.toNat]
def k0_off65 (k0_t2 : Fin k0_t2_loop.trips) : Fin 2 → Nat :=
  let c160 : Index := 160#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v123 : Index := Scalar.indexCast v56
  ![160, v123.toNat]
def k0_off66 (k0_t2 : Fin k0_t2_loop.trips) : Fin 2 → Nat :=
  let c168 : Index := 168#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v126 : Index := Scalar.indexCast v56
  ![168, v126.toNat]
def k0_off67 (k0_t2 : Fin k0_t2_loop.trips) : Fin 2 → Nat :=
  let c176 : Index := 176#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v129 : Index := Scalar.indexCast v56
  ![176, v129.toNat]
def k0_off68 (k0_t2 : Fin k0_t2_loop.trips) : Fin 2 → Nat :=
  let c184 : Index := 184#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v132 : Index := Scalar.indexCast v56
  ![184, v132.toNat]
def k0_off69 (k0_t2 : Fin k0_t2_loop.trips) : Fin 2 → Nat :=
  let c192 : Index := 192#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v135 : Index := Scalar.indexCast v56
  ![192, v135.toNat]
def k0_off70 (k0_t2 : Fin k0_t2_loop.trips) : Fin 2 → Nat :=
  let c200 : Index := 200#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v138 : Index := Scalar.indexCast v56
  ![200, v138.toNat]
def k0_off71 (k0_t2 : Fin k0_t2_loop.trips) : Fin 2 → Nat :=
  let c208 : Index := 208#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v141 : Index := Scalar.indexCast v56
  ![208, v141.toNat]
def k0_off72 (k0_t2 : Fin k0_t2_loop.trips) : Fin 2 → Nat :=
  let c216 : Index := 216#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v144 : Index := Scalar.indexCast v56
  ![216, v144.toNat]
def k0_off73 (k0_t2 : Fin k0_t2_loop.trips) : Fin 2 → Nat :=
  let c224 : Index := 224#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v147 : Index := Scalar.indexCast v56
  ![224, v147.toNat]
def k0_off74 (k0_t2 : Fin k0_t2_loop.trips) : Fin 2 → Nat :=
  let c232 : Index := 232#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v150 : Index := Scalar.indexCast v56
  ![232, v150.toNat]
def k0_off75 (k0_t2 : Fin k0_t2_loop.trips) : Fin 2 → Nat :=
  let c240 : Index := 240#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v153 : Index := Scalar.indexCast v56
  ![240, v153.toNat]
def k0_off76 (k0_t2 : Fin k0_t2_loop.trips) : Fin 2 → Nat :=
  let c248 : Index := 248#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v156 : Index := Scalar.indexCast v56
  ![248, v156.toNat]
def k0_off77 (k0_t2 : Fin k0_t2_loop.trips) : Fin 2 → Nat :=
  let c128_891 : Index := 128#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3025 : Index := Scalar.indexCast v56
  ![128, v3025.toNat]
def k0_off78 (k0_t2 : Fin k0_t2_loop.trips) : Fin 2 → Nat :=
  let c8_892 : Index := 8#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3027 : Index := Scalar.indexCast v56
  ![8, v3027.toNat]
def k0_off79 (k0_t2 : Fin k0_t2_loop.trips) : Fin 2 → Nat :=
  let c256_893 : Index := 256#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3031 : Index := Scalar.indexCast v56
  ![256, v3031.toNat]
def k0_off80 (k0_t2 : Fin k0_t2_loop.trips) : Fin 2 → Nat :=
  let c288 : Index := 288#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3033 : Index := Scalar.indexCast v56
  ![288, v3033.toNat]
def k0_off81 (k0_t2 : Fin k0_t2_loop.trips) : Fin 2 → Nat :=
  let c320 : Index := 320#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3035 : Index := Scalar.indexCast v56
  ![320, v3035.toNat]
def k0_off82 (k0_t2 : Fin k0_t2_loop.trips) : Fin 2 → Nat :=
  let c352 : Index := 352#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3037 : Index := Scalar.indexCast v56
  ![352, v3037.toNat]
def k0_off83 (k0_t2 : Fin k0_t2_loop.trips) : Fin 2 → Nat :=
  let c384 : Index := 384#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3039 : Index := Scalar.indexCast v56
  ![384, v3039.toNat]
def k0_off84 (k0_t2 : Fin k0_t2_loop.trips) : Fin 2 → Nat :=
  let c416 : Index := 416#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3041 : Index := Scalar.indexCast v56
  ![416, v3041.toNat]
def k0_off85 (k0_t2 : Fin k0_t2_loop.trips) : Fin 2 → Nat :=
  let c448 : Index := 448#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3043 : Index := Scalar.indexCast v56
  ![448, v3043.toNat]
def k0_off86 (k0_t2 : Fin k0_t2_loop.trips) : Fin 2 → Nat :=
  let c480 : Index := 480#32
  let c0_i32_16 : BitVec 32 := 0#32
  let c1_i32_18 : BitVec 32 := 1#32
  let arg14 : BitVec 32 := Scf.iv c0_i32_16 c1_i32_18 k0_t2
  let c128_i32 : BitVec 32 := 128#32
  let v55 : BitVec 32 := Scalar.muli arg14 c128_i32
  let v56 : BitVec 32 := v55
  let v3045 : Index := Scalar.indexCast v56
  ![480, v3045.toNat]
@[reducible] def k0_t3_loop : Scf.Loop 32 :=
  let c0_i32_28 : BitVec 32 := 0#32
  let c8_i32_29 : BitVec 32 := 8#32
  let v38 : BitVec 32 := Scalar.addi c0_i32_28 c8_i32_29
  let c1_i32_30 : BitVec 32 := 1#32
  ⟨c0_i32_28, v38, c1_i32_30⟩
def k0_mult3 (k0_t3 : Fin k0_t3_loop.trips) : BitVec 32 :=
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  v55
def k0_off87 (k0_t3 : Fin k0_t3_loop.trips) : Fin 2 → Nat :=
  let c512_48 : Index := 512#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v57 : Index := Scalar.indexCast v56
  ![512, v57.toNat]
def k0_off88 (k0_t3 : Fin k0_t3_loop.trips) : Fin 2 → Nat :=
  let c0_51 : Index := 0#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v63 : Index := Scalar.indexCast v56
  ![0, v63.toNat]
def k0_off89 (k0_t3 : Fin k0_t3_loop.trips) : Fin 2 → Nat :=
  let c8 : Index := 8#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v66 : Index := Scalar.indexCast v56
  ![8, v66.toNat]
def k0_off90 (k0_t3 : Fin k0_t3_loop.trips) : Fin 2 → Nat :=
  let c16 : Index := 16#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v69 : Index := Scalar.indexCast v56
  ![16, v69.toNat]
def k0_off91 (k0_t3 : Fin k0_t3_loop.trips) : Fin 2 → Nat :=
  let c24 : Index := 24#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v72 : Index := Scalar.indexCast v56
  ![24, v72.toNat]
def k0_off92 (k0_t3 : Fin k0_t3_loop.trips) : Fin 2 → Nat :=
  let c32 : Index := 32#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v75 : Index := Scalar.indexCast v56
  ![32, v75.toNat]
def k0_off93 (k0_t3 : Fin k0_t3_loop.trips) : Fin 2 → Nat :=
  let c40 : Index := 40#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v78 : Index := Scalar.indexCast v56
  ![40, v78.toNat]
def k0_off94 (k0_t3 : Fin k0_t3_loop.trips) : Fin 2 → Nat :=
  let c48 : Index := 48#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v81 : Index := Scalar.indexCast v56
  ![48, v81.toNat]
def k0_off95 (k0_t3 : Fin k0_t3_loop.trips) : Fin 2 → Nat :=
  let c56 : Index := 56#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v84 : Index := Scalar.indexCast v56
  ![56, v84.toNat]
def k0_off96 (k0_t3 : Fin k0_t3_loop.trips) : Fin 2 → Nat :=
  let c64 : Index := 64#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v87 : Index := Scalar.indexCast v56
  ![64, v87.toNat]
def k0_off97 (k0_t3 : Fin k0_t3_loop.trips) : Fin 2 → Nat :=
  let c72 : Index := 72#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v90 : Index := Scalar.indexCast v56
  ![72, v90.toNat]
def k0_off98 (k0_t3 : Fin k0_t3_loop.trips) : Fin 2 → Nat :=
  let c80 : Index := 80#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v93 : Index := Scalar.indexCast v56
  ![80, v93.toNat]
def k0_off99 (k0_t3 : Fin k0_t3_loop.trips) : Fin 2 → Nat :=
  let c88 : Index := 88#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v96 : Index := Scalar.indexCast v56
  ![88, v96.toNat]
def k0_off100 (k0_t3 : Fin k0_t3_loop.trips) : Fin 2 → Nat :=
  let c96 : Index := 96#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v99 : Index := Scalar.indexCast v56
  ![96, v99.toNat]
def k0_off101 (k0_t3 : Fin k0_t3_loop.trips) : Fin 2 → Nat :=
  let c104 : Index := 104#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v102 : Index := Scalar.indexCast v56
  ![104, v102.toNat]
def k0_off102 (k0_t3 : Fin k0_t3_loop.trips) : Fin 2 → Nat :=
  let c112 : Index := 112#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v105 : Index := Scalar.indexCast v56
  ![112, v105.toNat]
def k0_off103 (k0_t3 : Fin k0_t3_loop.trips) : Fin 2 → Nat :=
  let c120 : Index := 120#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v108 : Index := Scalar.indexCast v56
  ![120, v108.toNat]
def k0_off104 (k0_t3 : Fin k0_t3_loop.trips) : Fin 2 → Nat :=
  let c128 : Index := 128#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v111 : Index := Scalar.indexCast v56
  ![128, v111.toNat]
def k0_off105 (k0_t3 : Fin k0_t3_loop.trips) : Fin 2 → Nat :=
  let c136 : Index := 136#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v114 : Index := Scalar.indexCast v56
  ![136, v114.toNat]
def k0_off106 (k0_t3 : Fin k0_t3_loop.trips) : Fin 2 → Nat :=
  let c144 : Index := 144#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v117 : Index := Scalar.indexCast v56
  ![144, v117.toNat]
def k0_off107 (k0_t3 : Fin k0_t3_loop.trips) : Fin 2 → Nat :=
  let c152 : Index := 152#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v120 : Index := Scalar.indexCast v56
  ![152, v120.toNat]
def k0_off108 (k0_t3 : Fin k0_t3_loop.trips) : Fin 2 → Nat :=
  let c160 : Index := 160#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v123 : Index := Scalar.indexCast v56
  ![160, v123.toNat]
def k0_off109 (k0_t3 : Fin k0_t3_loop.trips) : Fin 2 → Nat :=
  let c168 : Index := 168#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v126 : Index := Scalar.indexCast v56
  ![168, v126.toNat]
def k0_off110 (k0_t3 : Fin k0_t3_loop.trips) : Fin 2 → Nat :=
  let c176 : Index := 176#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v129 : Index := Scalar.indexCast v56
  ![176, v129.toNat]
def k0_off111 (k0_t3 : Fin k0_t3_loop.trips) : Fin 2 → Nat :=
  let c184 : Index := 184#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v132 : Index := Scalar.indexCast v56
  ![184, v132.toNat]
def k0_off112 (k0_t3 : Fin k0_t3_loop.trips) : Fin 2 → Nat :=
  let c192 : Index := 192#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v135 : Index := Scalar.indexCast v56
  ![192, v135.toNat]
def k0_off113 (k0_t3 : Fin k0_t3_loop.trips) : Fin 2 → Nat :=
  let c200 : Index := 200#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v138 : Index := Scalar.indexCast v56
  ![200, v138.toNat]
def k0_off114 (k0_t3 : Fin k0_t3_loop.trips) : Fin 2 → Nat :=
  let c208 : Index := 208#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v141 : Index := Scalar.indexCast v56
  ![208, v141.toNat]
def k0_off115 (k0_t3 : Fin k0_t3_loop.trips) : Fin 2 → Nat :=
  let c216 : Index := 216#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v144 : Index := Scalar.indexCast v56
  ![216, v144.toNat]
def k0_off116 (k0_t3 : Fin k0_t3_loop.trips) : Fin 2 → Nat :=
  let c224 : Index := 224#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v147 : Index := Scalar.indexCast v56
  ![224, v147.toNat]
def k0_off117 (k0_t3 : Fin k0_t3_loop.trips) : Fin 2 → Nat :=
  let c232 : Index := 232#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v150 : Index := Scalar.indexCast v56
  ![232, v150.toNat]
def k0_off118 (k0_t3 : Fin k0_t3_loop.trips) : Fin 2 → Nat :=
  let c240 : Index := 240#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v153 : Index := Scalar.indexCast v56
  ![240, v153.toNat]
def k0_off119 (k0_t3 : Fin k0_t3_loop.trips) : Fin 2 → Nat :=
  let c248 : Index := 248#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v156 : Index := Scalar.indexCast v56
  ![248, v156.toNat]
def k0_off120 (k0_t3 : Fin k0_t3_loop.trips) : Fin 2 → Nat :=
  let c256_891 : Index := 256#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3025 : Index := Scalar.indexCast v56
  ![256, v3025.toNat]
def k0_off121 (k0_t3 : Fin k0_t3_loop.trips) : Fin 2 → Nat :=
  let c16_892 : Index := 16#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3027 : Index := Scalar.indexCast v56
  ![16, v3027.toNat]
def k0_off122 (k0_t3 : Fin k0_t3_loop.trips) : Fin 2 → Nat :=
  let c512_893 : Index := 512#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3031 : Index := Scalar.indexCast v56
  ![512, v3031.toNat]
def k0_off123 (k0_t3 : Fin k0_t3_loop.trips) : Fin 2 → Nat :=
  let c544 : Index := 544#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3033 : Index := Scalar.indexCast v56
  ![544, v3033.toNat]
def k0_off124 (k0_t3 : Fin k0_t3_loop.trips) : Fin 2 → Nat :=
  let c576 : Index := 576#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3035 : Index := Scalar.indexCast v56
  ![576, v3035.toNat]
def k0_off125 (k0_t3 : Fin k0_t3_loop.trips) : Fin 2 → Nat :=
  let c608 : Index := 608#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3037 : Index := Scalar.indexCast v56
  ![608, v3037.toNat]
def k0_off126 (k0_t3 : Fin k0_t3_loop.trips) : Fin 2 → Nat :=
  let c640 : Index := 640#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3039 : Index := Scalar.indexCast v56
  ![640, v3039.toNat]
def k0_off127 (k0_t3 : Fin k0_t3_loop.trips) : Fin 2 → Nat :=
  let c672 : Index := 672#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3041 : Index := Scalar.indexCast v56
  ![672, v3041.toNat]
def k0_off128 (k0_t3 : Fin k0_t3_loop.trips) : Fin 2 → Nat :=
  let c704 : Index := 704#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3043 : Index := Scalar.indexCast v56
  ![704, v3043.toNat]
def k0_off129 (k0_t3 : Fin k0_t3_loop.trips) : Fin 2 → Nat :=
  let c736 : Index := 736#32
  let c0_i32_28 : BitVec 32 := 0#32
  let c1_i32_30 : BitVec 32 := 1#32
  let arg14 : BitVec 32 := Scf.iv c0_i32_28 c1_i32_30 k0_t3
  let c128_i32 : BitVec 32 := 128#32
  let v55 : BitVec 32 := Scalar.muli arg14 c128_i32
  let v56 : BitVec 32 := v55
  let v3045 : Index := Scalar.indexCast v56
  ![736, v3045.toNat]
@[reducible] def k0_t4_loop : Scf.Loop 32 :=
  let c0_i32_40 : BitVec 32 := 0#32
  let c8_i32_41 : BitVec 32 := 8#32
  let v51 : BitVec 32 := Scalar.addi c0_i32_40 c8_i32_41
  let c1_i32_42 : BitVec 32 := 1#32
  ⟨c0_i32_40, v51, c1_i32_42⟩
def k0_mult4 (k0_t4 : Fin k0_t4_loop.trips) : BitVec 32 :=
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  v55
def k0_off130 (k0_t4 : Fin k0_t4_loop.trips) : Fin 2 → Nat :=
  let c768_48 : Index := 768#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v57 : Index := Scalar.indexCast v56
  ![768, v57.toNat]
def k0_off131 (k0_t4 : Fin k0_t4_loop.trips) : Fin 2 → Nat :=
  let c0_51 : Index := 0#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v63 : Index := Scalar.indexCast v56
  ![0, v63.toNat]
def k0_off132 (k0_t4 : Fin k0_t4_loop.trips) : Fin 2 → Nat :=
  let c8 : Index := 8#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v66 : Index := Scalar.indexCast v56
  ![8, v66.toNat]
def k0_off133 (k0_t4 : Fin k0_t4_loop.trips) : Fin 2 → Nat :=
  let c16 : Index := 16#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v69 : Index := Scalar.indexCast v56
  ![16, v69.toNat]
def k0_off134 (k0_t4 : Fin k0_t4_loop.trips) : Fin 2 → Nat :=
  let c24 : Index := 24#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v72 : Index := Scalar.indexCast v56
  ![24, v72.toNat]
def k0_off135 (k0_t4 : Fin k0_t4_loop.trips) : Fin 2 → Nat :=
  let c32 : Index := 32#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v75 : Index := Scalar.indexCast v56
  ![32, v75.toNat]
def k0_off136 (k0_t4 : Fin k0_t4_loop.trips) : Fin 2 → Nat :=
  let c40 : Index := 40#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v78 : Index := Scalar.indexCast v56
  ![40, v78.toNat]
def k0_off137 (k0_t4 : Fin k0_t4_loop.trips) : Fin 2 → Nat :=
  let c48 : Index := 48#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v81 : Index := Scalar.indexCast v56
  ![48, v81.toNat]
def k0_off138 (k0_t4 : Fin k0_t4_loop.trips) : Fin 2 → Nat :=
  let c56 : Index := 56#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v84 : Index := Scalar.indexCast v56
  ![56, v84.toNat]
def k0_off139 (k0_t4 : Fin k0_t4_loop.trips) : Fin 2 → Nat :=
  let c64 : Index := 64#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v87 : Index := Scalar.indexCast v56
  ![64, v87.toNat]
def k0_off140 (k0_t4 : Fin k0_t4_loop.trips) : Fin 2 → Nat :=
  let c72 : Index := 72#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v90 : Index := Scalar.indexCast v56
  ![72, v90.toNat]
def k0_off141 (k0_t4 : Fin k0_t4_loop.trips) : Fin 2 → Nat :=
  let c80 : Index := 80#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v93 : Index := Scalar.indexCast v56
  ![80, v93.toNat]
def k0_off142 (k0_t4 : Fin k0_t4_loop.trips) : Fin 2 → Nat :=
  let c88 : Index := 88#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v96 : Index := Scalar.indexCast v56
  ![88, v96.toNat]
def k0_off143 (k0_t4 : Fin k0_t4_loop.trips) : Fin 2 → Nat :=
  let c96 : Index := 96#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v99 : Index := Scalar.indexCast v56
  ![96, v99.toNat]
def k0_off144 (k0_t4 : Fin k0_t4_loop.trips) : Fin 2 → Nat :=
  let c104 : Index := 104#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v102 : Index := Scalar.indexCast v56
  ![104, v102.toNat]
def k0_off145 (k0_t4 : Fin k0_t4_loop.trips) : Fin 2 → Nat :=
  let c112 : Index := 112#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v105 : Index := Scalar.indexCast v56
  ![112, v105.toNat]
def k0_off146 (k0_t4 : Fin k0_t4_loop.trips) : Fin 2 → Nat :=
  let c120 : Index := 120#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v108 : Index := Scalar.indexCast v56
  ![120, v108.toNat]
def k0_off147 (k0_t4 : Fin k0_t4_loop.trips) : Fin 2 → Nat :=
  let c128 : Index := 128#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v111 : Index := Scalar.indexCast v56
  ![128, v111.toNat]
def k0_off148 (k0_t4 : Fin k0_t4_loop.trips) : Fin 2 → Nat :=
  let c136 : Index := 136#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v114 : Index := Scalar.indexCast v56
  ![136, v114.toNat]
def k0_off149 (k0_t4 : Fin k0_t4_loop.trips) : Fin 2 → Nat :=
  let c144 : Index := 144#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v117 : Index := Scalar.indexCast v56
  ![144, v117.toNat]
def k0_off150 (k0_t4 : Fin k0_t4_loop.trips) : Fin 2 → Nat :=
  let c152 : Index := 152#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v120 : Index := Scalar.indexCast v56
  ![152, v120.toNat]
def k0_off151 (k0_t4 : Fin k0_t4_loop.trips) : Fin 2 → Nat :=
  let c160 : Index := 160#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v123 : Index := Scalar.indexCast v56
  ![160, v123.toNat]
def k0_off152 (k0_t4 : Fin k0_t4_loop.trips) : Fin 2 → Nat :=
  let c168 : Index := 168#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v126 : Index := Scalar.indexCast v56
  ![168, v126.toNat]
def k0_off153 (k0_t4 : Fin k0_t4_loop.trips) : Fin 2 → Nat :=
  let c176 : Index := 176#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v129 : Index := Scalar.indexCast v56
  ![176, v129.toNat]
def k0_off154 (k0_t4 : Fin k0_t4_loop.trips) : Fin 2 → Nat :=
  let c184 : Index := 184#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v132 : Index := Scalar.indexCast v56
  ![184, v132.toNat]
def k0_off155 (k0_t4 : Fin k0_t4_loop.trips) : Fin 2 → Nat :=
  let c192 : Index := 192#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v135 : Index := Scalar.indexCast v56
  ![192, v135.toNat]
def k0_off156 (k0_t4 : Fin k0_t4_loop.trips) : Fin 2 → Nat :=
  let c200 : Index := 200#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v138 : Index := Scalar.indexCast v56
  ![200, v138.toNat]
def k0_off157 (k0_t4 : Fin k0_t4_loop.trips) : Fin 2 → Nat :=
  let c208 : Index := 208#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v141 : Index := Scalar.indexCast v56
  ![208, v141.toNat]
def k0_off158 (k0_t4 : Fin k0_t4_loop.trips) : Fin 2 → Nat :=
  let c216 : Index := 216#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v144 : Index := Scalar.indexCast v56
  ![216, v144.toNat]
def k0_off159 (k0_t4 : Fin k0_t4_loop.trips) : Fin 2 → Nat :=
  let c224 : Index := 224#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v147 : Index := Scalar.indexCast v56
  ![224, v147.toNat]
def k0_off160 (k0_t4 : Fin k0_t4_loop.trips) : Fin 2 → Nat :=
  let c232 : Index := 232#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v150 : Index := Scalar.indexCast v56
  ![232, v150.toNat]
def k0_off161 (k0_t4 : Fin k0_t4_loop.trips) : Fin 2 → Nat :=
  let c240 : Index := 240#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v153 : Index := Scalar.indexCast v56
  ![240, v153.toNat]
def k0_off162 (k0_t4 : Fin k0_t4_loop.trips) : Fin 2 → Nat :=
  let c248 : Index := 248#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v156 : Index := Scalar.indexCast v56
  ![248, v156.toNat]
def k0_off163 (k0_t4 : Fin k0_t4_loop.trips) : Fin 2 → Nat :=
  let c384 : Index := 384#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3025 : Index := Scalar.indexCast v56
  ![384, v3025.toNat]
def k0_off164 (k0_t4 : Fin k0_t4_loop.trips) : Fin 2 → Nat :=
  let c24_891 : Index := 24#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3027 : Index := Scalar.indexCast v56
  ![24, v3027.toNat]
def k0_off165 (k0_t4 : Fin k0_t4_loop.trips) : Fin 2 → Nat :=
  let c768_892 : Index := 768#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3031 : Index := Scalar.indexCast v56
  ![768, v3031.toNat]
def k0_off166 (k0_t4 : Fin k0_t4_loop.trips) : Fin 2 → Nat :=
  let c800 : Index := 800#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3033 : Index := Scalar.indexCast v56
  ![800, v3033.toNat]
def k0_off167 (k0_t4 : Fin k0_t4_loop.trips) : Fin 2 → Nat :=
  let c832 : Index := 832#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3035 : Index := Scalar.indexCast v56
  ![832, v3035.toNat]
def k0_off168 (k0_t4 : Fin k0_t4_loop.trips) : Fin 2 → Nat :=
  let c864 : Index := 864#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3037 : Index := Scalar.indexCast v56
  ![864, v3037.toNat]
def k0_off169 (k0_t4 : Fin k0_t4_loop.trips) : Fin 2 → Nat :=
  let c896 : Index := 896#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3039 : Index := Scalar.indexCast v56
  ![896, v3039.toNat]
def k0_off170 (k0_t4 : Fin k0_t4_loop.trips) : Fin 2 → Nat :=
  let c928 : Index := 928#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3041 : Index := Scalar.indexCast v56
  ![928, v3041.toNat]
def k0_off171 (k0_t4 : Fin k0_t4_loop.trips) : Fin 2 → Nat :=
  let c960 : Index := 960#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3043 : Index := Scalar.indexCast v56
  ![960, v3043.toNat]
def k0_off172 (k0_t4 : Fin k0_t4_loop.trips) : Fin 2 → Nat :=
  let c992 : Index := 992#32
  let c0_i32_40 : BitVec 32 := 0#32
  let c1_i32_42 : BitVec 32 := 1#32
  let arg14 : BitVec 32 := Scf.iv c0_i32_40 c1_i32_42 k0_t4
  let c128_i32 : BitVec 32 := 128#32
  let v55 : BitVec 32 := Scalar.muli arg14 c128_i32
  let v56 : BitVec 32 := v55
  let v3045 : Index := Scalar.indexCast v56
  ![992, v3045.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QtReferenceIdeal.lean ====
abbrev S6144x4096 : Shape := ⟨2, ![6144, 4096]⟩
abbrev S6144 : Shape := ⟨1, ![6144]⟩
abbrev S6144x1 : Shape := ⟨2, ![6144, 1]⟩
abbrev S192x1x32x4096 : Shape := ⟨4, ![192, 1, 32, 4096]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S32x32x1 : Shape := ⟨3, ![32, 32, 1]⟩
abbrev S1x32x32x1 : Shape := ⟨4, ![1, 32, 32, 1]⟩
abbrev S192x32x32x4096 : Shape := ⟨4, ![192, 32, 32, 4096]⟩
abbrev S192x32x4096 : Shape := ⟨3, ![192, 32, 4096]⟩
abbrev S192x4096 : Shape := ⟨2, ![192, 4096]⟩

abbrev nBuf : Space → Nat
  | .hbm => 57
  | .vmem => 0
  | .smem => 0
  | _ => 0

abbrev bufTy : (tb : Table) → Fin (tcTables nBuf tb) → BufTy
  | .hbm, ⟨0, _⟩ => ⟨S6144x4096, .bf16⟩
  | .hbm, ⟨1, _⟩ => ⟨S6144x4096, .i8⟩
  | .hbm, ⟨2, _⟩ => ⟨S6144, .f32⟩
  | .hbm, ⟨3, _⟩ => ⟨S6144x4096, .f32⟩
  | .hbm, ⟨4, _⟩ => ⟨S6144x1, .f32⟩
  | .hbm, ⟨5, _⟩ => ⟨S6144x4096, .f32⟩
  | .hbm, ⟨6, _⟩ => ⟨S6144x4096, .f32⟩
  | .hbm, ⟨7, _⟩ => ⟨S192x1x32x4096, .f32⟩
  | .hbm, ⟨8, _⟩ => ⟨S32, .i32⟩
  | .hbm, ⟨9, _⟩ => ⟨S32x1, .i32⟩
  | .hbm, ⟨10, _⟩ => ⟨S1x32, .i32⟩
  | .hbm, ⟨11, _⟩ => ⟨S32x32, .i32⟩
  | .hbm, ⟨12, _⟩ => ⟨S32x32, .i32⟩
  | .hbm, ⟨13, _⟩ => ⟨S32x32, .i32⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S_, .i32⟩
  | .hbm, ⟨19, _⟩ => ⟨S32x32, .i32⟩
  | .hbm, ⟨20, _⟩ => ⟨S32x32, .i1⟩
  | .hbm, ⟨21, _⟩ => ⟨S_, .f32⟩
  | .hbm, ⟨22, _⟩ => ⟨S32x32, .f32⟩
  | .hbm, ⟨23, _⟩ => ⟨S_, .f32⟩
  | .hbm, ⟨24, _⟩ => ⟨S_, .f32⟩
  | .hbm, ⟨25, _⟩ => ⟨S32x32, .f32⟩
  | .hbm, ⟨26, _⟩ => ⟨S32x32, .f32⟩
  | .hbm, ⟨27, _⟩ => ⟨S32x32x1, .f32⟩
  | .hbm, ⟨28, _⟩ => ⟨S1x32x32x1, .f32⟩
  | .hbm, ⟨29, _⟩ => ⟨S192x32x32x4096, .f32⟩
  | .hbm, ⟨30, _⟩ => ⟨S192x32x32x4096, .f32⟩
  | .hbm, ⟨31, _⟩ => ⟨S192x32x32x4096, .f32⟩
  | .hbm, ⟨32, _⟩ => ⟨S_, .f32⟩
  | .hbm, ⟨33, _⟩ => ⟨S192x32x4096, .f32⟩
  | .hbm, ⟨34, _⟩ => ⟨S192x32x4096, .f32⟩
  | .hbm, ⟨35, _⟩ => ⟨S_, .f32⟩
  | .hbm, ⟨36, _⟩ => ⟨S192x4096, .f32⟩
  | .hbm, ⟨37, _⟩ => ⟨S192x4096, .f32⟩
  | .hbm, ⟨38, _⟩ => ⟨S_, .f32⟩
  | .hbm, ⟨39, _⟩ => ⟨S_, .f32⟩
  | .hbm, ⟨40, _⟩ => ⟨S192x4096, .f32⟩
  | .hbm, ⟨41, _⟩ => ⟨S192x4096, .f32⟩
  | .hbm, ⟨42, _⟩ => ⟨S192x4096, .f32⟩
  | .hbm, ⟨43, _⟩ => ⟨S_, .f32⟩
  | .hbm, ⟨44, _⟩ => ⟨S192x4096, .f32⟩
  | .hbm, ⟨45, _⟩ => ⟨S192x4096, .f32⟩
  | .hbm, ⟨46, _⟩ => ⟨S_, .f32⟩
  | .hbm, ⟨47, _⟩ => ⟨S192x4096, .f32⟩
  | .hbm, ⟨48, _⟩ => ⟨S192x4096, .f32⟩
  | .hbm, ⟨49, _⟩ => ⟨S_, .f32⟩
  | .hbm, ⟨50, _⟩ => ⟨S192x4096, .f32⟩
  | .hbm, ⟨51, _⟩ => ⟨S192x4096, .i1⟩
  | .hbm, ⟨52, _⟩ => ⟨S_, .f32⟩
  | .hbm, ⟨53, _⟩ => ⟨S192x4096, .f32⟩
  | .hbm, ⟨54, _⟩ => ⟨S192x4096, .f32⟩
  | .hbm, ⟨55, _⟩ => ⟨S192x4096, .i32⟩
  | .hbm, ⟨56, _⟩ => ⟨S192x4096, .i8⟩
  | _, _ => ⟨S6144x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.DxRefRun.lean ====
/- What the gridless reference program of `dx_matmul` leaves in its three results: each is one expression of the two
   arguments (`run`). The one grid point's blocks are the whole arrays. -/
module

public import proofs.«01_k».proof.Proof.Gen.DxReferenceIdeal.Frame
public import Idealize.ShloMosaic.Lib.Pipeline.Value

@[expose] public section

noncomputable section

namespace Cert.DxReferenceIdeal.RefRun

open Cert.DxReferenceIdeal Cert.DxReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S6144x4096.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S6144x4096.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S6144x128.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      kept_main_arg0 m r h c,
      kept_main_arg1 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S6144x14336.Idx) : ((cfg0.win 0).blk t).view.emb j = j := by
  obtain ⟨e0, e1⟩ := idx_zero0 t
  funext a; apply Fin.ext
  match a with
  | ⟨0, _⟩ => show win0_0.index t (0 : Fin 2) * 6144 + 1 * (j 0).val = (j 0).val; omega
  | ⟨1, _⟩ => show win0_0.index t (1 : Fin 2) * 14336 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4096x14336.Idx) : ((cfg0.win 1).blk t).view.emb j = j := by
  obtain ⟨e0, e1⟩ := idx_zero1 t
  funext a; apply Fin.ext
  match a with
  | ⟨0, _⟩ => show win0_1.index t (0 : Fin 2) * 4096 + 1 * (j 0).val = (j 0).val; omega
  | ⟨1, _⟩ => show win0_1.index t (1 : Fin 2) * 14336 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S6144x4096.Idx) : ((cfg0.win 2).blk t).view.emb j = j := by
  obtain ⟨e0, e1⟩ := idx_zero2 t
  funext a; apply Fin.ext
  match a with
  | ⟨0, _⟩ => show win0_2.index t (0 : Fin 2) * 6144 + 1 * (j 0).val = (j 0).val; omega
  | ⟨1, _⟩ => show win0_2.index t (1 : Fin 2) * 4096 + 1 * (j 1).val = (j 1).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S6144x4096.Idx) : ((cfg0.win 3).blk t).view.emb j = j := by
  obtain ⟨e0, e1⟩ := idx_zero3 t
  funext a; apply Fin.ext
  match a with
  | ⟨0, _⟩ => show win0_3.index t (0 : Fin 2) * 6144 + 1 * (j 0).val = (j 0).val; omega
  | ⟨1, _⟩ => show win0_3.index t (1 : Fin 2) * 4096 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S6144x128.Idx) : ((cfg0.win 4).blk t).view.emb j = j := by
  obtain ⟨e0, e1⟩ := idx_zero4 t
  funext a; apply Fin.ext
  match a with
  | ⟨0, _⟩ => show win0_4.index t (0 : Fin 2) * 6144 + 1 * (j 0).val = (j 0).val; omega
  | ⟨1, _⟩ => show win0_4.index t (1 : Fin 2) * 128 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S6144x14336 .bf16) (a1 : Vec F S4096x14336 .bf16) : Vec F S6144x4096 .bf16 :=
  k0_pay1 a0 a1

/-- A load of the whole of a block reads the block, and the one store through the whole rectangle leaves its payload. -/
theorem out2_eq (a0 : Vec F S6144x14336 .bf16) (a1 : Vec F S4096x14336 .bf16) : out0_2 (F := F) a0 a1 = G2 a0 a1 := by
  unfold out0_2
  rw [View.canon_unit_zero hz2, View.ld_unit_zero (S := S6144x14336) hz0 _ a0, View.ld_unit_zero (S := S4096x14336) hz1 _ a1]

/-- Cutting the point's block out of `X` and reading `X` through the block's view give the same. -/
theorem cut2_eq (t : Fin cfg0.N) (X : Vec F S6144x4096 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S6144x4096.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S6144x14336 .bf16) (a1 : Vec F S4096x14336 .bf16) : Vec F S6144x4096 .fp8e4m3 :=
  k0_pay4 a0 a1

/-- A load of the whole of a block reads the block, and the one store through the whole rectangle leaves its payload. -/
theorem out3_eq (a0 : Vec F S6144x14336 .bf16) (a1 : Vec F S4096x14336 .bf16) : out0_3 (F := F) a0 a1 = G3 a0 a1 := by
  unfold out0_3
  rw [View.canon_unit_zero hz3, View.ld_unit_zero (S := S6144x14336) hz0 _ a0, View.ld_unit_zero (S := S4096x14336) hz1 _ a1]

/-- Cutting the point's block out of `X` and reading `X` through the block's view give the same. -/
theorem cut3_eq (t : Fin cfg0.N) (X : Vec F S6144x4096 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S6144x4096.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S6144x14336 .bf16) (a1 : Vec F S4096x14336 .bf16) : Vec F S6144x128 .i8 :=
  k0_pay5 a0 a1

/-- A load of the whole of a block reads the block, and the one store through the whole rectangle leaves its payload. -/
theorem out4_eq (a0 : Vec F S6144x14336 .bf16) (a1 : Vec F S4096x14336 .bf16) : out0_4 (F := F) a0 a1 = G4 a0 a1 := by
  unfold out0_4
  rw [View.canon_unit_zero hz4, View.ld_unit_zero (S := S6144x14336) hz0 _ a0, View.ld_unit_zero (S := S4096x14336) hz1 _ a1]

/-- Cutting the point's block out of `X` and reading `X` through the block's view give the same. -/
theorem cut4_eq (t : Fin cfg0.N) (X : Vec F S6144x128 .i8) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S6144x128.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      kept_main_arg0 m r h c,
      kept_main_arg1 m r h c⟩)
    (run_main m ρ)

end Cert.DxReferenceIdeal.RefRun

end
-- ==== Proof.DxTrip.lean ====
/- One trip of the epilogue loop of `dx_matmul`, as functions of the 32×4096 rows it loads from the accumulator.
   The kernel's text writes the same few operations out 128 times (four groups of eight rows, 32 tiles of 128 lanes);
   here they are stated once, and `trip_dx`, `trip_codes` and `trip_scales` say that the trip's stores are these. -/
module

public import proofs.«01_k».proof.Proof.Gen.DxKernelIdeal.Value

@[expose] public section

noncomputable section

namespace Cert.DxKernelIdeal.DxTrip

open Cert.DxKernelIdeal Cert.DxKernelIdeal.Gen Idealize.ShloMosaic Idealize.ShloMosaic.TcCoe Idealize.SL.Sem

variable {F : FTy → Type} [FloatOps F]

/-- The lane indices a gather reads, wrapped and reshaped as the kernel does. -/
def gidx (u : IVec S8x128 32) : IVec S8x128 32 :=
  shapeCast S8x128 (shapeCast S8x128x1
    (select (cmpi .slt u (broadcast S8x128 0#32)) (addi u (broadcast S8x128 128#32)) u)
    shapeCasts_S8x128_S8x128x1) shapeCasts_S8x128x1_S8x128

/-- One rotation step of the block maximum. -/
def rollMax (d : BitVec 32) (x : FVec F S8x128 .f32) : FVec F S8x128 .f32 :=
  maximumf x (dynamicRotate 1 d none x rotates_S8x128_d1)

/-- Per entry, the largest magnitude of its block of 32 lanes times the constant 1/448. -/
def mT (v14 : IVec S8x128 32) (v : FVec F S8x128 .f32) : FVec F S8x128 .f32 :=
  mulf (dynamicGather 1 (rollMax 112#32 (rollMax 120#32 (rollMax 124#32 (rollMax 126#32 (rollMax 127#32 (absf v))))))
    (gidx (andi v14 (broadcast S8x128 4294967264#32)))) (broadcast S8x128 (Scalar.ofBits .f32 0x3B124925#32))

/-- One bit of the search for the exponent field. -/
def bitStep (m : FVec F S8x128 .f32) (b : BitVec 32) (acc : IVec S8x128 32) : IVec S8x128 32 :=
  select (cmpf .olt m (bitcastToFloat .f32 (ori acc (broadcast S8x128 b)))) acc (ori acc (broadcast S8x128 b))

/-- The exponent field of `m`, in place, most significant bit first. -/
def expBits (m : FVec F S8x128 .f32) : IVec S8x128 32 :=
  bitStep m 8388608#32 (bitStep m 16777216#32 (bitStep m 33554432#32 (bitStep m 67108864#32
    (bitStep m 134217728#32 (bitStep m 268435456#32 (bitStep m 536870912#32 (bitStep m 1073741824#32
      (broadcast S8x128 0#32))))))))

/-- The block exponent, per entry. -/
def eT (m : FVec F S8x128 .f32) : IVec S8x128 32 :=
  select (cmpf .oeq m (broadcast S8x128 (Scalar.ofBits .f32 0x00000000#32))) (broadcast S8x128 0#32)
    (subi (shrui (expBits m) (broadcast S8x128 23#32)) (broadcast S8x128 126#32))

/-- The entries scaled by the block exponent and clipped to the fp8 range. -/
def outT (v14 : IVec S8x128 32) (v : FVec F S8x128 .f32) : FVec F S8x128 .f32 :=
  minimumf (broadcast S8x128 (Scalar.ofBits .f32 0x43E00000#32)) (maximumf (broadcast S8x128 (Scalar.ofBits .f32 0xC3E00000#32))
    (mulf v (bitcastToFloat .f32 (shli (subi (broadcast S8x128 127#32) (eT (mT v14 v))) (broadcast S8x128 23#32)))))

theorem qSlices (q : Fin 4) : S32x4096.Slices ![8 * q.val, 0] S8x4096 := by
  fin_cases q <;> decide

theorem lSlices (l : Fin 32) : S8x4096.Slices ![0, 128 * l.val] S8x128 := by
  fin_cases l <;> decide

/-- Rows `8q …` and lanes `128 l …` of the trip's rows, after the scaling and the cast. -/
def tile (x : Vec F S32x4096 .f32) (q : Fin 4) (l : Fin 32) : FVec F S8x128 .f32 :=
  extractStridedSlice S8x128 ![0, 128 * l.val] (extractStridedSlice S8x4096 ![8 * q.val, 0] (k0_pay5 x) (qSlices q)) (lSlices l)

/-- The codes of lane tile `l`. -/
def codesT (v14 : IVec S8x128 32) (x : Vec F S32x4096 .f32) (l : Fin 32) : FVec F S32x128 .fp8e4m3 :=
  truncf .fp8e4m3 (concatenate S32x128 0 [⟨S8x128, outT v14 (tile x 0 l)⟩, ⟨S8x128, outT v14 (tile x 1 l)⟩,
    ⟨S8x128, outT v14 (tile x 2 l)⟩, ⟨S8x128, outT v14 (tile x 3 l)⟩] concatenates_S8x128_S8x128_S8x128_S8x128_S32x128_d0)
    bitsLt_fp8e4m3_f32

/-- Lane tile `l`'s four block exponents put at lanes `4 l … 4 l + 3` of the row. -/
def rowStep (v14 : IVec S8x128 32) (x : Vec F S32x4096 .f32) (q : Fin 4) (l : Fin 32) (row : IVec S8x128 32) : IVec S8x128 32 :=
  select (cmpi .eq (shrsi v14 (broadcast S8x128 2#32)) (broadcast S8x128 (BitVec.ofNat 32 l.val)))
    (dynamicGather 1 (eT (mT v14 (tile x q l))) (gidx (muli (andi v14 (broadcast S8x128 3#32)) (broadcast S8x128 32#32)))) row

/-- The row after lane tiles `0 … n - 1`. -/
def rowUpTo (v14 : IVec S8x128 32) (x : Vec F S32x4096 .f32) (q : Fin 4) : (n : ℕ) → n ≤ 32 → IVec S8x128 32
  | 0, _ => broadcast S8x128 0#32
  | n + 1, h => rowStep v14 x q ⟨n, h⟩ (rowUpTo v14 x q n (Nat.le_of_succ_le h))

/-- The scales of the trip's rows. -/
def scalesT (v14 : IVec S8x128 32) (x : Vec F S32x4096 .f32) : IVec S32x128 8 :=
  k0_pay3 (rowUpTo v14 x 0 32 le_rfl) (rowUpTo v14 x 1 32 le_rfl) (rowUpTo v14 x 2 32 le_rfl) (rowUpTo v14 x 3 32 le_rfl)

theorem rowInb (k : Fin k0_t1_loop.trips) (a : Fin 2) : (k0_off1 k) a + S32x4096.size a ≤ S512x4096.size a := by
  revert k a; decide +kernel

/-- The rows the trip loads. -/
def ldX (arg7 : Memref sig .tc .vmem S512x4096 .f32) (X_arg7 : BufTy.Contents (Elt F) arg7.view.ty)
    (k : Fin k0_t1_loop.trips) : Vec F S32x4096 .f32 :=
  View.readAt (Elt F) arg7.view (Rect.unit (s := S512x4096) (k0_off1 k) S32x4096.size (rowInb k)).toLoadRect X_arg7

theorem codeInb (k : Fin k0_t1_loop.trips) (l : Fin 32) (a : Fin 2) :
    (![k0_off1 k 0, 128 * l.val] : Fin 2 → Nat) a + S32x128.size a ≤ S512x4096.size a := by
  revert k l a; decide +kernel

/-- The store of lane tile `l`'s codes. -/
def codePiece (v14 : IVec S8x128 32) (x : Vec F S32x4096 .f32) (k : Fin k0_t1_loop.trips) (l : Fin 32) :
    View.Piece (Elt F) S512x4096 .fp8e4m3 :=
  ⟨Rect.unit (s := S512x4096) ![k0_off1 k 0, 128 * l.val] S32x128.size (codeInb k l), codesT v14 x l⟩

theorem scaleInb (k : Fin k0_t1_loop.trips) (a : Fin 2) : (k0_off34 k) a + S32x128.size a ≤ S512x128.size a := by
  revert k a; decide +kernel

set_option maxRecDepth 100000

/-- The trip stores the scaled rows, cast, at its rows of the first result. -/
theorem trip_dx (𝒱 : Variants) (c : Dev nD) (bd : Option 𝒱.V) (i : grid0.Coords) (arg2 : Memref sig .tc .vmem S512x1024 .bf16) (harg2 : arg2.IsWhole) (arg3 : Memref sig .tc .vmem S4096x1024 .bf16) (harg3 : arg3.IsWhole) (arg4 : Memref sig .tc .vmem S512x4096 .bf16) (harg4 : arg4.IsWhole)
    (arg5 : Memref sig .tc .vmem S512x4096 .fp8e4m3) (harg5 : arg5.IsWhole) (arg6 : Memref sig .tc .vmem S512x128 .i8) (harg6 : arg6.IsWhole) (arg7 : Memref sig .tc .vmem S512x4096 .f32) (harg7 : arg7.IsWhole) (k0_h2 : k0_cond2 i = 1#1) (v14 : IVec S8x128 32)
    (X_arg7 : BufTy.Contents (Elt F) arg7.view.ty) (k : Fin k0_t1_loop.trips) :
    (trip_k0_t1 (F := F) 𝒱 c bd i arg2 harg2 arg3 harg3 arg4 harg4 arg5 harg5 arg6 harg6 arg7 harg7 k0_h2 v14 X_arg7 k).1
      = [⟨Rect.unit (s := S512x4096) (k0_off1 k) S32x4096.size (rowInb k), k0_pay4 (ldX arg7 X_arg7 k)⟩] := by
  sl_kernel_rfl

/-- The trip stores the scales at its rows of the third result. -/
theorem trip_scales (𝒱 : Variants) (c : Dev nD) (bd : Option 𝒱.V) (i : grid0.Coords) (arg2 : Memref sig .tc .vmem S512x1024 .bf16) (harg2 : arg2.IsWhole) (arg3 : Memref sig .tc .vmem S4096x1024 .bf16) (harg3 : arg3.IsWhole) (arg4 : Memref sig .tc .vmem S512x4096 .bf16) (harg4 : arg4.IsWhole)
    (arg5 : Memref sig .tc .vmem S512x4096 .fp8e4m3) (harg5 : arg5.IsWhole) (arg6 : Memref sig .tc .vmem S512x128 .i8) (harg6 : arg6.IsWhole) (arg7 : Memref sig .tc .vmem S512x4096 .f32) (harg7 : arg7.IsWhole) (k0_h2 : k0_cond2 i = 1#1) (v14 : IVec S8x128 32)
    (X_arg7 : BufTy.Contents (Elt F) arg7.view.ty) (k : Fin k0_t1_loop.trips) :
    (trip_k0_t1 (F := F) 𝒱 c bd i arg2 harg2 arg3 harg3 arg4 harg4 arg5 harg5 arg6 harg6 arg7 harg7 k0_h2 v14 X_arg7 k).2.2.1
      = [⟨Rect.unit (s := S512x128) (k0_off34 k) S32x128.size (scaleInb k), scalesT v14 (ldX arg7 X_arg7 k)⟩] := by
  sl_kernel_rfl

/-- The trip stores the codes lane tile by lane tile at its rows of the second result. -/
theorem trip_codes (𝒱 : Variants) (c : Dev nD) (bd : Option 𝒱.V) (i : grid0.Coords) (arg2 : Memref sig .tc .vmem S512x1024 .bf16) (harg2 : arg2.IsWhole) (arg3 : Memref sig .tc .vmem S4096x1024 .bf16) (harg3 : arg3.IsWhole) (arg4 : Memref sig .tc .vmem S512x4096 .bf16) (harg4 : arg4.IsWhole)
    (arg5 : Memref sig .tc .vmem S512x4096 .fp8e4m3) (harg5 : arg5.IsWhole) (arg6 : Memref sig .tc .vmem S512x128 .i8) (harg6 : arg6.IsWhole) (arg7 : Memref sig .tc .vmem S512x4096 .f32) (harg7 : arg7.IsWhole) (k0_h2 : k0_cond2 i = 1#1) (v14 : IVec S8x128 32)
    (X_arg7 : BufTy.Contents (Elt F) arg7.view.ty) (k : Fin k0_t1_loop.trips) :
    (trip_k0_t1 (F := F) 𝒱 c bd i arg2 harg2 arg3 harg3 arg4 harg4 arg5 harg5 arg6 harg6 arg7 harg7 k0_h2 v14 X_arg7 k).2.1
      = [codePiece v14 (ldX arg7 X_arg7 k) k 31, codePiece v14 (ldX arg7 X_arg7 k) k 30, codePiece v14 (ldX arg7 X_arg7 k) k 29, codePiece v14 (ldX arg7 X_arg7 k) k 28, codePiece v14 (ldX arg7 X_arg7 k) k 27, codePiece v14 (ldX arg7 X_arg7 k) k 26, codePiece v14 (ldX arg7 X_arg7 k) k 25, codePiece v14 (ldX arg7 X_arg7 k) k 24, codePiece v14 (ldX arg7 X_arg7 k) k 23, codePiece v14 (ldX arg7 X_arg7 k) k 22, codePiece v14 (ldX arg7 X_arg7 k) k 21, codePiece v14 (ldX arg7 X_arg7 k) k 20, codePiece v14 (ldX arg7 X_arg7 k) k 19, codePiece v14 (ldX arg7 X_arg7 k) k 18, codePiece v14 (ldX arg7 X_arg7 k) k 17, codePiece v14 (ldX arg7 X_arg7 k) k 16, codePiece v14 (ldX arg7 X_arg7 k) k 15, codePiece v14 (ldX arg7 X_arg7 k) k 14, codePiece v14 (ldX arg7 X_arg7 k) k 13, codePiece v14 (ldX arg7 X_arg7 k) k 12, codePiece v14 (ldX arg7 X_arg7 k) k 11, codePiece v14 (ldX arg7 X_arg7 k) k 10, codePiece v14 (ldX arg7 X_arg7 k) k 9, codePiece v14 (ldX arg7 X_arg7 k) k 8, codePiece v14 (ldX arg7 X_arg7 k) k 7, codePiece v14 (ldX arg7 X_arg7 k) k 6, codePiece v14 (ldX arg7 X_arg7 k) k 5, codePiece v14 (ldX arg7 X_arg7 k) k 4, codePiece v14 (ldX arg7 X_arg7 k) k 3, codePiece v14 (ldX arg7 X_arg7 k) k 2, codePiece v14 (ldX arg7 X_arg7 k) k 1, codePiece v14 (ldX arg7 X_arg7 k) k 0] := by
  sl_kernel_rfl

end Cert.DxKernelIdeal.DxTrip

end
-- ==== Proof.DxBody.lean ====
/- What the body of `dx_matmul` leaves, case by case: the accumulator after a point, and at a last point of a row of
   the grid the three staged blocks, each as one function of the accumulator's contents. -/
module

public import proofs.«01_k».proof.Proof.DxTrip
public import Idealize.ShloMosaic.Lib.Tactic

@[expose] public section

noncomputable section

namespace Cert.DxKernelIdeal.DxBody

open Cert.DxKernelIdeal Cert.DxKernelIdeal.Gen Cert.DxKernelIdeal.DxTrip Idealize.ShloMosaic Idealize.ShloMosaic.TcCoe Idealize.SL.Sem

variable {F : FTy → Type} [FloatOps F]

theorem hz : (![0, 0] : Fin 2 → Nat) = fun _ => 0 := funext fun a => by fin_cases a <;> rfl

/-! ## The pieces of the loop -/

section Loop

variable (𝒱 : Variants) (c : Dev nD) (bd : Option 𝒱.V) (i : grid0.Coords) (arg2 : Memref sig .tc .vmem S512x1024 .bf16) (harg2 : arg2.IsWhole) (arg3 : Memref sig .tc .vmem S4096x1024 .bf16) (harg3 : arg3.IsWhole) (arg4 : Memref sig .tc .vmem S512x4096 .bf16) (harg4 : arg4.IsWhole)
    (arg5 : Memref sig .tc .vmem S512x4096 .fp8e4m3) (harg5 : arg5.IsWhole) (arg6 : Memref sig .tc .vmem S512x128 .i8) (harg6 : arg6.IsWhole) (arg7 : Memref sig .tc .vmem S512x4096 .f32) (harg7 : arg7.IsWhole) (k0_h2 : k0_cond2 i = 1#1) (v14 : IVec S8x128 32)
    (X_arg7 : BufTy.Contents (Elt F) arg7.view.ty)

/-- Every piece of the first result is one trip's rows. -/
theorem pb_dx : ∀ n : ℕ, n ≤ k0_t1_loop.trips → ∀ p ∈ (pb_k0_t1 (F := F) 𝒱 c bd i arg2 harg2 arg3 harg3 arg4 harg4 arg5 harg5 arg6 harg6 arg7 harg7 k0_h2 v14 X_arg7 n).1,
    ∃ k : Fin k0_t1_loop.trips,
      p = ⟨Rect.unit (s := S512x4096) (k0_off1 k) S32x4096.size (rowInb k), k0_pay4 (ldX arg7 X_arg7 k)⟩
  | 0, _, p, hp => absurd hp List.not_mem_nil
  | n + 1, h, p, hp => by
    rw [pb_k0_t1_succ 𝒱 c bd i arg2 harg2 arg3 harg3 arg4 harg4 arg5 harg5 arg6 harg6 arg7 harg7 k0_h2 v14 X_arg7 ⟨n, h⟩] at hp
    rcases List.mem_append.mp hp with hp | hp
    · rw [show (tripL_k0_t1 (F := F) 𝒱 c bd i arg2 harg2 arg3 harg3 arg4 harg4 arg5 harg5 arg6 harg6 arg7 harg7 k0_h2 v14 X_arg7 ⟨n, h⟩).1 = _ from trip_dx 𝒱 c bd i arg2 harg2 arg3 harg3 arg4 harg4 arg5 harg5 arg6 harg6 arg7 harg7 k0_h2 v14 X_arg7 ⟨n, h⟩] at hp
      exact ⟨⟨n, h⟩, List.mem_singleton.mp hp⟩
    · exact pb_dx n (Nat.le_of_succ_le h) p hp

/-- Every piece of the third result is one trip's scales. -/
theorem pb_scales : ∀ n : ℕ, n ≤ k0_t1_loop.trips → ∀ p ∈ (pb_k0_t1 (F := F) 𝒱 c bd i arg2 harg2 arg3 harg3 arg4 harg4 arg5 harg5 arg6 harg6 arg7 harg7 k0_h2 v14 X_arg7 n).2.2,
    ∃ k : Fin k0_t1_loop.trips,
      p = ⟨Rect.unit (s := S512x128) (k0_off34 k) S32x128.size (scaleInb k), scalesT v14 (ldX arg7 X_arg7 k)⟩
  | 0, _, p, hp => absurd hp List.not_mem_nil
  | n + 1, h, p, hp => by
    rw [pb_k0_t1_succ 𝒱 c bd i arg2 harg2 arg3 harg3 arg4 harg4 arg5 harg5 arg6 harg6 arg7 harg7 k0_h2 v14 X_arg7 ⟨n, h⟩] at hp
    rcases List.mem_append.mp hp with hp | hp
    · rw [show (tripL_k0_t1 (F := F) 𝒱 c bd i arg2 harg2 arg3 harg3 arg4 harg4 arg5 harg5 arg6 harg6 arg7 harg7 k0_h2 v14 X_arg7 ⟨n, h⟩).2.2 = _ from trip_scales 𝒱 c bd i arg2 harg2 arg3 harg3 arg4 harg4 arg5 harg5 arg6 harg6 arg7 harg7 k0_h2 v14 X_arg7 ⟨n, h⟩] at hp
      exact ⟨⟨n, h⟩, List.mem_singleton.mp hp⟩
    · exact pb_scales n (Nat.le_of_succ_le h) p hp

/-- Every piece of the second result is one trip's codes of one lane tile. -/
theorem pb_codes : ∀ n : ℕ, n ≤ k0_t1_loop.trips → ∀ p ∈ (pb_k0_t1 (F := F) 𝒱 c bd i arg2 harg2 arg3 harg3 arg4 harg4 arg5 harg5 arg6 harg6 arg7 harg7 k0_h2 v14 X_arg7 n).2.1,
    ∃ (k : Fin k0_t1_loop.trips) (l : Fin 32), p = codePiece v14 (ldX arg7 X_arg7 k) k l
  | 0, _, p, hp => absurd hp List.not_mem_nil
  | n + 1, h, p, hp => by
    rw [pb_k0_t1_succ 𝒱 c bd i arg2 harg2 arg3 harg3 arg4 harg4 arg5 harg5 arg6 harg6 arg7 harg7 k0_h2 v14 X_arg7 ⟨n, h⟩] at hp
    rcases List.mem_append.mp hp with hp | hp
    · rw [show (tripL_k0_t1 (F := F) 𝒱 c bd i arg2 harg2 arg3 harg3 arg4 harg4 arg5 harg5 arg6 harg6 arg7 harg7 k0_h2 v14 X_arg7 ⟨n, h⟩).2.1 = _ from trip_codes 𝒱 c bd i arg2 harg2 arg3 harg3 arg4 harg4 arg5 harg5 arg6 harg6 arg7 harg7 k0_h2 v14 X_arg7 ⟨n, h⟩] at hp
      refine ⟨⟨n, h⟩, ?_⟩
      simp only [List.mem_cons, List.not_mem_nil, or_false] at hp
      rcases hp with hp | hp | hp | hp | hp | hp | hp | hp | hp | hp | hp | hp | hp | hp | hp | hp | hp | hp | hp | hp | hp | hp | hp | hp | hp | hp | hp | hp | hp | hp | hp | hp
      all_goals exact ⟨_, hp⟩
    · exact pb_codes n (Nat.le_of_succ_le h) p hp

end Loop

/-! ## The accumulator after a point -/

section Cases

variable (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x4096 .bf16) (harg4 : arg4.IsWhole)
    (arg5 : Memref sig .tc .vmem S512x4096 .fp8e4m3) (harg5 : arg5.IsWhole) (arg6 : Memref sig .tc .vmem S512x128 .i8) (harg6 : arg6.IsWhole) (arg7 : Memref sig .tc .vmem S512x4096 .f32) (harg7 : arg7.IsWhole)
  (x0 : Vec F S512x1024 .bf16) (x1 : Vec F S4096x1024 .bf16) (xs0 : Vec F S512x4096 .f32)

/-- A first point of a row of the grid leaves zero plus its product in the accumulator. -/
theorem sout_A (hc0 : cond0_0 i) (hc1 : ¬cond0_1 i) :
    sout0_A_0 c i arg2 harg2 arg3 harg3 arg4 harg4 arg5 harg5 arg6 harg6 arg7 harg7 hc0 hc1 x0 x1 = k0_pay2 k0_pay1 x0 x1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S512x4096) hz, View.readCov_unit_zero (S := S512x4096) _ hz]
  simp only [View.readAt_eq_ld, harg2.read_unread, harg3.read_unread]
  exact congrArg₂ (k0_pay2 k0_pay1) (View.ld_unit_zero (S := S512x1024) hz _ _) (View.ld_unit_zero (S := S4096x1024) hz _ _)

/-- A middle point adds its product to the accumulator. -/
theorem sout_B (hc0 : ¬cond0_0 i) (hc1 : ¬cond0_1 i) :
    sout0_B_0 c i arg2 harg2 arg3 harg3 arg4 harg4 arg5 harg5 arg6 harg6 arg7 harg7 hc0 hc1 x0 x1 xs0 = k0_pay2 xs0 x0 x1 := by
  unfold sout0_B_0
  rw [View.read_writes_eq_canon _ _ _ (scover0_B_0 c i arg2 harg2 arg3 harg3 arg4 harg4 arg5 harg5 arg6 harg6 arg7 harg7 hc0 hc1 x0 x1 xs0)]
  unfold kernelRun0_B
  dsimp only
  rw [View.canon_unit_zero (S := S512x4096) hz]
  simp only [View.readAt_eq_ld, harg2.read_unread, harg3.read_unread, harg7.read_unread]
  rw [View.ld_unit_zero (S := S512x1024) hz, View.ld_unit_zero (S := S4096x1024) hz, View.ld_unit_zero (S := S512x4096) hz]

end Cases

/-! ## The staged blocks at a last point -/

/-- Rows `32 k …` of the accumulator. -/
def rowsOf (A : Vec F S512x4096 .f32) (k : Fin k0_t1_loop.trips) : Vec F S32x4096 .f32 :=
  View.ld A (Rect.unit (s := S512x4096) (k0_off1 k) S32x4096.size (rowInb k))

/-- The lane numbers. -/
def lanes : IVec S8x128 32 := iota .tc S8x128 32 [1] iota_S8x128_d1_w32

section Last

variable (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S512x4096 .bf16) (harg4 : arg4.IsWhole)
    (arg5 : Memref sig .tc .vmem S512x4096 .fp8e4m3) (harg5 : arg5.IsWhole) (arg6 : Memref sig .tc .vmem S512x128 .i8) (harg6 : arg6.IsWhole) (arg7 : Memref sig .tc .vmem S512x4096 .f32) (harg7 : arg7.IsWhole)
  (x0 : Vec F S512x1024 .bf16) (x1 : Vec F S4096x1024 .bf16) (xs0 : Vec F S512x4096 .f32)

/-- After the last product the accumulator reads as `acc + product`. -/
theorem last_ldX (k : Fin k0_t1_loop.trips) :
    ldX arg7 (arg7.view.writes (Elt F) arg7.view.junk (kernelRun0_C.sl.HS0_1 c arg2 harg2 arg3 harg3 arg7 harg7 x0 x1 xs0)) k
      = rowsOf (k0_pay2 xs0 x0 x1) k := by
  unfold ldX rowsOf
  rw [View.readAt_eq_ld, View.read_writes_junk_eq_canon]
  refine congrArg (fun A => View.ld A _) ?_
  sl_unfold_words
  rw [View.canon_unit_zero (S := S512x4096) hz]
  simp only [View.readAt_eq_ld, harg2.read_unread, harg3.read_unread, harg7.read_unread]
  rw [View.ld_unit_zero (S := S512x1024) hz, View.ld_unit_zero (S := S4096x1024) hz, View.ld_unit_zero (S := S512x4096) hz]

theorem trips_eq : k0_t1_loop.trips = 16 := by decide

/-- The row group of an index. -/
def grp {n : ℕ} (y : Shape.Idx ⟨2, ![512, n]⟩) : Fin k0_t1_loop.trips :=
  ⟨(y 0).val / 32, by have h : (y 0).val < 512 := (y 0).isLt; rw [trips_eq]; omega⟩

/-- Its place in the row group. -/
def locR {n : ℕ} (y : Shape.Idx ⟨2, ![512, n]⟩) : Shape.Idx ⟨2, ![32, n]⟩ :=
  fun | 0 => ⟨(y 0).val % 32, Nat.mod_lt _ (by decide)⟩ | 1 => y 1

/-- Its place in the row group and lane tile. -/
def locT (y : S512x4096.Idx) : S32x128.Idx :=
  fun | 0 => ⟨(y 0).val % 32, Nat.mod_lt _ (by decide)⟩ | 1 => ⟨(y 1).val % 128, Nat.mod_lt _ (by decide)⟩

/-- Its lane tile. -/
def tl (y : S512x4096.Idx) : Fin 32 := ⟨(y 1).val / 128, by have h : (y 1).val < 4096 := (y 1).isLt; omega⟩

/-- The first staged block: rows of the accumulator, scaled. -/
def dxBlock (A : Vec F S512x4096 .f32) : Vec F S512x4096 .bf16 := fun y => k0_pay4 (rowsOf A (grp y)) (locR y)

/-- The second staged block: the codes. -/
def codeBlock (A : Vec F S512x4096 .f32) : Vec F S512x4096 .fp8e4m3 := fun y => codesT lanes (rowsOf A (grp y)) (tl y) (locT y)

/-- The third staged block: the scales. -/
def scaleBlock (A : Vec F S512x4096 .f32) : Vec F S512x128 .i8 := fun y => scalesT lanes (rowsOf A (grp y)) (locR y)

theorem grp_dx (k : Fin k0_t1_loop.trips) (x : S32x4096.Idx) :
    grp ((Rect.unit (s := S512x4096) (k0_off1 k) S32x4096.size (rowInb k)).emb x) = k
      ∧ locR ((Rect.unit (s := S512x4096) (k0_off1 k) S32x4096.size (rowInb k)).emb x) = x := by
  have hx : (x 0).val < 32 := (x 0).isLt
  have h0 : ((Rect.unit (s := S512x4096) (k0_off1 k) S32x4096.size (rowInb k)).emb x 0).val = k0_off1 k 0 + 1 * (x 0).val := rfl
  have h1 : ((Rect.unit (s := S512x4096) (k0_off1 k) S32x4096.size (rowInb k)).emb x 1).val = k0_off1 k 1 + 1 * (x 1).val := rfl
  replace h0 := h0.trans (congrArg (fun f : Fin 2 → ℕ => f 0 + 1 * (x 0).val) (k0_off1_eq k))
  replace h1 := h1.trans (congrArg (fun f : Fin 2 → ℕ => f 1 + 1 * (x 1).val) (k0_off1_eq k))
  refine ⟨Fin.ext ?_, funext fun a => Fin.ext ?_⟩
  · show ((Rect.unit (s := S512x4096) (k0_off1 k) S32x4096.size (rowInb k)).emb x 0).val / 32 = _
    rw [h0]; show (32 * k.val + 1 * (x 0).val) / 32 = _; omega
  · match a with
    | 0 => show ((Rect.unit (s := S512x4096) (k0_off1 k) S32x4096.size (rowInb k)).emb x 0).val % 32 = _
           rw [h0]; show (32 * k.val + 1 * (x 0).val) % 32 = _; omega
    | 1 => show ((Rect.unit (s := S512x4096) (k0_off1 k) S32x4096.size (rowInb k)).emb x 1).val = _
           rw [h1]; show 0 + 1 * (x 1).val = _; omega

theorem grp_scales (k : Fin k0_t1_loop.trips) (x : S32x128.Idx) :
    grp ((Rect.unit (s := S512x128) (k0_off34 k) S32x128.size (scaleInb k)).emb x) = k
      ∧ locR ((Rect.unit (s := S512x128) (k0_off34 k) S32x128.size (scaleInb k)).emb x) = x := by
  have hx : (x 0).val < 32 := (x 0).isLt
  have h0 : ((Rect.unit (s := S512x128) (k0_off34 k) S32x128.size (scaleInb k)).emb x 0).val = k0_off34 k 0 + 1 * (x 0).val := rfl
  have h1 : ((Rect.unit (s := S512x128) (k0_off34 k) S32x128.size (scaleInb k)).emb x 1).val = k0_off34 k 1 + 1 * (x 1).val := rfl
  replace h0 := h0.trans (congrArg (fun f : Fin 2 → ℕ => f 0 + 1 * (x 0).val) (k0_off34_eq k))
  replace h1 := h1.trans (congrArg (fun f : Fin 2 → ℕ => f 1 + 1 * (x 1).val) (k0_off34_eq k))
  refine ⟨Fin.ext ?_, funext fun a => Fin.ext ?_⟩
  · show ((Rect.unit (s := S512x128) (k0_off34 k) S32x128.size (scaleInb k)).emb x 0).val / 32 = _
    rw [h0]; show (32 * k.val + 1 * (x 0).val) / 32 = _; omega
  · match a with
    | 0 => show ((Rect.unit (s := S512x128) (k0_off34 k) S32x128.size (scaleInb k)).emb x 0).val % 32 = _
           rw [h0]; show (32 * k.val + 1 * (x 0).val) % 32 = _; omega
    | 1 => show ((Rect.unit (s := S512x128) (k0_off34 k) S32x128.size (scaleInb k)).emb x 1).val = _
           rw [h1]; show 0 + 1 * (x 1).val = _; omega

theorem grp_codes (k : Fin k0_t1_loop.trips) (l : Fin 32) (x : S32x128.Idx) (h : ∀ a, (![k0_off1 k 0, 128 * l.val] : Fin 2 → Nat) a + S32x128.size a ≤ S512x4096.size a) :
    grp ((Rect.unit (s := S512x4096) ![k0_off1 k 0, 128 * l.val] S32x128.size h).emb x) = k
      ∧ tl ((Rect.unit (s := S512x4096) ![k0_off1 k 0, 128 * l.val] S32x128.size h).emb x) = l
      ∧ locT ((Rect.unit (s := S512x4096) ![k0_off1 k 0, 128 * l.val] S32x128.size h).emb x) = x := by
  have hx : (x 0).val < 32 := (x 0).isLt
  have hy : (x 1).val < 128 := (x 1).isLt
  have h0 : ((Rect.unit (s := S512x4096) ![k0_off1 k 0, 128 * l.val] S32x128.size h).emb x 0).val = k0_off1 k 0 + 1 * (x 0).val := rfl
  have h1 : ((Rect.unit (s := S512x4096) ![k0_off1 k 0, 128 * l.val] S32x128.size h).emb x 1).val = 128 * l.val + 1 * (x 1).val := rfl
  replace h0 := h0.trans (congrArg (fun f : Fin 2 → ℕ => f 0 + 1 * (x 0).val) (k0_off1_eq k))
  replace h0 : _ = 32 * k.val + 1 * (x 0).val := h0
  refine ⟨Fin.ext ?_, Fin.ext ?_, funext fun a => Fin.ext ?_⟩
  · show ((Rect.unit (s := S512x4096) ![k0_off1 k 0, 128 * l.val] S32x128.size h).emb x 0).val / 32 = _
    rw [h0]; omega
  · show ((Rect.unit (s := S512x4096) ![k0_off1 k 0, 128 * l.val] S32x128.size h).emb x 1).val / 128 = _
    rw [h1]; omega
  · match a with
    | 0 => show ((Rect.unit (s := S512x4096) ![k0_off1 k 0, 128 * l.val] S32x128.size h).emb x 0).val % 32 = _
           rw [h0]; omega
    | 1 => show ((Rect.unit (s := S512x4096) ![k0_off1 k 0, 128 * l.val] S32x128.size h).emb x 1).val % 128 = _
           rw [h1]; omega

/-- A last point stages the scaled rows of the finished accumulator. -/
theorem out_C_2 (hc0 : ¬cond0_0 i) (hc1 : cond0_1 i) :
    out0_C_2 c i arg2 harg2 arg3 harg3 arg4 harg4 arg5 harg5 arg6 harg6 arg7 harg7 hc0 hc1 x0 x1 xs0 = dxBlock (k0_pay2 xs0 x0 x1) := by
  unfold out0_C_2
  refine funext fun y => ?_
  rw [View.read_writes_junk_eq_canon]
  refine View.canon_apply_of_pieces (dxBlock (k0_pay2 xs0 x0 x1)) _ (fun p hp x => ?_) y (cover0_C_2 c i arg2 harg2 arg3 harg3 arg4 harg4 arg5 harg5 arg6 harg6 arg7 harg7 hc0 hc1 x0 x1 xs0 y)
  unfold kernelRun0_C at hp
  dsimp only at hp
  obtain ⟨k, rfl⟩ := pb_dx Variants.none c none i arg2 harg2 arg3 harg3 arg4 harg4 arg5 harg5 arg6 harg6 arg7 harg7 hc1 _ _ _ le_rfl p hp
  rw [last_ldX]
  unfold dxBlock
  rw [(grp_dx k x).1, (grp_dx k x).2]

/-- A last point stages the codes of the finished accumulator. -/
theorem out_C_3 (hc0 : ¬cond0_0 i) (hc1 : cond0_1 i) :
    out0_C_3 c i arg2 harg2 arg3 harg3 arg4 harg4 arg5 harg5 arg6 harg6 arg7 harg7 hc0 hc1 x0 x1 xs0 = codeBlock (k0_pay2 xs0 x0 x1) := by
  unfold out0_C_3
  refine funext fun y => ?_
  rw [View.read_writes_junk_eq_canon]
  refine View.canon_apply_of_pieces (codeBlock (k0_pay2 xs0 x0 x1)) _ (fun p hp x => ?_) y (cover0_C_3 c i arg2 harg2 arg3 harg3 arg4 harg4 arg5 harg5 arg6 harg6 arg7 harg7 hc0 hc1 x0 x1 xs0 y)
  unfold kernelRun0_C at hp
  dsimp only at hp
  obtain ⟨k, l, rfl⟩ := pb_codes Variants.none c none i arg2 harg2 arg3 harg3 arg4 harg4 arg5 harg5 arg6 harg6 arg7 harg7 hc1 _ _ _ le_rfl p hp
  rw [last_ldX]
  unfold codeBlock codePiece
  dsimp only
  rw [(grp_codes k l x _).1, (grp_codes k l x _).2.1, (grp_codes k l x _).2.2]
  rfl

/-- A last point stages the scales of the finished accumulator. -/
theorem out_C_4 (hc0 : ¬cond0_0 i) (hc1 : cond0_1 i) :
    out0_C_4 c i arg2 harg2 arg3 harg3 arg4 harg4 arg5 harg5 arg6 harg6 arg7 harg7 hc0 hc1 x0 x1 xs0 = scaleBlock (k0_pay2 xs0 x0 x1) := by
  unfold out0_C_4
  refine funext fun y => ?_
  rw [View.read_writes_junk_eq_canon]
  refine View.canon_apply_of_pieces (scaleBlock (k0_pay2 xs0 x0 x1)) _ (fun p hp x => ?_) y (cover0_C_4 c i arg2 harg2 arg3 harg3 arg4 harg4 arg5 harg5 arg6 harg6 arg7 harg7 hc0 hc1 x0 x1 xs0 y)
  unfold kernelRun0_C at hp
  dsimp only at hp
  obtain ⟨k, rfl⟩ := pb_scales Variants.none c none i arg2 harg2 arg3 harg3 arg4 harg4 arg5 harg5 arg6 harg6 arg7 harg7 hc1 _ _ _ le_rfl p hp
  rw [last_ldX]
  unfold scaleBlock
  rw [(grp_scales k x).1, (grp_scales k x).2]
  rfl

end Last

end Cert.DxKernelIdeal.DxBody

end
-- ==== Proof.DxExp.lean ====
/- The block exponent, over the reals. `bexp m` is the exponent the format asks for; `kexp` is the kernel's search for it,
   bit by bit through integers read as floats, and `rexp` the reference's, through logarithms. Both are `bexp` at
   zero and on `2 ^ (-126) ≤ m < 2 ^ 126`, and the scale `2 ^ (-bexp m)` is what each side multiplies by. -/
module

public import Idealize.ShloMosaic.PureOps.Ideal

@[expose] public section

noncomputable section

namespace Cert.DxExp

open Idealize.ShloMosaic

/-- The integer part of the binary logarithm. -/
def lg (m : ℝ) : ℤ := ⌊Real.log m * (Real.log 2)⁻¹⌋

theorem lt_zpow_iff {m : ℝ} (h0 : 0 < m) (x : ℤ) : m < 2 ^ x ↔ lg m < x := by
  have hl2 : 0 < Real.log 2 := Real.log_pos (by norm_num)
  rw [← Real.log_lt_log_iff h0 (by positivity), Real.log_zpow, ← div_lt_iff₀ hl2, ← Int.floor_lt, div_eq_mul_inv, lg]

/-- The exponent of a block whose scaled maximum is `m`: the least power of two above `m`. -/
def bexp (m : ℝ) : ℤ := if m = 0 then 0 else lg m + 1

/-- The scaled maxima whose exponents the two sides both have: zero, and the normal range. -/
def Ok (m : ℝ) : Prop := m = 0 ∨ (2 ^ (-126 : ℤ) ≤ m ∧ m < 2 ^ (126 : ℤ))

theorem Ok.nonneg {m : ℝ} (h : Ok m) : 0 ≤ m := h.elim (fun h => h.ge) fun h => le_trans (by positivity) h.1

theorem Ok.lt {m : ℝ} (h : Ok m) : m < 2 ^ (126 : ℤ) := h.elim (fun h => h.trans_lt (by positivity)) And.right

theorem Ok.le_lg {m : ℝ} (h : Ok m) (h0 : ¬m = 0) : -126 ≤ lg m := by
  obtain ⟨h1, _⟩ := h.resolve_left h0
  by_contra hc
  exact absurd ((lt_zpow_iff (lt_of_lt_of_le (by positivity) h1) (-126)).mpr (not_le.mp hc)) (not_lt.mpr h1)

theorem log_lt {m : ℝ} (h0 : 0 < m) (h : m < 2 ^ (126 : ℤ)) : lg m < 126 :=
  (lt_zpow_iff h0 126).mp h

theorem bexp_bounds {m : ℝ} (h : Ok m) : -126 ≤ bexp m ∧ bexp m ≤ 126 := by
  unfold bexp
  split
  · omega
  · have := log_lt (lt_of_le_of_ne h.nonneg (Ne.symm ‹_›)) h.lt
    have := h.le_lg ‹_›
    omega

/-! ## The kernel's search -/

/-- A field value put in place. -/
def up (g : BitVec 8) : BitVec 32 := g.setWidth 32 <<< 23

theorem up_fields : ∀ g : BitVec 8, ((up g).extractLsb' (8 + 23) 1 == 1#1) = false
    ∧ ((up g).extractLsb' 23 8).toNat = g.toNat ∧ ((up g).extractLsb' 0 23).toNat = 0 := by
  intro g
  have h : ∀ k : Fin 256, ((up (BitVec.ofNat 8 k)).extractLsb' (8 + 23) 1 == 1#1) = false
      ∧ ((up (BitVec.ofNat 8 k)).extractLsb' 23 8).toNat = (BitVec.ofNat 8 k).toNat
      ∧ ((up (BitVec.ofNat 8 k)).extractLsb' 0 23).toNat = 0 := by decide +kernel
  have := h ⟨g.toNat, g.isLt⟩
  rwa [BitVec.ofNat_toNat, BitVec.setWidth_eq] at this

/-- What a field value in place reads as. -/
theorem ofBits_up (g : BitVec 8) : Ideal.ofBits .f32 (up g)
    = if g.toNat = 255 then ⊤ else if g.toNat = 0 then 0 else (((2 : ℝ) ^ ((g.toNat : ℤ) - 127) : ℝ) : EReal) := by
  obtain ⟨h1, h2, h3⟩ := up_fields g
  show Ideal.ieee 8 23 (up g) = _
  unfold Ideal.ieee
  simp only [h1, h2, h3, Bool.false_eq_true, if_false, if_true]
  by_cases h255 : g.toNat = 255
  · rw [if_pos (show g.toNat = 2 ^ 8 - 1 from h255), if_pos h255]
  · rw [if_neg (show ¬g.toNat = 2 ^ 8 - 1 from h255), if_neg h255]
    by_cases h0 : g.toNat = 0
    · rw [if_pos h0, if_pos h0, Nat.cast_zero, mul_zero, zero_mul, EReal.coe_zero]
    · rw [if_neg h0, if_neg h0]
      refine congrArg Real.toEReal ?_
      rw [one_mul, show (((2 ^ 23 + 0 : ℕ)) : ℝ) = (2 : ℝ) ^ (23 : ℤ) by norm_num, ← zpow_add₀ (by norm_num)]
      refine congrArg (fun z : ℤ => (2 : ℝ) ^ z) ?_
      norm_num

/-- One step of the search on words. -/
def kstep (m : EReal) (b acc : BitVec 32) : BitVec 32 := if m < Ideal.ofBits .f32 (acc ||| b) then acc else acc ||| b

/-- The search. -/
def ksearch (m : EReal) : BitVec 32 :=
  kstep m 8388608#32 (kstep m 16777216#32 (kstep m 33554432#32 (kstep m 67108864#32
    (kstep m 134217728#32 (kstep m 268435456#32 (kstep m 536870912#32 (kstep m 1073741824#32 0#32)))))))

/-- The kernel's exponent. -/
def kexp (m : EReal) : BitVec 32 := if m = 0 then 0#32 else ksearch m >>> 23#32 - 126#32

/-- One step of the search on field values, `f` the field searched for. -/
def nstep (f : ℕ) (b g : BitVec 8) : BitVec 8 := if f < (g ||| b).toNat then g else g ||| b

theorem nsearch : ∀ f : Fin 256, nstep f 1#8 (nstep f 2#8 (nstep f 4#8 (nstep f 8#8 (nstep f 16#8 (nstep f 32#8
    (nstep f 64#8 (nstep f 128#8 0#8))))))) = BitVec.ofNat 8 f := by decide +kernel

theorem up_or (g b : BitVec 8) : up g ||| up b = up (g ||| b) := by
  unfold up
  rw [BitVec.setWidth_or, BitVec.shiftLeft_or_distrib]

theorem kstep_up (m : EReal) (f : ℕ) (h : ∀ g : BitVec 8, m < Ideal.ofBits .f32 (up g) ↔ f < g.toNat) (b g : BitVec 8) :
    kstep m (up b) (up g) = up (nstep f b g) := by
  unfold kstep nstep
  rw [up_or]
  by_cases hc : f < (g ||| b).toNat
  · rw [if_pos hc, if_pos ((h _).mpr hc)]
  · rw [if_neg hc, if_neg (fun h' => hc ((h _).mp h'))]

theorem ksearch_eq (m : EReal) (f : ℕ) (hf : f < 256) (h : ∀ g : BitVec 8, m < Ideal.ofBits .f32 (up g) ↔ f < g.toNat) :
    ksearch m = up (BitVec.ofNat 8 f) := by
  unfold ksearch
  rw [show (8388608#32 : BitVec 32) = up 1#8 by decide, show (16777216#32 : BitVec 32) = up 2#8 by decide,
    show (33554432#32 : BitVec 32) = up 4#8 by decide, show (67108864#32 : BitVec 32) = up 8#8 by decide,
    show (134217728#32 : BitVec 32) = up 16#8 by decide, show (268435456#32 : BitVec 32) = up 32#8 by decide,
    show (536870912#32 : BitVec 32) = up 64#8 by decide, show (1073741824#32 : BitVec 32) = up 128#8 by decide,
    show (0#32 : BitVec 32) = up 0#8 by decide]
  simp only [kstep_up m f h]
  rw [nsearch ⟨f, hf⟩]

/-- The field of a positive real below `2 ^ 126`. -/
def fld (m : ℝ) : ℕ := (lg m + 127).toNat

theorem fld_spec {m : ℝ} (h0 : 0 < m) (h : m < 2 ^ (126 : ℤ)) (g : BitVec 8) :
    (m : EReal) < Ideal.ofBits .f32 (up g) ↔ fld m < g.toNat := by
  have hl := log_lt h0 h
  have hg := g.isLt
  rw [ofBits_up]
  unfold fld
  split
  · exact ⟨fun _ => by omega, fun _ => EReal.coe_lt_top m⟩
  · split
    · refine ⟨fun hc => ?_, fun hc => by omega⟩
      exact absurd (by exact_mod_cast hc : m < 0) (not_lt.mpr h0.le)
    · rw [EReal.coe_lt_coe_iff]
      rw [lt_zpow_iff h0]
      omega

theorem fld_lt {m : ℝ} (h0 : 0 < m) (h : m < 2 ^ (126 : ℤ)) : fld m < 253 := by
  have hl := log_lt h0 h
  unfold fld
  omega

theorem up_shr : ∀ f : Fin 256, up (BitVec.ofNat 8 f) >>> 23#32 = BitVec.ofNat 32 f := by decide +kernel

/-- THE KERNEL'S EXPONENT is the block exponent. -/
theorem kexp_eq {m : ℝ} (ok : Ok m) : kexp m = BitVec.ofInt 32 (bexp m) := by
  unfold kexp bexp
  by_cases hm : m = 0
  · rw [if_pos hm, if_pos (by exact_mod_cast hm)]; rfl
  · have hp := lt_of_le_of_ne ok.nonneg (Ne.symm hm)
    have h := ok.lt
    have hl := fld_lt hp h
    have hg := ok.le_lg hm
    rw [if_neg hm, if_neg (by exact_mod_cast hm), ksearch_eq m (fld m) (by omega) (fld_spec hp h),
      up_shr ⟨fld m, by omega⟩]
    have e : lg m + 1 = (fld m : ℤ) - 126 := by unfold fld; omega
    rw [e]
    have key : ∀ f : Fin 256, BitVec.ofNat 32 f.val - 126#32 = BitVec.ofInt 32 ((f.val : ℤ) - 126) := by decide +kernel
    exact key ⟨fld m, by omega⟩

theorem inv_word : ∀ k : Fin 253, (127#32 - BitVec.ofInt 32 ((k.val : ℤ) - 126)) <<< 23#32 = up (BitVec.ofNat 8 (253 - k.val)) := by
  decide +kernel

/-- The word the kernel builds from an exponent reads as the power of two it multiplies by. -/
theorem kinv_eq {e : ℤ} (h1 : -126 ≤ e) (h2 : e ≤ 126) :
    Ideal.ofBits .f32 ((127#32 - BitVec.ofInt 32 e) <<< 23#32) = (((2 : ℝ) ^ (-e) : ℝ) : EReal) := by
  obtain ⟨k, hk⟩ : ∃ k : ℕ, e = (k : ℤ) - 126 := ⟨(e + 126).toNat, by omega⟩
  subst hk
  rw [inv_word ⟨k, by omega⟩, ofBits_up]
  have hn : (BitVec.ofNat 8 (253 - k)).toNat = 253 - k := by rw [BitVec.toNat_ofNat]; omega
  rw [hn, if_neg (by omega), if_neg (by omega)]
  refine congrArg _ (congrArg _ ?_)
  omega

/-- The kernel's 8-bit scale. -/
theorem kscale_eq {e : ℤ} (h1 : -126 ≤ e) (h2 : e ≤ 126) : (BitVec.ofInt 32 e).setWidth 8 = BitVec.ofInt 8 e := by
  obtain ⟨k, hk⟩ : ∃ k : ℕ, e = (k : ℤ) - 126 := ⟨(e + 126).toNat, by omega⟩
  subst hk
  have key : ∀ k : Fin 253, (BitVec.ofInt 32 ((k.val : ℤ) - 126)).setWidth 8 = BitVec.ofInt 8 ((k.val : ℤ) - 126) := by
    decide +kernel
  exact key ⟨k, by omega⟩

/-! ## The reference's logarithm -/

/-- The reference's exponent of a block with maximum `a` and scaled maximum `m`. -/
def rexp (a m : EReal) : EReal :=
  if a = 0 then 0 else Ideal.liftRound Int.floor (Ideal.div (Ideal.log m) (Ideal.log ((2 : ℝ) : EReal))) + ((1 : ℝ) : EReal)

/-- THE REFERENCE'S EXPONENT is the block exponent. -/
theorem rexp_eq {a : EReal} {m : ℝ} (h0 : 0 ≤ m) (ha : a = 0 ↔ m = 0) : rexp a m = ((bexp m : ℝ) : EReal) := by
  unfold rexp bexp
  by_cases hm : m = 0
  · rw [if_pos (ha.mpr hm), if_pos hm]; norm_num
  · have hp := lt_of_le_of_ne h0 (Ne.symm hm)
    rw [if_neg (fun h => hm (ha.mp h)), if_neg hm, Ideal.log_coe, Ideal.log_coe, if_neg (not_le.mpr hp), if_neg (by norm_num)]
    have hl2 : Real.log 2 ≠ 0 := (Real.log_pos (by norm_num)).ne'
    unfold Ideal.div
    rw [if_neg (by exact_mod_cast hl2), ← EReal.coe_inv, ← EReal.coe_mul, Ideal.liftRound_coe, ← EReal.coe_add]
    rw [← lg]
    push_cast
    rfl

/-- The reference's factor. -/
theorem rinv_eq (e : ℤ) : Ideal.exp2 (0 - ((e : ℝ) : EReal)) = (((2 : ℝ) ^ (-e) : ℝ) : EReal) := by
  rw [show (0 : EReal) - ((e : ℝ) : EReal) = (((-e : ℤ) : ℝ) : EReal) by push_cast; rw [zero_sub], Ideal.exp2_coe]
  exact congrArg _ (Real.rpow_intCast 2 (-e))

/-- The reference's 8-bit scale. -/
theorem rscale_eq {e : ℤ} (h1 : -126 ≤ e) (h2 : e ≤ 126) : Ideal.fptosi 8 ((e : ℝ) : EReal) = BitVec.ofInt 8 e := by
  unfold Ideal.fptosi Ideal.toIntClamped
  show BitVec.ofInt 8 (max _ (min _ (if (0 : ℝ) ≤ (e : ℝ) then ⌊(e : ℝ)⌋ else ⌈(e : ℝ)⌉))) = _
  rw [Int.floor_intCast, Int.ceil_intCast, ite_self]
  congr 1
  norm_num
  omega

end Cert.DxExp

end
-- ==== Proof.DxTile.lean ====
/- The epilogue's tile functions read at an index, over the reals: the block maximum by rotations and a gather, the
   exponent, the codes and the scales. -/
module

public import proofs.«01_k».proof.Proof.DxBody
public import proofs.«01_k».proof.Proof.DxExp
public import Idealize.ShloMosaic.Lib.KernelVsHost
public import Idealize.ShloMosaic.Lib.PackedFields
public import Idealize.ShloMosaic.PureOps.Ideal.Laws

@[expose] public section

noncomputable section

namespace Cert.DxKernelIdeal.DxTile

open Cert.DxKernelIdeal Cert.DxKernelIdeal.Gen Cert.DxKernelIdeal.DxTrip Cert.DxKernelIdeal.DxBody Cert.DxExp
open Idealize.ShloMosaic Idealize.ShloMosaic.TcCoe Idealize.SL.Sem

/-- An index of a rectangle. -/
def mk2 {a b : ℕ} (r : Fin a) (c : Fin b) : Shape.Idx ⟨2, ![a, b]⟩ := fun | 0 => r | 1 => c

theorem ext2 {a b : ℕ} {x y : Shape.Idx ⟨2, ![a, b]⟩} (h0 : (x 0).val = (y 0).val) (h1 : (x 1).val = (y 1).val) : x = y :=
  funext fun i => Fin.ext (match i with | 0 => h0 | 1 => h1)

theorem ofBool_ite {α : Type} (p : Prop) [Decidable p] (a b : α) :
    (if BitVec.ofBool (decide p) = 1 then a else b) = if p then a else b := by
  by_cases h : p <;> simp [h]

theorem ofBits_zero : Ideal.ofBits .f32 0x00000000#32 = 0 := by
  have := ofBits_up 0#8
  rw [show up 0#8 = 0x00000000#32 by decide] at this
  simpa using this

/-- A block's scaled maximum: the largest magnitude of its 32 entries times the constant 1/448. -/
def bm (g : Fin 32 → EReal) : EReal :=
  (Finset.univ : Finset (Fin 32)).fold max ⊥ (fun j => max (g j) (-g j)) * Ideal.ofBits .f32 0x3B124925#32

/-- An entry's code, over the reals, given its block's scaled maximum. -/
def codeOf (m v : EReal) : EReal :=
  min (Ideal.ofBits .f32 0x43E00000#32) (max (Ideal.ofBits .f32 0xC3E00000#32)
    (v * Ideal.ofBits .f32 ((127#32 - kexp m) <<< 23#32)))

/-! ## The block maximum -/

/-- `s` lanes further, around the end. -/
def shift (y : S8x128.Idx) (s : ℕ) : S8x128.Idx :=
  mk2 (a := 8) (b := 128) (y 0) ⟨((y 1).val + s) % 128, Nat.mod_lt _ (by decide)⟩

theorem shift_shift (y : S8x128.Idx) (s t : ℕ) : shift (shift y s) t = shift y (s + t) := by
  refine ext2 (a := 8) (b := 128) rfl ?_
  show (((y 1).val + s) % 128 + t) % 128 = ((y 1).val + (s + t)) % 128
  omega

theorem rollMax_apply (d : BitVec 32) (n : ℕ) (hd : d.toNat + n = 128) (hn : 0 < n) (x : FVec Ideal S8x128 .f32) (y : S8x128.Idx) :
    rollMax d x y = max (x y) (x (shift y n)) := by
  show max (x y) (dynamicRotate 1 d none x rotates_S8x128_d1 y) = _
  refine congrArg (fun e : EReal => max (x y) e) ?_
  refine dynamicRotate_apply (s := S8x128) 1 d x rotates_S8x128_d1 y (shift y n) fun b => ?_
  match b with
  | 0 => rfl
  | 1 =>
    show ((y 1).val + n) % 128 = ((y 1).val + 128 - d.toNat % 128) % 128
    have hy : (y 1).val < 128 := (y 1).isLt
    omega

theorem roll_step (d : BitVec 32) (n : ℕ) (hd : d.toNat + n = 128) (hn : 0 < n) (x A : FVec Ideal S8x128 .f32)
    (h : ∀ y (z : EReal), x y ≤ z ↔ ∀ j < n, A (shift y j) ≤ z) (y : S8x128.Idx) (z : EReal) :
    rollMax d x y ≤ z ↔ ∀ j < n + n, A (shift y j) ≤ z := by
  rw [rollMax_apply d n hd hn, max_le_iff, h, h]
  constructor
  · rintro ⟨h1, h2⟩ j hj
    by_cases hjn : j < n
    · exact h1 j hjn
    · have := h2 (j - n) (by omega)
      rwa [shift_shift, show n + (j - n) = j by omega] at this
  · intro hh
    refine ⟨fun j hj => hh j (by omega), fun j hj => ?_⟩
    rw [shift_shift]
    exact hh (n + j) (by omega)

theorem rolls (A : FVec Ideal S8x128 .f32) (y : S8x128.Idx) (z : EReal) :
    rollMax 112#32 (rollMax 120#32 (rollMax 124#32 (rollMax 126#32 (rollMax 127#32 A)))) y ≤ z
      ↔ ∀ j < 32, A (shift y j) ≤ z := by
  have h0 : ∀ y (z : EReal), A y ≤ z ↔ ∀ j < 1, A (shift y j) ≤ z := fun y z => by
    have e : shift y 0 = y := ext2 (a := 8) (b := 128) rfl (Nat.mod_eq_of_lt (y 1).isLt)
    constructor
    · intro h j hj
      obtain rfl : j = 0 := by omega
      rwa [e]
    · intro h
      have := h 0 (by omega)
      rwa [e] at this
  exact roll_step 112#32 16 rfl (by omega) _ A (roll_step 120#32 8 rfl (by omega) _ A (roll_step 124#32 4 rfl (by omega) _ A
    (roll_step 126#32 2 rfl (by omega) _ A (roll_step 127#32 1 rfl (by omega) A A h0)))) y z

theorem gidx_apply (u : IVec S8x128 32) (y : S8x128.Idx) :
    gidx u y = if (u y).slt 0#32 then u y + 128#32 else u y := by
  unfold gidx
  let k : S8x128x1.Idx := fun | 0 => y 0 | 1 => y 1 | 2 => ⟨0, by decide⟩
  have e : (S8x128x1.rowMajor k : ℕ) = S8x128.rowMajor y := by
    rw [Shape.rowMajor_val_two, Shape.rowMajor_val_three]
    show ((y 0).val * 128 + (y 1).val) * 1 + 0 = (y 0).val * 128 + (y 1).val
    omega
  rw [shapeCast_apply _ _ y k e, shapeCast_apply _ _ k y e.symm]
  show (if BitVec.ofBool ((u y).slt 0#32) = 1 then u y + 128#32 else u y) = _
  by_cases h : (u y).slt 0#32 <;> simp [h]

theorem lanes_apply (y : S8x128.Idx) : lanes y = BitVec.ofNat 32 (y 1).val := by
  show BitVec.ofNat 32 (0 * 128 + (y 1).val) = _
  rw [Nat.zero_mul, Nat.zero_add]

/-- The `j`-th entry of the block that `y` is in. -/
def bl (y : S8x128.Idx) (j : Fin 32) : S8x128.Idx :=
  mk2 (a := 8) (b := 128) (y 0) ⟨32 * ((y 1).val / 32) + j.val, by have h : (y 1).val < 128 := (y 1).isLt; omega⟩

theorem gather_apply (x : FVec Ideal S8x128 .f32) (y : S8x128.Idx) :
    dynamicGather 1 x (gidx (andi lanes (broadcast S8x128 4294967264#32))) y = x (bl y 0) := by
  show x _ = _
  refine congrArg x (ext2 (a := 8) (b := 128) rfl ?_)
  show (gidx (andi lanes (broadcast S8x128 4294967264#32)) y).toNat % 128 = 32 * ((y 1).val / 32) + 0
  rw [gidx_apply]
  show (if (lanes y &&& 4294967264#32).slt 0#32 then (lanes y &&& 4294967264#32) + 128#32 else lanes y &&& 4294967264#32).toNat % 128 = _
  rw [lanes_apply]
  have key : ∀ n : Fin 128, (if (BitVec.ofNat 32 n.val &&& 4294967264#32).slt 0#32 then (BitVec.ofNat 32 n.val &&& 4294967264#32) + 128#32
      else BitVec.ofNat 32 n.val &&& 4294967264#32).toNat % 128 = 32 * (n.val / 32) + 0 := by decide +kernel
  exact key (y 1)

/-- The block's scaled maximum, at every entry of the block. -/
theorem mT_apply (v : FVec Ideal S8x128 .f32) (y : S8x128.Idx) : mT lanes v y = bm fun j => v (bl y j) := by
  show dynamicGather 1 _ (gidx (andi lanes (broadcast S8x128 4294967264#32))) y * Ideal.ofBits .f32 0x3B124925#32 = _
  rw [gather_apply]
  refine congrArg (fun e : EReal => e * Ideal.ofBits .f32 0x3B124925#32) (eq_of_forall_ge_iff fun z => ?_)
  rw [rolls, Finset.fold_max_le]
  have e : ∀ j : ℕ, (hj : j < 32) → shift (bl y 0) j = bl y ⟨j, hj⟩ := fun j hj => by
    refine ext2 (a := 8) (b := 128) rfl ?_
    show (32 * ((y 1).val / 32) + 0 + j) % 128 = 32 * ((y 1).val / 32) + j
    have hy : (y 1).val < 128 := (y 1).isLt
    omega
  constructor
  · intro h
    exact ⟨bot_le, fun j _ => by have := h j.val j.isLt; rwa [e j.val j.isLt] at this⟩
  · rintro ⟨-, h⟩ j hj
    rw [e j hj]
    exact h ⟨j, hj⟩ (Finset.mem_univ _)

/-! ## The exponent, the codes -/

theorem bitStep_apply (m : FVec Ideal S8x128 .f32) (b : BitVec 32) (acc : IVec S8x128 32) (y : S8x128.Idx) :
    bitStep m b acc y = kstep (m y) b (acc y) := ofBool_ite _ _ _

theorem expBits_apply (m : FVec Ideal S8x128 .f32) (y : S8x128.Idx) : expBits m y = ksearch (m y) := by
  unfold expBits ksearch
  simp only [bitStep_apply]
  rfl

theorem eT_apply (m : FVec Ideal S8x128 .f32) (y : S8x128.Idx) : eT m y = kexp (m y) := by
  show (if BitVec.ofBool (decide (m y = Ideal.ofBits .f32 0x00000000#32)) = 1 then 0#32
    else IntOp.shrui .vector (expBits m y) 23#32 - 126#32) = _
  rw [ofBool_ite, ofBits_zero, expBits_apply]
  rfl

theorem outT_apply (v : FVec Ideal S8x128 .f32) (y : S8x128.Idx) :
    outT lanes v y = codeOf (bm fun j => v (bl y j)) (v y) := by
  show min _ (max _ (v y * Ideal.ofBits .f32 (IntOp.shli .vector (127#32 - eT (mT lanes v) y) 23#32))) = _
  rw [eT_apply, mT_apply]
  rfl

/-! ## A trip's rows -/

/-- A row's entry after the scaling. -/
def dxv (x : Vec Ideal S32x4096 .f32) (r : Fin 32) (c : Fin 4096) : EReal :=
  (x (mk2 (a := 32) (b := 4096) r c) : EReal) * Ideal.ofBits .f32 0x3FE38E39#32

theorem tile_apply (x : Vec Ideal S32x4096 .f32) (q : Fin 4) (l : Fin 32) (y : S8x128.Idx) :
    tile x q l y = dxv x ⟨8 * q.val + (y 0).val, by have h : (y 0).val < 8 := (y 0).isLt; omega⟩
      ⟨128 * l.val + (y 1).val, by have h : (y 1).val < 128 := (y 1).isLt; omega⟩ := by
  have h0 : (y 0).val < 8 := (y 0).isLt
  have h1 : (y 1).val < 128 := (y 1).isLt
  unfold tile
  rw [extractStridedSlice_apply ![0, 128 * l.val] _ (lSlices l) y
      (mk2 (a := 8) (b := 4096) (y 0) ⟨128 * l.val + (y 1).val, by omega⟩) (fun a => by
        match a with
        | 0 => exact (Nat.zero_add _).symm
        | 1 => rfl),
    extractStridedSlice_apply ![8 * q.val, 0] _ (qSlices q) (mk2 (a := 8) (b := 4096) (y 0) ⟨128 * l.val + (y 1).val, by omega⟩)
      (mk2 (a := 32) (b := 4096) ⟨8 * q.val + (y 0).val, by omega⟩ ⟨128 * l.val + (y 1).val, by omega⟩) (fun a => by
        match a with
        | 0 => rfl
        | 1 => exact (Nat.zero_add _).symm)]
  rfl

theorem outT_tile (x : Vec Ideal S32x4096 .f32) (q : Fin 4) (l : Fin 32) (y : S8x128.Idx) (r : Fin 32) (c : Fin 4096)
    (hr : r.val = 8 * q.val + (y 0).val) (hc : c.val = 128 * l.val + (y 1).val) :
    outT lanes (tile x q l) y
      = codeOf (bm fun j => dxv x r ⟨32 * (c.val / 32) + j.val, by have := c.isLt; omega⟩) (dxv x r c) := by
  rw [outT_apply]
  refine congrArg₂ codeOf (congrArg bm (funext fun j => ?_)) ?_
  · rw [tile_apply]
    refine congrArg₂ (dxv x) (Fin.ext hr.symm) (Fin.ext ?_)
    show 128 * l.val + (32 * ((y 1).val / 32) + j.val) = 32 * (c.val / 32) + j.val
    omega
  · rw [tile_apply]
    exact congrArg₂ (dxv x) (Fin.ext hr.symm) (Fin.ext hc.symm)

/-- A row group's codes. -/
theorem codesT_apply (x : Vec Ideal S32x4096 .f32) (l : Fin 32) (y : S32x128.Idx) (c : Fin 4096)
    (hc : c.val = 128 * l.val + (y 1).val) :
    codesT lanes x l y
      = codeOf (bm fun j => dxv x (y 0) ⟨32 * (c.val / 32) + j.val, by have := c.isLt; omega⟩) (dxv x (y 0) c) := by
  have h0 : (y 0).val < 32 := (y 0).isLt
  have hq : (y 0).val / 8 < 4 := by omega
  have hx : (y 0).val = 8 * ((y 0).val / 8) + (y 0).val % 8 := by omega
  show concatenate S32x128 0 [⟨S8x128, outT lanes (tile x 0 l)⟩, ⟨S8x128, outT lanes (tile x 1 l)⟩,
    ⟨S8x128, outT lanes (tile x 2 l)⟩, ⟨S8x128, outT lanes (tile x 3 l)⟩] concatenates_S8x128_S8x128_S8x128_S8x128_S32x128_d0 y = _
  refine Eq.trans ?_ (outT_tile x ⟨(y 0).val / 8, hq⟩ l
    (mk2 (a := 8) (b := 128) ⟨(y 0).val % 8, Nat.mod_lt _ (by decide)⟩ (y 1)) (y 0) c hx hc)
  generalize hk : (y 0).val / 8 = k at hq hx ⊢
  have ho : ∀ b : Fin S8x128.rank, b.cast rfl ≠ (0 : Fin S32x128.rank) →
      (mk2 (a := 8) (b := 128) ⟨(y 0).val % 8, Nat.mod_lt _ (by decide)⟩ (y 1) b).val = (y (b.cast rfl)).val := fun b hb => by
    match b with
    | 0 => exact absurd rfl hb
    | 1 => rfl
  match k, hq with
  | 0, hq => exact concatenate_apply_piece 0 _ _ y 0 (by show 0 < 4; omega) S8x128 _ rfl rfl 0 rfl _ ho (by
      show 0 + (y 0).val % 8 = _; omega)
  | 1, hq => exact concatenate_apply_piece 0 _ _ y 1 (by show 1 < 4; omega) S8x128 _ rfl rfl 8 rfl _ ho (by
      show 8 + (y 0).val % 8 = _; omega)
  | 2, hq => exact concatenate_apply_piece 0 _ _ y 2 (by show 2 < 4; omega) S8x128 _ rfl rfl 16 rfl _ ho (by
      show 16 + (y 0).val % 8 = _; omega)
  | 3, hq => exact concatenate_apply_piece 0 _ _ y 3 (by show 3 < 4; omega) S8x128 _ rfl rfl 24 rfl _ ho (by
      show 24 + (y 0).val % 8 = _; omega)

/-! ## The scales -/

/-- Lane `4 l + i` gets lane tile `l`'s block `i`. -/
theorem rowStep_apply (x : Vec Ideal S32x4096 .f32) (q : Fin 4) (l : Fin 32) (row : IVec S8x128 32) (y : S8x128.Idx) :
    rowStep lanes x q l row y = if (y 1).val / 4 = l.val
      then eT (mT lanes (tile x q l)) (mk2 (a := 8) (b := 128) (y 0) ⟨32 * ((y 1).val % 4), by omega⟩) else row y := by
  have hy : (y 1).val < 128 := (y 1).isLt
  show (if BitVec.ofBool (IntOp.shrsi .vector (lanes y) 2#32 == BitVec.ofNat 32 l.val) = 1 then
    dynamicGather 1 (eT (mT lanes (tile x q l))) (gidx (muli (andi lanes (broadcast S8x128 3#32)) (broadcast S8x128 32#32))) y else row y) = _
  have hs : IntOp.shrsi .vector (lanes y) 2#32 = BitVec.ofNat 32 l.val ↔ (y 1).val / 4 = l.val := by
    rw [show (2#32 : BitVec 32) = BitVec.ofNat 32 2 from rfl, Idealize.ShloMosaic.PackedFields.shrsi_eq_iff _ 2 l.val (by omega) (by have := l.isLt; omega), lanes_apply,
      BitVec.toNat_ofNat, Nat.mod_eq_of_lt (by omega)]
    omega
  have hg : dynamicGather 1 (eT (mT lanes (tile x q l))) (gidx (muli (andi lanes (broadcast S8x128 3#32)) (broadcast S8x128 32#32))) y
      = eT (mT lanes (tile x q l)) (mk2 (a := 8) (b := 128) (y 0) ⟨32 * ((y 1).val % 4), by omega⟩) := by
    show eT (mT lanes (tile x q l)) _ = _
    refine congrArg _ (ext2 (a := 8) (b := 128) rfl ?_)
    show (gidx (muli (andi lanes (broadcast S8x128 3#32)) (broadcast S8x128 32#32)) y).toNat % 128 = 32 * ((y 1).val % 4)
    rw [gidx_apply]
    show (if ((lanes y &&& 3#32) * 32#32).slt 0#32 then (lanes y &&& 3#32) * 32#32 + 128#32 else (lanes y &&& 3#32) * 32#32).toNat % 128 = _
    rw [lanes_apply]
    have key : ∀ n : Fin 128, (if ((BitVec.ofNat 32 n.val &&& 3#32) * 32#32).slt 0#32 then (BitVec.ofNat 32 n.val &&& 3#32) * 32#32 + 128#32
        else (BitVec.ofNat 32 n.val &&& 3#32) * 32#32).toNat % 128 = 32 * (n.val % 4) := by decide +kernel
    exact key (y 1)
  rw [hg]
  by_cases h : (y 1).val / 4 = l.val
  · rw [if_pos h, hs.mpr h]; simp
  · rw [if_neg h, if_neg]
    intro hc
    rw [beq_eq_false_iff_ne.mpr (fun he => h (hs.mp he))] at hc
    exact absurd hc (by decide)

theorem rowUpTo_apply (x : Vec Ideal S32x4096 .f32) (q : Fin 4) (y : S8x128.Idx) : ∀ (n : ℕ) (h : n ≤ 32) (hn : (y 1).val / 4 < n),
    rowUpTo lanes x q n h y = eT (mT lanes (tile x q ⟨(y 1).val / 4, by omega⟩))
      (mk2 (a := 8) (b := 128) (y 0) ⟨32 * ((y 1).val % 4), by omega⟩)
  | 0, _, hn => absurd hn (Nat.not_lt_zero _)
  | n + 1, h, hn => by
    show rowStep lanes x q ⟨n, h⟩ (rowUpTo lanes x q n (Nat.le_of_succ_le h)) y = _
    rw [rowStep_apply]
    by_cases hc : (y 1).val / 4 = n
    · rw [if_pos hc]
      refine congrArg (fun l => eT (mT lanes (tile x q l)) _) (Fin.ext hc.symm)
    · rw [if_neg hc]
      exact rowUpTo_apply x q y n _ (by omega)

/-- A row group's exponents, put side by side. -/
theorem row_apply (x : Vec Ideal S32x4096 .f32) (q : Fin 4) (y : S8x128.Idx) (r : Fin 32) (b : Fin 128)
    (hr : r.val = 8 * q.val + (y 0).val) (hb : b.val = (y 1).val) :
    rowUpTo lanes x q 32 le_rfl y = kexp (bm fun j => dxv x r ⟨32 * b.val + j.val, by have := b.isLt; omega⟩) := by
  have hy : (y 1).val < 128 := (y 1).isLt
  rw [rowUpTo_apply x q y 32 le_rfl (by omega), eT_apply, mT_apply]
  refine congrArg kexp (congrArg bm (funext fun j => ?_))
  rw [tile_apply]
  refine congrArg₂ (dxv x) (Fin.ext hr.symm) (Fin.ext ?_)
  show 128 * ((y 1).val / 4) + (32 * (32 * ((y 1).val % 4) / 32) + j.val) = 32 * b.val + j.val
  omega

/-- A row group's scales. -/
theorem scalesT_apply (x : Vec Ideal S32x4096 .f32) (y : S32x128.Idx) :
    scalesT lanes x y
      = (kexp (bm fun j => dxv x (y 0) ⟨32 * (y 1).val + j.val, by have h : (y 1).val < 128 := (y 1).isLt; omega⟩)).setWidth 8 := by
  have h0 : (y 0).val < 32 := (y 0).isLt
  have hq : (y 0).val / 8 < 4 := by omega
  have hx : (y 0).val = 8 * ((y 0).val / 8) + (y 0).val % 8 := by omega
  unfold scalesT k0_pay3
  refine congrArg (BitVec.setWidth 8) ?_
  refine Eq.trans ?_ (row_apply x ⟨(y 0).val / 8, hq⟩
    (mk2 (a := 8) (b := 128) ⟨(y 0).val % 8, Nat.mod_lt _ (by decide)⟩ (y 1)) (y 0) (y 1) hx rfl)
  generalize hk : (y 0).val / 8 = k at hq hx ⊢
  have ho : ∀ b : Fin S8x128.rank, b.cast rfl ≠ (0 : Fin S32x128.rank) →
      (mk2 (a := 8) (b := 128) ⟨(y 0).val % 8, Nat.mod_lt _ (by decide)⟩ (y 1) b).val = (y (b.cast rfl)).val := fun b hb => by
    match b with
    | 0 => exact absurd rfl hb
    | 1 => rfl
  match k, hq with
  | 0, hq => exact concatenate_apply_piece 0 _ _ y 0 (by show 0 < 4; omega) S8x128 _ rfl rfl 0 rfl _ ho (by
      show 0 + (y 0).val % 8 = _; omega)
  | 1, hq => exact concatenate_apply_piece 0 _ _ y 1 (by show 1 < 4; omega) S8x128 _ rfl rfl 8 rfl _ ho (by
      show 8 + (y 0).val % 8 = _; omega)
  | 2, hq => exact concatenate_apply_piece 0 _ _ y 2 (by show 2 < 4; omega) S8x128 _ rfl rfl 16 rfl _ ho (by
      show 16 + (y 0).val % 8 = _; omega)
  | 3, hq => exact concatenate_apply_piece 0 _ _ y 3 (by show 3 < 4; omega) S8x128 _ rfl rfl 24 rfl _ ho (by
      show 24 + (y 0).val % 8 = _; omega)

end Cert.DxKernelIdeal.DxTile

end
-- ==== Proof.DxArray.lean ====
/- What the three result arrays of `dx_matmul` hold after the run, over the reals: the accumulator sums the grid row's
   fourteen blocks of the contraction, so at a last point it is the whole product; the staged blocks are the epilogue's
   functions of it. -/
module

public import proofs.«01_k».proof.Proof.DxTile
public import Idealize.ShloMosaic.Lib.ValueIdx

@[expose] public section

noncomputable section

namespace Cert.DxKernelIdeal.DxArray

open Cert.DxKernelIdeal Cert.DxKernelIdeal.Gen Cert.DxKernelIdeal.DxBody Cert.DxKernelIdeal.DxTile Cert.DxKernelIdeal.DxTrip Cert.DxExp
open Idealize.ShloMosaic Idealize.ShloMosaic.TcCoe Idealize.SL.Sem

/-! ## One point's product -/

/-- The dimension numbers of the block product: contract axis 1 of both operands. -/
abbrev D : DotDims S512x1024 S4096x1024 S512x4096 := dot_S512x1024_S4096x1024_S512x4096_1_1_0_0_n_n

theorem lhs_1 (i : S512x4096.Idx) (q : D.contr.Idx) : (D.lhsIdx i q 1).val = (q ⟨0, by decide⟩).val :=
  D.lhsIdx_val_of_single rfl i q
theorem lhs_0 (i : S512x4096.Idx) (q : D.contr.Idx) : (D.lhsIdx i q 0).val = (i 0).val := by
  unfold DotDims.lhsIdx
  rw [dif_neg (show ¬(0 : Fin S512x1024.rank) ∈ D.lhsBatch by decide),
    dif_pos (show (0 : Fin S512x1024.rank) ∈ D.lhsNonContracting by decide)]
  rfl
theorem rhs_1 (i : S512x4096.Idx) (q : D.contr.Idx) : (D.rhsIdx i q 1).val = (q ⟨0, by decide⟩).val :=
  D.rhsIdx_val_of_single rfl i q
theorem rhs_0 (i : S512x4096.Idx) (q : D.contr.Idx) : (D.rhsIdx i q 0).val = (i 1).val := by
  unfold DotDims.rhsIdx
  rw [dif_neg (show ¬(0 : Fin S4096x1024.rank) ∈ D.rhsBatch by decide),
    dif_pos (show (0 : Fin S4096x1024.rank) ∈ D.rhsNonContracting by decide)]
  rfl

/-- A point adds the contraction of its two blocks. -/
theorem pay_apply (xs : FVec Ideal S512x4096 .f32) (x0 : FVec Ideal S512x1024 .bf16) (x1 : FVec Ideal S4096x1024 .bf16) (i : S512x4096.Idx) :
    k0_pay2 (F := Ideal) xs x0 x1 i
      = xs i + ∑ k : Fin 1024, x0 (mk2 (a := 512) (b := 1024) (i 0) k) * x1 (mk2 (a := 4096) (b := 1024) (i 1) k) := by
  unfold k0_pay2
  rw [shapeCast_self]
  show xs i + FloatOps.matmul D none x0 x1 (constant S512x4096 .f32 0x00000000#32) i = _
  rw [Ideal.matmul_constant_zero_apply, ← Equiv.sum_comp (ValueIdx.contrEquiv1 D 1024 rfl rfl).symm]
  refine congrArg (fun s : EReal => xs i + s) (Finset.sum_congr rfl fun k _ => ?_)
  have hk := ValueIdx.contrEquiv1_symm_val D 1024 rfl rfl k
  rw [show D.lhsIdx i ((ValueIdx.contrEquiv1 D 1024 rfl rfl).symm k) = mk2 (a := 512) (b := 1024) (i 0) k from
      ext2 (a := 512) (b := 1024) (lhs_0 _ _) ((lhs_1 _ _).trans hk),
    show D.rhsIdx i ((ValueIdx.contrEquiv1 D 1024 rfl rfl).symm k) = mk2 (a := 4096) (b := 1024) (i 1) k from
      ext2 (a := 4096) (b := 1024) (rhs_0 _ _) ((rhs_1 _ _).trans hk)]

/-! ## The whole product -/

variable (m : (ℓ : Loc nD τ sig) → Buf (Elt Ideal) ℓ) (ρ : Dev nD → PrngReg)

/-- Block `b` of the contraction for row `r` and column `k`. -/
def part (x : FVec Ideal S6144x14336 .bf16) (w : FVec Ideal S4096x14336 .bf16) (r : Fin 6144) (k : Fin 4096) (b : ℕ) : EReal :=
  if h : b < 14 then ∑ n : Fin 1024, x (mk2 (a := 6144) (b := 14336) r ⟨1024 * b + n.val, by omega⟩)
    * w (mk2 (a := 4096) (b := 14336) k ⟨1024 * b + n.val, by omega⟩) else 0

/-- The product: row `r` of `x` with row `k` of `w`. -/
def prod (x : FVec Ideal S6144x14336 .bf16) (w : FVec Ideal S4096x14336 .bf16) (r : Fin 6144) (k : Fin 4096) : EReal :=
  ∑ n : Fin 14336, x (mk2 (a := 6144) (b := 14336) r n) * w (mk2 (a := 4096) (b := 14336) k n)

/-- The fourteen blocks make the whole. -/
theorem sum_part (x : FVec Ideal S6144x14336 .bf16) (w : FVec Ideal S4096x14336 .bf16) (r : Fin 6144) (k : Fin 4096) :
    ∑ b ∈ Finset.range 14, part x w r k b = prod x w r k := by
  rw [Finset.sum_range]
  show _ = ∑ n : Fin (14 * 1024), x (mk2 (a := 6144) (b := 14336) r n) * w (mk2 (a := 4096) (b := 14336) k n)
  rw [← Equiv.sum_comp (finProdFinEquiv (m := 14) (n := 1024)), Fintype.sum_prod_type]
  refine Finset.sum_congr rfl fun b _ => ?_
  unfold part
  rw [dif_pos b.isLt]
  refine Finset.sum_congr rfl fun n _ => ?_
  have e : ((finProdFinEquiv (m := 14) (n := 1024) (b, n)) : Fin (14 * 1024)) = (⟨1024 * b.val + n.val, by omega⟩ : Fin 14336) :=
    Fin.ext (by show n.val + 1024 * b.val = 1024 * b.val + n.val; omega)
  exact congrArg (fun q : Fin 14336 => x (mk2 (a := 6144) (b := 14336) r q) * w (mk2 (a := 4096) (b := 14336) k q)) e.symm

/-- Block indices at grid point `t`: row block `t / 14` of `dy`, contraction block `t % 14` of both. -/
theorem index_facts : ∀ t : Fin cfg0.N,
    win0_0.index t 0 = t.val / 14 ∧ win0_0.index t 1 = t.val % 14 ∧ win0_1.index t 0 = 0 ∧ win0_1.index t 1 = t.val % 14 :=
  (by decide +kernel : ∀ t : Fin grid0.N,
    win0_0.index t 0 = t.val / 14 ∧ win0_0.index t 1 = t.val % 14 ∧ win0_1.index t 0 = 0 ∧ win0_1.index t 1 = t.val % 14)

theorem iblk0_apply (c : Dev nD) (t : Fin cfg0.N) (j : S512x1024.Idx) (i : S6144x14336.Idx)
    (h0 : (i 0).val = win0_0.index t 0 * 512 + (j 0).val) (h1 : (i 1).val = win0_0.index t 1 * 1024 + (j 1).val) :
    iblk m c 0 t j = m ((c : Thread nD τ).loc main_arg0) i := by
  show m ((c : Thread nD τ).loc main_arg0) ((win0_0.blk t).view.emb j) = _
  refine congrArg _ (funext fun a => Fin.ext ?_)
  match a with
  | ⟨0, _⟩ => refine Eq.trans ?_ h0.symm; show win0_0.index t 0 * 512 + 1 * (j 0).val = _; omega
  | ⟨1, _⟩ => refine Eq.trans ?_ h1.symm; show win0_0.index t 1 * 1024 + 1 * (j 1).val = _; omega

theorem iblk1_apply (c : Dev nD) (t : Fin cfg0.N) (j : S4096x1024.Idx) (i : S4096x14336.Idx)
    (h0 : (i 0).val = win0_1.index t 0 * 4096 + (j 0).val) (h1 : (i 1).val = win0_1.index t 1 * 1024 + (j 1).val) :
    iblk m c 1 t j = m ((c : Thread nD τ).loc main_arg1) i := by
  show m ((c : Thread nD τ).loc main_arg1) ((win0_1.blk t).view.emb j) = _
  refine congrArg _ (funext fun a => Fin.ext ?_)
  match a with
  | ⟨0, _⟩ => refine Eq.trans ?_ h0.symm; show win0_1.index t 0 * 4096 + 1 * (j 0).val = _; omega
  | ⟨1, _⟩ => refine Eq.trans ?_ h1.symm; show win0_1.index t 1 * 1024 + 1 * (j 1).val = _; omega

/-- What point `t` adds is its block of the contraction. -/
theorem pay_part (c : Dev nD) (t : Fin cfg0.N) (xs : FVec Ideal S512x4096 .f32) (i : S512x4096.Idx) (r : Fin 6144)
    (hr : r.val = 512 * (t.val / 14) + (i 0).val) :
    k0_pay2 (F := Ideal) xs (iblk m c 0 t) (iblk m c 1 t) i
      = xs i + part (m ((c : Thread nD τ).loc main_arg0)) (m ((c : Thread nD τ).loc main_arg1)) r (i 1) (t.val % 14) := by
  obtain ⟨a0, a1, b0, b1⟩ := index_facts t
  rw [pay_apply]
  unfold part
  rw [dif_pos (Nat.mod_lt _ (by decide))]
  refine congrArg (fun s : EReal => xs i + s) (Finset.sum_congr rfl fun k _ => ?_)
  rw [iblk0_apply m c t (mk2 (a := 512) (b := 1024) (i 0) k)
      (mk2 (a := 6144) (b := 14336) r ⟨1024 * (t.val % 14) + k.val, by omega⟩)
      (by show r.val = win0_0.index t 0 * 512 + (i 0).val; omega)
      (by show 1024 * (t.val % 14) + k.val = win0_0.index t 1 * 1024 + k.val; omega),
    iblk1_apply m c t (mk2 (a := 4096) (b := 1024) (i 1) k)
      (mk2 (a := 4096) (b := 14336) (i 1) ⟨1024 * (t.val % 14) + k.val, by omega⟩)
      (by show (i 1).val = win0_1.index t 0 * 4096 + (i 1).val; omega)
      (by show 1024 * (t.val % 14) + k.val = win0_1.index t 1 * 1024 + k.val; omega)]

theorem pay1_apply (i : S512x4096.Idx) : k0_pay1 (F := Ideal) i = 0 := by
  unfold k0_pay1
  first
  | exact ofBits_zero
  | (rw [shapeCast_self]; exact ofBits_zero)

/-- The accumulator after point `14 g + q`, short of a last point: the first `q + 1` blocks. -/
theorem acc_eq (c : Dev nD) (g : ℕ) (i : S512x4096.Idx) (r : Fin 6144) (hr : r.val = 512 * g + (i 0).val) : ∀ (q : ℕ) (hq : q < 13) (h : 14 * g + q < cfg0.N),
    (outsAt0 m c (14 * g + q) h).2.2.2 i
      = ∑ b ∈ Finset.range (q + 1), part (m ((c : Thread nD τ).loc main_arg0)) (m ((c : Thread nD τ).loc main_arg1)) r (i 1) b
  | 0, _, h => by
    have e : (outsAt0 m c (14 * g + 0) h).2.2.2 = _ := congrArg (fun p => p.2.2.2)
      (outsAt0_A m c ⟨14 * g + 0, h⟩ (by show (14 * g + 0) % 14 = 0; omega) (by show ¬(14 * g + 0) % 14 = 13; omega))
    rw [e]
    dsimp only
    rw [sout_A, pay_part m c ⟨14 * g + 0, h⟩ _ i r (by show r.val = 512 * ((14 * g + 0) / 14) + (i 0).val; omega), pay1_apply, zero_add,
      Finset.sum_range_one]
    exact congrArg _ (by show (14 * g + 0) % 14 = 0; omega)
  | q + 1, hq, h => by
    have e : (outsAt0 m c (14 * g + (q + 1)) h).2.2.2 = _ := congrArg (fun p => p.2.2.2)
      (outsAt0_B m c ⟨14 * g + (q + 1), h⟩ (by show ¬(14 * g + (q + 1)) % 14 = 0; omega) (by show ¬(14 * g + (q + 1)) % 14 = 13; omega))
    rw [e]
    dsimp only
    rw [sout_B, pay_part m c ⟨14 * g + (q + 1), h⟩ _ i r (by show r.val = 512 * ((14 * g + (q + 1)) / 14) + (i 0).val; omega),
      Finset.sum_range_succ]
    refine congrArg₂ (fun a b : EReal => a + b) (acc_eq c g i r hr q (by omega) (by omega)) ?_
    exact congrArg _ (by show (14 * g + (q + 1)) % 14 = q + 1; omega)

/-- At the last point of row `g` of the grid, the finished accumulator is the product's rows `512 g …`. -/
theorem last_eq (c : Dev nD) (g : ℕ) (h : 14 * g + 13 < cfg0.N) (i : S512x4096.Idx) (r : Fin 6144) (hr : r.val = 512 * g + (i 0).val) :
    k0_pay2 (F := Ideal) (outsAt0 m c (14 * g + 12) (by omega)).2.2.2 (iblk m c 0 ⟨14 * g + 13, h⟩) (iblk m c 1 ⟨14 * g + 13, h⟩) i
      = prod (m ((c : Thread nD τ).loc main_arg0)) (m ((c : Thread nD τ).loc main_arg1)) r (i 1) := by
  rw [pay_part m c ⟨14 * g + 13, h⟩ _ i r (by show r.val = 512 * ((14 * g + 13) / 14) + (i 0).val; omega),
    acc_eq m c g i r hr 12 (by omega) (by omega)]
  refine Eq.trans ?_ (sum_part _ _ r (i 1))
  rw [Finset.sum_range_succ _ 13]
  refine congrArg (fun b : EReal => _ + b) (congrArg _ ?_)
  show (14 * g + 13) % 14 = 13
  omega

/-! ## The staged blocks -/

theorem rowsOf_apply (A : Vec Ideal S512x4096 .f32) (k : Fin k0_t1_loop.trips) (r : Fin 32) (c : Fin 4096) (R : Fin 512)
    (hR : R.val = 32 * k.val + r.val) : rowsOf A k (mk2 (a := 32) (b := 4096) r c) = A (mk2 (a := 512) (b := 4096) R c) := by
  have h := k0_off1_eq k
  show A _ = A _
  refine congrArg A (ext2 (a := 512) (b := 4096) ?_ ?_)
  · show k0_off1 k 0 + 1 * r.val = R.val
    rw [h]; show 32 * k.val + 1 * r.val = _; omega
  · show k0_off1 k 1 + 1 * c.val = c.val
    rw [h]; show 0 + 1 * c.val = _; omega

theorem dxv_rowsOf (A : Vec Ideal S512x4096 .f32) (k : Fin k0_t1_loop.trips) (r : Fin 32) (c : Fin 4096) (R : Fin 512)
    (hR : R.val = 32 * k.val + r.val) :
    dxv (rowsOf A k) r c = (A (mk2 (a := 512) (b := 4096) R c) : EReal) * Ideal.ofBits .f32 0x3FE38E39#32 :=
  congrArg (fun s : EReal => s * Ideal.ofBits .f32 0x3FE38E39#32) (rowsOf_apply A k r c R hR)

theorem dxBlock_apply (A : Vec Ideal S512x4096 .f32) (y : S512x4096.Idx) :
    dxBlock A y = (A y : EReal) * Ideal.ofBits .f32 0x3FE38E39#32 := by
  have h0 : (y 0).val < 512 := (y 0).isLt
  have e : locR (n := 4096) y = mk2 (a := 32) (b := 4096) ⟨(y 0).val % 32, Nat.mod_lt _ (by decide)⟩ (y 1) :=
    ext2 (a := 32) (b := 4096) rfl rfl
  have e' : mk2 (a := 512) (b := 4096) (y 0) (y 1) = y := ext2 (a := 512) (b := 4096) rfl rfl
  show k0_pay4 (rowsOf A (grp y)) (locR y) = _
  rw [e]
  refine (dxv_rowsOf A (grp y) _ (y 1) (y 0) ?_).trans (congrArg (fun j => (A j : EReal) * Ideal.ofBits .f32 0x3FE38E39#32) e')
  show (y 0).val = 32 * ((y 0).val / 32) + (y 0).val % 32
  omega

theorem codeBlock_apply (A : Vec Ideal S512x4096 .f32) (y : S512x4096.Idx) :
    codeBlock A y = codeOf (bm fun j => (A (mk2 (a := 512) (b := 4096) (y 0) (⟨32 * ((y 1).val / 32) + j.val,
        by have := (y 1).isLt; have : (y 1).val < 4096 := this; omega⟩ : Fin 4096)) : EReal) * Ideal.ofBits .f32 0x3FE38E39#32)
      ((A y : EReal) * Ideal.ofBits .f32 0x3FE38E39#32) := by
  have h0 : (y 0).val < 512 := (y 0).isLt
  have e' : mk2 (a := 512) (b := 4096) (y 0) (y 1) = y := ext2 (a := 512) (b := 4096) rfl rfl
  have hr : (y 0).val = 32 * (grp y).val + (y 0).val % 32 := by
    show (y 0).val = 32 * ((y 0).val / 32) + (y 0).val % 32
    omega
  refine (codesT_apply (rowsOf A (grp y)) (tl y) (locT y) (y 1) ?_).trans ?_
  · show (y 1).val = 128 * ((y 1).val / 128) + (y 1).val % 128
    omega
  · refine congrArg₂ codeOf (congrArg bm (funext fun j => ?_)) ?_
    · exact dxv_rowsOf A (grp y) _ _ (y 0) hr
    · exact (dxv_rowsOf A (grp y) _ (y 1) (y 0) hr).trans (congrArg (fun j => (A j : EReal) * Ideal.ofBits .f32 0x3FE38E39#32) e')

theorem scaleBlock_apply (A : Vec Ideal S512x4096 .f32) (y : S512x128.Idx) :
    scaleBlock A y = (kexp (bm fun j => (A (mk2 (a := 512) (b := 4096) (y 0) (⟨32 * (y 1).val + j.val,
        by have := (y 1).isLt; have : (y 1).val < 128 := this; omega⟩ : Fin 4096)) : EReal) * Ideal.ofBits .f32 0x3FE38E39#32)).setWidth 8 := by
  have h0 : (y 0).val < 512 := (y 0).isLt
  have hr : (y 0).val = 32 * (grp y).val + (y 0).val % 32 := by
    show (y 0).val = 32 * ((y 0).val / 32) + (y 0).val % 32
    omega
  refine (scalesT_apply (rowsOf A (grp y)) (locR y)).trans ?_
  refine congrArg (fun e : EReal => (kexp e).setWidth 8) (congrArg bm (funext fun j => ?_))
  exact dxv_rowsOf A (grp y) _ _ (y 0) hr

/-! ## The arrays -/

/-- The scaled product at row `r`, column `k`. -/
def dxE (x : FVec Ideal S6144x14336 .bf16) (w : FVec Ideal S4096x14336 .bf16) (r : Fin 6144) (k : Fin 4096) : EReal :=
  prod x w r k * Ideal.ofBits .f32 0x3FE38E39#32

/-- The largest magnitude of a scaled product's group of 32 columns, as a fraction of the largest code. -/
def grpM (x : FVec Ideal S6144x14336 .bf16) (w : FVec Ideal S4096x14336 .bf16) (r : Fin 6144) (b : Fin 128) : EReal :=
  bm fun j => dxE x w r ⟨32 * b.val + j.val, by omega⟩

/-- The finished accumulator of row `g` of the grid. -/
def fin (c : Dev nD) (g : ℕ) (h : 14 * g + 13 < cfg0.N) : FVec Ideal S512x4096 .f32 :=
  k0_pay2 (F := Ideal) (outsAt0 m c (14 * g + 12) (by omega)).2.2.2 (iblk m c 0 ⟨14 * g + 13, h⟩) (iblk m c 1 ⟨14 * g + 13, h⟩)

theorem fin_eq (c : Dev nD) (g : ℕ) (h : 14 * g + 13 < cfg0.N) (r : Fin 6144) (y : Fin 512) (k : Fin 4096) (hr : r.val = 512 * g + y.val) :
    (fin m c g h (mk2 (a := 512) (b := 4096) y k) : EReal) * Ideal.ofBits .f32 0x3FE38E39#32
      = dxE (m ((c : Thread nD τ).loc main_arg0)) (m ((c : Thread nD τ).loc main_arg1)) r k :=
  congrArg (fun s : EReal => s * Ideal.ofBits .f32 0x3FE38E39#32) (last_eq m c g h (mk2 (a := 512) (b := 4096) y k) r hr)

theorem stage (c : Dev nD) (g : ℕ) (h : 14 * g + 13 < cfg0.N) :
    (outsAt0 m c (14 * g + 13) h).1 = dxBlock (fin m c g h)
    ∧ (outsAt0 m c (14 * g + 13) h).2.1 = codeBlock (fin m c g h)
    ∧ (outsAt0 m c (14 * g + 13) h).2.2.1 = scaleBlock (fin m c g h) := by
  have e := outsAt0_C m c ⟨14 * g + 13, h⟩ (by show ¬(14 * g + 13) % 14 = 0; omega) (by show (14 * g + 13) % 14 = 13; omega)
  refine ⟨(congrArg (fun p => p.1) e).trans ?_, (congrArg (fun p => p.2.1) e).trans ?_, (congrArg (fun p => p.2.2.1) e).trans ?_⟩
  · dsimp only
    rw [out_C_2]
    rfl
  · dsimp only
    rw [out_C_3]
    rfl
  · dsimp only
    rw [out_C_4]
    rfl

theorem N_eq : cfg0.N = 168 := N_0

/-- The first result: the scaled product. -/
theorem G2_apply (c : Dev nD) (i : S6144x4096.Idx) :
    Value.G2 m c i = dxE (m ((c : Thread nD τ).loc main_arg0)) (m ((c : Thread nD τ).loc main_arg1)) (i 0) (i 1) := by
  have h0 : (i 0).val < 6144 := (i 0).isLt
  have h1 : (i 1).val < 4096 := (i 1).isLt
  have hp : Value.pt2Of i = 14 * ((i 0).val / 512) + 13 := by
    show 14 * (1 * ((i 0).val / 512 - 0) + 1 * ((i 1).val / 4096 - 0)) + 13 = _
    omega
  have hN : 14 * ((i 0).val / 512) + 13 < cfg0.N := by rw [N_eq]; omega
  have hd : Value.pt2Of i < cfg0.N := by rw [hp]; exact hN
  have hl : Value.loc2Of i = mk2 (a := 512) (b := 4096) ⟨(i 0).val % 512, Nat.mod_lt _ (by decide)⟩ (i 1) :=
    ext2 (a := 512) (b := 4096) rfl (by show (i 1).val % 4096 = (i 1).val; omega)
  have hr : (i 0).val = 512 * ((i 0).val / 512) + (i 0).val % 512 := by omega
  unfold Value.G2
  rw [dif_pos hd, ← Value.outsAt0_sweep m c _ hd]
  simp only [hp]
  rw [(stage m c _ hN).1, hl, dxBlock_apply]
  exact fin_eq m c _ hN (i 0) _ (i 1) hr

/-- The second: its codes, against the magnitude of the group of 32 columns an entry lies in. -/
theorem G3_apply (c : Dev nD) (i : S6144x4096.Idx) :
    Value.G3 m c i = codeOf (grpM (m ((c : Thread nD τ).loc main_arg0)) (m ((c : Thread nD τ).loc main_arg1)) (i 0)
      ⟨(i 1).val / 32, by have h : (i 1).val < 4096 := (i 1).isLt; omega⟩) (dxE (m ((c : Thread nD τ).loc main_arg0)) (m ((c : Thread nD τ).loc main_arg1)) (i 0) (i 1)) := by
  have h0 : (i 0).val < 6144 := (i 0).isLt
  have h1 : (i 1).val < 4096 := (i 1).isLt
  have hp : Value.pt3Of i = 14 * ((i 0).val / 512) + 13 := by
    show 14 * (1 * ((i 0).val / 512 - 0) + 1 * ((i 1).val / 4096 - 0)) + 13 = _
    omega
  have hN : 14 * ((i 0).val / 512) + 13 < cfg0.N := by rw [N_eq]; omega
  have hd : Value.pt3Of i < cfg0.N := by rw [hp]; exact hN
  have hl : Value.loc3Of i = mk2 (a := 512) (b := 4096) ⟨(i 0).val % 512, Nat.mod_lt _ (by decide)⟩ (i 1) :=
    ext2 (a := 512) (b := 4096) rfl (by show (i 1).val % 4096 = (i 1).val; omega)
  have hr : (i 0).val = 512 * ((i 0).val / 512) + (i 0).val % 512 := by omega
  unfold Value.G3
  rw [dif_pos hd, ← Value.outsAt0_sweep m c _ hd]
  simp only [hp]
  rw [(stage m c _ hN).2.1, hl, codeBlock_apply]
  refine congrArg₂ codeOf (congrArg bm (funext fun j => ?_)) ?_
  · exact fin_eq m c _ hN (i 0) _ _ hr
  · exact fin_eq m c _ hN (i 0) _ (i 1) hr

/-- The third: the groups' exponents. -/
theorem G4_apply (c : Dev nD) (i : S6144x128.Idx) :
    Value.G4 m c i = (kexp (grpM (m ((c : Thread nD τ).loc main_arg0)) (m ((c : Thread nD τ).loc main_arg1)) (i 0) (i 1))).setWidth 8 := by
  have h0 : (i 0).val < 6144 := (i 0).isLt
  have h1 : (i 1).val < 128 := (i 1).isLt
  have hp : Value.pt4Of i = 14 * ((i 0).val / 512) + 13 := by
    show 14 * (1 * ((i 0).val / 512 - 0) + 1 * ((i 1).val / 128 - 0)) + 13 = _
    omega
  have hN : 14 * ((i 0).val / 512) + 13 < cfg0.N := by rw [N_eq]; omega
  have hd : Value.pt4Of i < cfg0.N := by rw [hp]; exact hN
  have hl : Value.loc4Of i = mk2 (a := 512) (b := 128) ⟨(i 0).val % 512, Nat.mod_lt _ (by decide)⟩ (i 1) :=
    ext2 (a := 512) (b := 128) rfl (by show (i 1).val % 128 = (i 1).val; omega)
  have hr : (i 0).val = 512 * ((i 0).val / 512) + (i 0).val % 512 := by omega
  unfold Value.G4
  rw [dif_pos hd, ← Value.outsAt0_sweep m c _ hd]
  simp only [hp]
  rw [(stage m c _ hN).2.2, hl, scaleBlock_apply]
  refine congrArg (fun e : EReal => (kexp e).setWidth 8) (congrArg bm (funext fun j => ?_))
  exact fin_eq m c _ hN (i 0) _ _ hr

end Cert.DxKernelIdeal.DxArray

end
-- ==== Proof.DxRef.lean ====
/- What the reference of `dx_matmul` computes, over the reals and entry by entry: the scaled product; each group's
   exponent, from the logarithm of its scaled maximum; the codes and the scales. -/
module

public import proofs.«01_k».proof.Proof.DxRefRun
public import proofs.«01_k».proof.Proof.DxArray

@[expose] public section

noncomputable section

namespace Cert.DxReferenceIdeal.DxRef

open Cert.DxReferenceIdeal Cert.DxReferenceIdeal.Gen Cert.DxExp
open Cert.DxKernelIdeal.DxTile (mk2 ext2 bm ofBool_ite ofBits_zero)
open Cert.DxKernelIdeal.DxArray (prod dxE grpM)
open Idealize.ShloMosaic Idealize.ShloMosaic.TcCoe Idealize.SL.Sem

/-! ## The constants -/

theorem two_eq : Ideal.ofBits .f32 0x40000000#32 = ((2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem bot_eq : Ideal.ofBits .f32 0xFF800000#32 = ⊥ := by
  simp [Ideal.ofBits, Ideal.ieee]

/-! ## The product -/

abbrev D : DotDims S6144x14336 S4096x14336 S6144x4096 := dot_S6144x14336_S4096x14336_S6144x4096_1_1_0_0_n_n

theorem lhs_1 (i : S6144x4096.Idx) (q : D.contr.Idx) : (D.lhsIdx i q 1).val = (q ⟨0, by decide⟩).val :=
  D.lhsIdx_val_of_single rfl i q
theorem lhs_0 (i : S6144x4096.Idx) (q : D.contr.Idx) : (D.lhsIdx i q 0).val = (i 0).val := by
  unfold DotDims.lhsIdx
  rw [dif_neg (show ¬(0 : Fin S6144x14336.rank) ∈ D.lhsBatch by decide),
    dif_pos (show (0 : Fin S6144x14336.rank) ∈ D.lhsNonContracting by decide)]
  rfl
theorem rhs_1 (i : S6144x4096.Idx) (q : D.contr.Idx) : (D.rhsIdx i q 1).val = (q ⟨0, by decide⟩).val :=
  D.rhsIdx_val_of_single rfl i q
theorem rhs_0 (i : S6144x4096.Idx) (q : D.contr.Idx) : (D.rhsIdx i q 0).val = (i 1).val := by
  unfold DotDims.rhsIdx
  rw [dif_neg (show ¬(0 : Fin S4096x14336.rank) ∈ D.rhsBatch by decide),
    dif_pos (show (0 : Fin S4096x14336.rank) ∈ D.rhsNonContracting by decide)]
  rfl

variable (x : Vec Ideal S6144x14336 .bf16) (w : Vec Ideal S4096x14336 .bf16)

/-- The first result: the scaled product. -/
theorem pay1_apply (i : S6144x4096.Idx) : k0_pay1 x w i = dxE x w (i 0) (i 1) := by
  show FloatOps.matmul (F := Ideal) (φ₁ := .bf16) (φ₂ := .bf16) D none x w (constant S6144x4096 .f32 0x00000000#32) i * Ideal.ofBits .f32 0x3FE38E39#32 = _
  refine congrArg (fun s : EReal => s * Ideal.ofBits .f32 0x3FE38E39#32) ?_
  rw [Ideal.matmul_constant_zero_apply, ← Equiv.sum_comp (ValueIdx.contrEquiv1 D 14336 rfl rfl).symm]
  refine Finset.sum_congr rfl fun k _ => ?_
  have hk := ValueIdx.contrEquiv1_symm_val D 14336 rfl rfl k
  rw [show D.lhsIdx i ((ValueIdx.contrEquiv1 D 14336 rfl rfl).symm k) = mk2 (a := 6144) (b := 14336) (i 0) k from
      ext2 (a := 6144) (b := 14336) (lhs_0 _ _) ((lhs_1 _ _).trans hk),
    show D.rhsIdx i ((ValueIdx.contrEquiv1 D 14336 rfl rfl).symm k) = mk2 (a := 4096) (b := 14336) (i 1) k from
      ext2 (a := 4096) (b := 14336) (rhs_0 _ _) ((rhs_1 _ _).trans hk)]

/-! ## The groups -/

/-- An index of the array of groups. -/
def mk3 {a b c : ℕ} (r : Fin a) (s : Fin b) (t : Fin c) : Shape.Idx ⟨3, ![a, b, c]⟩ := fun | 0 => r | 1 => s | 2 => t

theorem ext3 {a b c : ℕ} {x y : Shape.Idx ⟨3, ![a, b, c]⟩} (h0 : (x 0).val = (y 0).val) (h1 : (x 1).val = (y 1).val)
    (h2 : (x 2).val = (y 2).val) : x = y :=
  funext fun i => Fin.ext (match i with | 0 => h0 | 1 => h1 | 2 => h2)

/-- A row cut into groups of 32. -/
theorem pay2_apply (r : Fin 6144) (b : Fin 128) (j : Fin 32) :
    k0_pay2 x w (mk3 (a := 6144) (b := 128) (c := 32) r b j) = dxE x w r ⟨32 * b.val + j.val, by omega⟩ := by
  unfold k0_pay2
  refine (shapeCast_apply _ _ _ (mk2 (a := 6144) (b := 4096) r ⟨32 * b.val + j.val, by omega⟩) ?_).trans (pay1_apply x w _)
  rw [Shape.rowMajor_val_two, Shape.rowMajor_val_three]
  show r.val * 4096 + (32 * b.val + j.val) = (r.val * 128 + b.val) * 32 + j.val
  omega

/-- The largest magnitude in a group. -/
def amax (r : Fin 6144) (b : Fin 128) : EReal :=
  (Finset.univ : Finset (Fin 32)).fold max ⊥ fun j =>
    max (dxE x w r ⟨32 * b.val + j.val, by omega⟩) (-dxE x w r ⟨32 * b.val + j.val, by omega⟩)

theorem grpM_eq (r : Fin 6144) (b : Fin 128) : grpM x w r b = amax x w r b * Ideal.ofBits .f32 0x3B124925#32 := rfl

theorem max_lanes (g : FVec Ideal S6144x128x32 .f32) (j : S6144x128.Idx) :
    multiReduction .maximumf [2] S6144x128 g 0xFF800000#32 reduces_S6144x128x32_S6144x128 (.inl rfl) rfl j
      = (Finset.univ : Finset (Fin (S6144x128x32.size 2))).fold max (Ideal.ofBits .f32 0xFF800000#32)
        (g ∘ reduces_S6144x128x32_S6144x128.lift j) :=
  Ideal.multiReduction_maximumf_single g _ _ _ _ j

theorem reduce_apply (r : Fin 6144) (b : Fin 128) :
    multiReduction .maximumf [2] S6144x128 (absf (k0_pay2 x w)) 0xFF800000#32 reduces_S6144x128x32_S6144x128 (.inl rfl) rfl
      (mk2 (a := 6144) (b := 128) r b) = amax x w r b := by
  refine (max_lanes (absf (k0_pay2 x w)) (mk2 (a := 6144) (b := 128) r b)).trans ?_
  rw [bot_eq]
  unfold amax
  refine congrArg (fun f => (Finset.univ : Finset (Fin 32)).fold max (⊥ : EReal) f) (funext fun j => ?_)
  have e : reduces_S6144x128x32_S6144x128.lift (mk2 (a := 6144) (b := 128) r b) j = mk3 (a := 6144) (b := 128) (c := 32) r b j :=
    ext3 (a := 6144) (b := 128) (c := 32) rfl rfl rfl
  exact congrArg (fun u : EReal => max u (-u)) ((congrArg (k0_pay2 x w) e).trans (pay2_apply x w r b j))

/-- The groups' largest magnitudes. -/
def mx : FVec Ideal S6144x128x1 .f32 :=
  shapeCast S6144x128x1 (multiReduction .maximumf [2] S6144x128 (absf (k0_pay2 x w)) 0xFF800000#32
    reduces_S6144x128x32_S6144x128 (.inl rfl) rfl) shapeCasts_S6144x128_S6144x128x1

/-- The exponents, of the largest magnitudes. -/
def ex (g : FVec Ideal S6144x128x1 .f32) : FVec Ideal S6144x128x1 .f32 :=
  select (cmpf .oeq g (broadcast S6144x128x1 (Scalar.ofBits .f32 0x00000000#32))) (broadcast S6144x128x1 (Scalar.ofBits .f32 0x00000000#32))
    (addf (floor (divf (log (mulf g (broadcast S6144x128x1 (Scalar.ofBits .f32 0x3B124925#32))))
      (log (broadcast S6144x128x1 (Scalar.ofBits .f32 0x40000000#32))))) (broadcast S6144x128x1 (Scalar.ofBits .f32 0x3F800000#32)))

theorem pay3_eq : k0_pay3 x w = ex (mx x w) := rfl

theorem mx_apply (r : Fin 6144) (b : Fin 128) (z : Fin 1) : mx x w (mk3 (a := 6144) (b := 128) (c := 1) r b z) = amax x w r b := by
  unfold mx
  refine (shapeCast_apply _ _ _ (mk2 (a := 6144) (b := 128) r b) ?_).trans (reduce_apply x w r b)
  rw [Shape.rowMajor_val_two, Shape.rowMajor_val_three]
  show r.val * 128 + b.val = (r.val * 128 + b.val) * 1 + z.val
  omega

theorem ex_apply (g : FVec Ideal S6144x128x1 .f32) (i : S6144x128x1.Idx) :
    ex g i = rexp (g i) (g i * Ideal.ofBits .f32 0x3B124925#32 : EReal) := by
  show (if BitVec.ofBool (decide (g i = Ideal.ofBits .f32 0x00000000#32)) = 1 then Ideal.ofBits .f32 0x00000000#32
    else Ideal.liftRound Int.floor (Ideal.div (Ideal.log (g i * Ideal.ofBits .f32 0x3B124925#32))
      (Ideal.log (Ideal.ofBits .f32 0x40000000#32))) + Ideal.ofBits .f32 0x3F800000#32) = _
  rw [ofBool_ite, ofBits_zero, two_eq, one_eq]
  rfl

/-- A group's exponent. -/
theorem pay3_apply (r : Fin 6144) (b : Fin 128) (z : Fin 1) :
    k0_pay3 x w (mk3 (a := 6144) (b := 128) (c := 1) r b z) = rexp (amax x w r b) (grpM x w r b) := by
  rw [pay3_eq, ex_apply, mx_apply, grpM_eq]

/-- The code of an entry of a group. -/
def rcode (e v : EReal) : EReal :=
  min (Ideal.ofBits .f32 0x43E00000#32) (max (Ideal.ofBits .f32 0xC3E00000#32) (v * Ideal.exp2 (0 - e)))

theorem inv_apply (g : FVec Ideal S6144x128x1 .f32) (i : S6144x128x1.Idx) :
    exp2 (subf (broadcast S6144x128x1 (Scalar.ofBits .f32 0x00000000#32)) g) i = Ideal.exp2 (0 - g i : EReal) := by
  rw [← ofBits_zero]
  rfl

/-- The second result: the codes. -/
theorem pay4_apply (i : S6144x4096.Idx) (b : Fin 128) (hb : b.val = (i 1).val / 32) :
    k0_pay4 x w i = rcode (rexp (amax x w (i 0) b) (grpM x w (i 0) b)) (dxE x w (i 0) (i 1)) := by
  have h1 : (i 1).val < 4096 := (i 1).isLt
  have hj : (i 1).val % 32 < 32 := Nat.mod_lt _ (by decide)
  unfold k0_pay4
  refine (shapeCast_apply _ _ i (mk3 (a := 6144) (b := 128) (c := 32) (i 0) b ⟨(i 1).val % 32, hj⟩) ?_).trans ?_
  · rw [Shape.rowMajor_val_two, Shape.rowMajor_val_three]
    show ((i 0).val * 128 + b.val) * 32 + (i 1).val % 32 = (i 0).val * 4096 + (i 1).val
    omega
  · have hbc := broadcastTo_apply (exp2 (subf (broadcast S6144x128x1 (Scalar.ofBits .f32 0x00000000#32)) (k0_pay3 x w)))
      broadcasts_S6144x128x1_S6144x128x32 (mk3 (a := 6144) (b := 128) (c := 32) (i 0) b ⟨(i 1).val % 32, hj⟩)
      (mk3 (a := 6144) (b := 128) (c := 1) (i 0) b 0) (fun a => by
        match a with
        | 0 => rfl
        | 1 => rfl
        | 2 => rfl)
    show min (Ideal.ofBits .f32 0x43E00000#32) (max (Ideal.ofBits .f32 0xC3E00000#32)
      (k0_pay2 x w (mk3 (a := 6144) (b := 128) (c := 32) (i 0) b ⟨(i 1).val % 32, hj⟩)
        * broadcastTo S6144x128x32 (exp2 (subf (broadcast S6144x128x1 (Scalar.ofBits .f32 0x00000000#32)) (k0_pay3 x w)))
      broadcasts_S6144x128x1_S6144x128x32 (mk3 (a := 6144) (b := 128) (c := 32) (i 0) b ⟨(i 1).val % 32, hj⟩))) = _
    have hz : exp2 (subf (broadcast S6144x128x1 (Scalar.ofBits .f32 0x00000000#32)) (k0_pay3 x w)) (mk3 (a := 6144) (b := 128) (c := 1) (i 0) b 0)
        = Ideal.exp2 (0 - rexp (amax x w (i 0) b) (grpM x w (i 0) b)) := by
      rw [inv_apply, ← pay3_apply x w (i 0) b 0]
    have hi : (⟨32 * b.val + (i 1).val % 32, by omega⟩ : Fin 4096) = i 1 := Fin.ext (by show 32 * b.val + (i 1).val % 32 = _; omega)
    have hv : k0_pay2 x w (mk3 (a := 6144) (b := 128) (c := 32) (i 0) b ⟨(i 1).val % 32, hj⟩) = dxE x w (i 0) (i 1) :=
      Eq.trans (pay2_apply x w (i 0) b ⟨(i 1).val % 32, hj⟩) (congrArg (fun k : Fin 4096 => dxE x w (i 0) k) hi)
    rw [hbc, hv, hz]
    rfl

/-- The third result: the scales. -/
theorem pay5_apply (i : S6144x128.Idx) :
    k0_pay5 x w i = Ideal.fptosi 8 (rexp (amax x w (i 0) (i 1)) (grpM x w (i 0) (i 1))) := by
  unfold k0_pay5
  refine congrArg (Ideal.fptosi 8) ((shapeCast_apply _ _ i (mk3 (a := 6144) (b := 128) (c := 1) (i 0) (i 1) 0) ?_).trans (pay3_apply x w _ _ _))
  rw [Shape.rowMajor_val_two, Shape.rowMajor_val_three]
  show ((i 0).val * 128 + (i 1).val) * 1 + 0 = (i 0).val * 128 + (i 1).val
  omega

end Cert.DxReferenceIdeal.DxRef

end
-- ==== Proof.DxEq.lean ====
/- The mask, and the equation under it: the mask is set for a group whose scaled maximum is zero or in the range of the
   normal floats, and there the two ways to find a group's exponent agree. -/
module

public import proofs.«01_k».proof.Proof.DxRef
public import proofs.«01_k».proof.Proof.Gen.On_in_range
public import Idealize.ShloMosaic.PureOps.Ideal.Laws

@[expose] public section

noncomputable section

namespace Cert.DxEq

open Cert.DxExp Cert.DxReferenceIdeal.DxRef
open Cert.DxReferenceIdeal (S6144x14336 S4096x14336 S6144x4096 S6144x128 S6144x128x32 S6144x128x1)
open Cert.DxKernelIdeal.DxTile (mk2 ext2 bm codeOf ofBool_ite ofBits_zero)
open Cert.DxKernelIdeal.DxArray (prod dxE grpM)
open Idealize.ShloMosaic Idealize.ShloMosaic.TcCoe Idealize.SL.Sem

/-! ## The mask -/

/-- The product the mask computes, -/
def mp (x : FVec Ideal S6144x14336 .bf16) (w : FVec Ideal S4096x14336 .bf16) : FVec Ideal S6144x4096 .f32 :=
  mulf (Host.dotGeneral (F := Ideal) (φ₁ := .bf16) (φ₂ := .bf16) Cert.On_in_range.dot_S6144x14336_S4096x14336_S6144x4096_1_1_0_0_n_n none x w)
    (broadcastInDim S6144x4096 ![] Cert.On_in_range.Gen.bcast_S_S6144x4096 (constant (F := Ideal) Cert.On_in_range.S_ .f32 0x3FE38E39#32))

/-- and the scaled maxima of its groups. -/
def mmOf (g : FVec Ideal S6144x4096 .f32) : FVec Ideal S6144x128 .f32 :=
  mulf (Host.reduce FloatOps.maximumf (Host.absf (shapeCast S6144x128x32 (extf .f32 (truncf .bf16 g
      Cert.On_in_range.Gen.bitsLt_bf16_f32) Cert.On_in_range.Gen.bitsLt_bf16_f32) Cert.On_in_range.Gen.shapeCasts_S6144x4096_S6144x128x32))
      (constant (F := Ideal) Cert.On_in_range.S_ .f32 0xFF800000#32) Cert.On_in_range.Gen.reducesTo_S6144x128x32_S6144x128_d2 Cert.On_in_range.Gen.h_S_)
    (broadcastInDim S6144x128 ![] Cert.On_in_range.Gen.bcast_S_S6144x128 (constant (F := Ideal) Cert.On_in_range.S_ .f32 0x3B124925#32))

theorem dot_apply (x : FVec Ideal S6144x14336 .bf16) (w : FVec Ideal S4096x14336 .bf16) (i : S6144x4096.Idx) :
    Host.dotGeneral (F := Ideal) (φ₁ := .bf16) (φ₂ := .bf16) Cert.On_in_range.dot_S6144x14336_S4096x14336_S6144x4096_1_1_0_0_n_n none x w i
      = matmul (F := Ideal) (φ₁ := .bf16) (φ₂ := .bf16) D none x w (constant S6144x4096 .f32 0x00000000#32) i := by
  simp only [Host.dotGeneral]
  rw [Ideal.dotGeneral_apply]
  exact (Ideal.matmul_constant_zero_apply (φ₁ := .bf16) (φ₂ := .bf16) D none x w i).symm

/-- That product is the product scaled. -/
theorem mp_apply (x : FVec Ideal S6144x14336 .bf16) (w : FVec Ideal S4096x14336 .bf16) (i : S6144x4096.Idx) :
    mp x w i = dxE x w (i 0) (i 1) :=
  (congrArg (fun s : EReal => s * Ideal.ofBits .f32 0x3FE38E39#32) (dot_apply x w i)).trans (pay1_apply x w i)

theorem reduces : S6144x128x32.Reduces [2] S6144x128 := Cert.DxReferenceIdeal.Gen.reduces_S6144x128x32_S6144x128

/-- A fold of maxima over the last axis. -/
theorem max_groups (g : FVec Ideal S6144x128x32 .f32) (j : S6144x128.Idx) :
    Host.reduce FloatOps.maximumf g (constant (F := Ideal) Cert.On_in_range.S_ .f32 0xFF800000#32)
        Cert.On_in_range.Gen.reducesTo_S6144x128x32_S6144x128_d2 Cert.On_in_range.Gen.h_S_ j
      = (Finset.univ : Finset (Fin (S6144x128x32.size 2))).fold max (Ideal.ofBits .f32 0xFF800000#32) (g ∘ reduces.lift j) :=
  Host.reduce_eq_fold_single (max : EReal → EReal → EReal) g _ Cert.On_in_range.Gen.reducesTo_S6144x128x32_S6144x128_d2 reduces
    Cert.On_in_range.Gen.h_S_ j

/-- Rows cut into groups of 32. -/
theorem cut_apply (g : FVec Ideal S6144x4096 .f32) (r : Fin 6144) (b : Fin 128) (j : Fin 32) :
    shapeCast S6144x128x32 g Cert.On_in_range.Gen.shapeCasts_S6144x4096_S6144x128x32 (mk3 (a := 6144) (b := 128) (c := 32) r b j)
      = g (mk2 (a := 6144) (b := 4096) r ⟨32 * b.val + j.val, by omega⟩) := by
  refine shapeCast_apply _ _ _ (mk2 (a := 6144) (b := 4096) r ⟨32 * b.val + j.val, by omega⟩) ?_
  rw [Shape.rowMajor_val_two, Shape.rowMajor_val_three]
  show r.val * 4096 + (32 * b.val + j.val) = (r.val * 128 + b.val) * 32 + j.val
  omega

theorem scale_apply (h : FVec Ideal S6144x128 .f32) (i : S6144x128.Idx) :
    mulf h (broadcastInDim S6144x128 ![] Cert.On_in_range.Gen.bcast_S_S6144x128 (constant (F := Ideal) Cert.On_in_range.S_ .f32 0x3B124925#32)) i
      = (h i * Ideal.ofBits .f32 0x3B124925#32 : EReal) := rfl

theorem cast_eq (g : FVec Ideal S6144x4096 .f32) :
    extf (F := Ideal) .f32 (truncf (F := Ideal) .bf16 g Cert.On_in_range.Gen.bitsLt_bf16_f32) Cert.On_in_range.Gen.bitsLt_bf16_f32 = g := rfl

theorem abs_apply (g : FVec Ideal S6144x128x32 .f32) (i : S6144x128x32.Idx) : Host.absf g i = (max (g i) (-g i) : EReal) := rfl

theorem mmOf_apply (g : FVec Ideal S6144x4096 .f32) (r : Fin 6144) (b : Fin 128) :
    mmOf g (mk2 (a := 6144) (b := 128) r b) = ((Finset.univ : Finset (Fin 32)).fold max ⊥ fun j =>
      max (g (mk2 (a := 6144) (b := 4096) r ⟨32 * b.val + j.val, by omega⟩))
        (-g (mk2 (a := 6144) (b := 4096) r ⟨32 * b.val + j.val, by omega⟩) : EReal)) * Ideal.ofBits .f32 0x3B124925#32 := by
  unfold mmOf
  rw [cast_eq, scale_apply, max_groups, bot_eq]
  refine congrArg (fun s : EReal => s * Ideal.ofBits .f32 0x3B124925#32) ?_
  refine congrArg (fun f => (Finset.univ : Finset (Fin 32)).fold max (⊥ : EReal) f) (funext fun j => ?_)
  have e : reduces.lift (mk2 (a := 6144) (b := 128) r b) j = mk3 (a := 6144) (b := 128) (c := 32) r b j :=
    ext3 (a := 6144) (b := 128) (c := 32) rfl rfl rfl
  rw [Function.comp_apply, e, abs_apply]
  exact congrArg (fun u : EReal => max u (-u)) (cut_apply g r b j)

/-- The mask's scaled maximum of a group is the kernel's. -/
theorem mm_apply (x : FVec Ideal S6144x14336 .bf16) (w : FVec Ideal S4096x14336 .bf16) (r : Fin 6144) (b : Fin 128) :
    mmOf (mp x w) (mk2 (a := 6144) (b := 128) r b) = grpM x w r b := by
  rw [grpM_eq, mmOf_apply]
  unfold amax
  simp only [mp_apply]
  rfl

/-- What the mask asks of a scaled maximum. -/
def okb (M : EReal) : BitVec 1 :=
  BitVec.ofBool (decide (M = Ideal.ofBits .f32 0x00000000#32)) |||
    (BitVec.ofBool (decide (Ideal.ofBits .f32 0x00800000#32 ≤ M)) &&& BitVec.ofBool (decide (M < Ideal.ofBits .f32 0x7E800000#32)))

theorem low_eq : Ideal.ofBits .f32 0x00800000#32 = ((2 ^ (-126 : ℤ) : ℝ) : EReal) := by
  have h := ofBits_up 1#8
  rwa [show up 1#8 = 0x00800000#32 by decide, if_neg (by decide), if_neg (by decide)] at h

theorem high_eq : Ideal.ofBits .f32 0x7E800000#32 = ((2 ^ (126 : ℤ) : ℝ) : EReal) := by
  have h := ofBits_up 253#8
  rwa [show up 253#8 = 0x7E800000#32 by decide, if_neg (by decide), if_neg (by decide)] at h

theorem okb_spec {M : EReal} (h : okb M = 1#1) : ∃ m : ℝ, M = (m : EReal) ∧ Ok m := by
  unfold okb at h
  rw [low_eq, high_eq, ofBits_zero] at h
  by_cases h0 : M = 0
  · exact ⟨0, h0, .inl rfl⟩
  · by_cases h1 : ((2 ^ (-126 : ℤ) : ℝ) : EReal) ≤ M
    · by_cases h2 : M < ((2 ^ (126 : ℤ) : ℝ) : EReal)
      · induction M with
        | bot => exact absurd h1 (by simp)
        | top => exact absurd h2 (by simp)
        | coe q => exact ⟨q, rfl, .inr ⟨EReal.coe_le_coe_iff.mp h1, EReal.coe_lt_coe_iff.mp h2⟩⟩
      · rw [decide_eq_false h0, decide_eq_false h2, decide_eq_true h1] at h
        exact absurd h (by decide)
    · rw [decide_eq_false h0, decide_eq_false h1] at h
      exact absurd h (by cases decide (M < ((2 ^ (126 : ℤ) : ℝ) : EReal)) <;> decide)

/-- The mask of the scales, -/
def ms (g : FVec Ideal S6144x128 .f32) : IVec S6144x128 1 :=
  ori (cmpf .oeq g (broadcastInDim S6144x128 ![] Cert.On_in_range.Gen.bcast_S_S6144x128 (constant (F := Ideal) Cert.On_in_range.S_ .f32 0x00000000#32)))
    (andi (cmpf .oge g (broadcastInDim S6144x128 ![] Cert.On_in_range.Gen.bcast_S_S6144x128 (constant (F := Ideal) Cert.On_in_range.S_ .f32 0x00800000#32)))
      (cmpf .olt g (broadcastInDim S6144x128 ![] Cert.On_in_range.Gen.bcast_S_S6144x128 (constant (F := Ideal) Cert.On_in_range.S_ .f32 0x7E800000#32))))

theorem ms_apply (g : FVec Ideal S6144x128 .f32) (i : S6144x128.Idx) : ms g i = okb (g i) := rfl

theorem ms_mm (x : FVec Ideal S6144x14336 .bf16) (w : FVec Ideal S4096x14336 .bf16) (r : Fin 6144) (b : Fin 128) :
    ms (mmOf (mp x w)) (mk2 (a := 6144) (b := 128) r b) = okb (grpM x w r b) :=
  (ms_apply _ _).trans (congrArg okb (mm_apply x w r b))

/-- and, from it, of the codes. -/
def mc (g : IVec S6144x128 1) : IVec S6144x4096 1 :=
  shapeCast S6144x4096 (broadcastInDim S6144x128x32 ![0, 1, 2] Cert.On_in_range.Gen.bcast_S6144x128x1_S6144x128x32_0_1_2
    (broadcastInDim S6144x128x1 ![0, 1] Cert.On_in_range.Gen.bcast_S6144x128_S6144x128x1_0_1 g)) Cert.On_in_range.Gen.shapeCasts_S6144x128x32_S6144x4096

theorem mc_apply (g : IVec S6144x128 1) (i : S6144x4096.Idx) (b : Fin 128) (hb : b.val = (i 1).val / 32) :
    mc g i = g (mk2 (a := 6144) (b := 128) (i 0) b) := by
  have h1 : (i 1).val < 4096 := (i 1).isLt
  have hj : (i 1).val % 32 < 32 := Nat.mod_lt _ (by decide)
  unfold mc
  refine (shapeCast_apply _ _ i (mk3 (a := 6144) (b := 128) (c := 32) (i 0) b ⟨(i 1).val % 32, hj⟩) ?_).trans ?_
  · rw [Shape.rowMajor_val_two, Shape.rowMajor_val_three]
    show ((i 0).val * 128 + b.val) * 32 + (i 1).val % 32 = (i 0).val * 4096 + (i 1).val
    omega
  · refine (broadcastInDim_apply _ _ _ _ (mk3 (a := 6144) (b := 128) (c := 1) (i 0) b 0) (fun a => by
        match a with
        | 0 => rfl
        | 1 => rfl
        | 2 => rfl)).trans ?_
    exact broadcastInDim_apply _ _ _ _ (mk2 (a := 6144) (b := 128) (i 0) b) (fun a => by
        match a with
        | 0 => rfl
        | 1 => rfl)

theorem fn_scales (x : FVec Ideal S6144x14336 .bf16) (w : FVec Ideal S4096x14336 .bf16) :
    (Cert.On_in_range.fn (F := Ideal) x w).2.2 = ms (mmOf (mp x w)) := by
  unfold Cert.On_in_range.fn Cert.On_in_range.fn_part1 ms mmOf mp
  rfl

theorem fn_codes (x : FVec Ideal S6144x14336 .bf16) (w : FVec Ideal S4096x14336 .bf16) :
    (Cert.On_in_range.fn (F := Ideal) x w).2.1 = mc (ms (mmOf (mp x w))) := by
  unfold Cert.On_in_range.fn Cert.On_in_range.fn_part1 mc ms mmOf mp
  rfl

theorem ok_of_scales (x : FVec Ideal S6144x14336 .bf16) (w : FVec Ideal S4096x14336 .bf16) (i : S6144x128.Idx)
    (h : (Cert.On_in_range.fn (F := Ideal) x w).2.2 i = 1#1) : okb (grpM x w (i 0) (i 1)) = 1#1 := by
  have e : mk2 (a := 6144) (b := 128) (i 0) (i 1) = i := ext2 (a := 6144) (b := 128) rfl rfl
  exact (ms_mm x w (i 0) (i 1)).symm.trans ((congrArg (ms (mmOf (mp x w))) e).trans ((congrFun (fn_scales x w) i).symm.trans h))

theorem ok_of_codes (x : FVec Ideal S6144x14336 .bf16) (w : FVec Ideal S4096x14336 .bf16) (i : S6144x4096.Idx) (b : Fin 128)
    (hb : b.val = (i 1).val / 32) (h : (Cert.On_in_range.fn (F := Ideal) x w).2.1 i = 1#1) : okb (grpM x w (i 0) b) = 1#1 :=
  (ms_mm x w (i 0) b).symm.trans ((mc_apply (ms (mmOf (mp x w))) i b hb).symm.trans ((congrFun (fn_codes x w) i).symm.trans h))

/-! ## The equation -/

theorem c448_eq : Ideal.ofBits .f32 0x3B124925#32 = ((9586981 / 4294967296 : ℝ) : EReal) := by
  simp [Ideal.ofBits, Ideal.ieee, -EReal.coe_mul]; norm_num

variable {x : Vec Ideal S6144x14336 .bf16} {w : Vec Ideal S4096x14336 .bf16}

/-- A group's maximum is zero just when its scaled maximum is. -/
theorem amax_zero (r : Fin 6144) (b : Fin 128) {m : ℝ} (h : grpM x w r b = (m : EReal)) : amax x w r b = 0 ↔ m = 0 := by
  rw [grpM_eq, c448_eq] at h
  generalize amax x w r b = a at h ⊢
  have hc : (0 : ℝ) < 9586981 / 4294967296 := by norm_num
  induction a with
  | bot => rw [EReal.bot_mul_coe_of_pos hc] at h; exact absurd h (by simp)
  | top => rw [EReal.top_mul_coe_of_pos hc] at h; exact absurd h (by simp)
  | coe a =>
    have h' : a * (9586981 / 4294967296) = m := by rw [← EReal.coe_mul] at h; exact_mod_cast h
    rw [← h', EReal.coe_eq_zero, mul_eq_zero, or_iff_left hc.ne']

/-- The codes agree. -/
theorem codes_eq (r : Fin 6144) (b : Fin 128) (h : okb (grpM x w r b) = 1#1) (v : EReal) :
    codeOf (grpM x w r b) v = rcode (rexp (amax x w r b) (grpM x w r b)) v := by
  obtain ⟨m, hm, ok⟩ := okb_spec h
  obtain ⟨l, u⟩ := bexp_bounds ok
  have hz := amax_zero r b hm
  unfold codeOf rcode
  rw [hm, kexp_eq ok, kinv_eq l u, rexp_eq ok.nonneg hz, rinv_eq]

/-- The scales agree. -/
theorem scales_eq (r : Fin 6144) (b : Fin 128) (h : okb (grpM x w r b) = 1#1) :
    (kexp (grpM x w r b)).setWidth 8 = Ideal.fptosi 8 (rexp (amax x w r b) (grpM x w r b)) := by
  obtain ⟨m, hm, ok⟩ := okb_spec h
  obtain ⟨l, u⟩ := bexp_bounds ok
  have hz := amax_zero r b hm
  rw [hm, kexp_eq ok, kscale_eq l u, rexp_eq ok.nonneg hz, rscale_eq l u]

end Cert.DxEq

end
-- ==== Proof.DxClaims.lean ====
/- The claims of the dx product: the programs run and leave their arguments, and over the extended reals the kernel's
   three result arrays equal the reference's where the mask is set. -/
module

public import proofs.«01_k».proof.Defs
public import proofs.«01_k».proof.Proof.DxEq
public import proofs.«01_k».proof.Proof.Gen.DxKernel.Frame
public import Idealize.ShloMosaic.Lib.Quiescent

@[expose] public section

noncomputable section

namespace Cert.Proof.DxClaims

open Idealize.ShloMosaic Idealize.ShloMosaic.TcCoe Idealize.SL.Sem
open Cert.DxReferenceIdeal (S6144x14336 S4096x14336 S6144x4096 S6144x128)

/-- The kernel as printed runs, leaves its arguments, and ends quiescent. -/
theorem frame_k : Cert.quiescent_DxKernel := fun m ρ _ => Cert.DxKernel.Gen.frame m ρ
/-- So does its idealization, -/
theorem frame_ki : Cert.quiescent_DxKernelIdeal := fun m ρ _ => Cert.DxKernelIdeal.Gen.frame m ρ
/-- and the reference. -/
theorem frame_ri : Cert.quiescent_DxReferenceIdeal := fun m ρ _ => Cert.DxReferenceIdeal.Gen.frame m ρ

/-- The ideal pass rewrote nothing. -/
theorem preserves : Cert.preserves_DxKernel_DxKernelIdeal := trivial

section Eq

variable (m : (ℓ : Loc Cert.DxKernelIdeal.nD Cert.DxKernelIdeal.τ Cert.DxKernelIdeal.sig) → Buf (Elt Ideal) ℓ) (c : Dev Cert.DxKernelIdeal.nD)

/-- The kernel's first argument, -/
abbrev xA : Vec Ideal S6144x14336 .bf16 := m ((c : Thread Cert.DxKernelIdeal.nD Cert.DxKernelIdeal.τ).loc Cert.DxKernelIdeal.main_arg0)
/-- and its second. -/
abbrev wA : Vec Ideal S4096x14336 .bf16 := m ((c : Thread Cert.DxKernelIdeal.nD Cert.DxKernelIdeal.τ).loc Cert.DxKernelIdeal.main_arg1)

/-- The scaled products agree everywhere. -/
theorem dx_eq (i : S6144x4096.Idx) : Cert.DxReferenceIdeal.RefRun.G2 (F := Ideal) (xA m c) (wA m c) i = Cert.DxKernelIdeal.Value.G2 m c i :=
  (Cert.DxReferenceIdeal.DxRef.pay1_apply (xA m c) (wA m c) i).trans (Cert.DxKernelIdeal.DxArray.G2_apply m c i).symm

/-- The codes agree where the mask is set. -/
theorem codes_eq (i : S6144x4096.Idx) (h : (Cert.On_in_range.fn (F := Ideal) (xA m c) (wA m c)).2.1 i = 1#1) :
    Cert.DxReferenceIdeal.RefRun.G3 (F := Ideal) (xA m c) (wA m c) i = Cert.DxKernelIdeal.Value.G3 m c i := by
  have ok := Cert.DxEq.ok_of_codes _ _ i ⟨(i 1).val / 32, by have h : (i 1).val < 4096 := (i 1).isLt; omega⟩ rfl h
  exact (Cert.DxReferenceIdeal.DxRef.pay4_apply (xA m c) (wA m c) i
      ⟨(i 1).val / 32, by have h : (i 1).val < 4096 := (i 1).isLt; omega⟩ rfl).trans
    ((Cert.DxEq.codes_eq (i 0) _ ok _).symm.trans (Cert.DxKernelIdeal.DxArray.G3_apply m c i).symm)

/-- The scales agree where the mask is set. -/
theorem scales_eq (i : S6144x128.Idx) (h : (Cert.On_in_range.fn (F := Ideal) (xA m c) (wA m c)).2.2 i = 1#1) :
    Cert.DxReferenceIdeal.RefRun.G4 (F := Ideal) (xA m c) (wA m c) i = Cert.DxKernelIdeal.Value.G4 m c i := by
  have ok := Cert.DxEq.ok_of_scales _ _ i h
  exact (Cert.DxReferenceIdeal.DxRef.pay5_apply (xA m c) (wA m c) i).trans
    ((Cert.DxEq.scales_eq (i 0) (i 1) ok).symm.trans (Cert.DxKernelIdeal.DxArray.G4_apply m c i).symm)

end Eq

/-- From agreeing arguments the kernel's three result arrays and the reference's end equal, element by element, as
    extended reals: the scaled product everywhere, its codes and scales in every group whose scaled maximum is zero or in
    the range from 2^-126 up to 2^126. -/
theorem algebraic : Cert.algebraic_DxKernelIdeal_DxReferenceIdeal_on_in_range := by
  intro m ρ m' ρ' _ hagree
  refine ⟨fun c => Cert.DxKernelIdeal.Value.G2 m c, fun c => Cert.DxKernelIdeal.Value.G3 m c, fun c => Cert.DxKernelIdeal.Value.G4 m c,
    (θ_run Cert.DxKernelIdeal.defs _ _).mono (fun _ h c => ⟨fun i _ => congrFun (h c).1 i, fun i _ => congrFun (h c).2.1 i,
      fun i _ => congrFun (h c).2.2.1 i, (h c).2.2.2⟩) (Cert.DxKernelIdeal.Value.run (F := Ideal) m ρ),
    (θ_run Cert.DxReferenceIdeal.defs _ _).mono (fun _ h c => ⟨fun i _ => (congrFun (h c).1 i).trans ?_,
      fun i hi => (congrFun (h c).2.1 i).trans ?_, fun i hi => (congrFun (h c).2.2.1 i).trans ?_, (h c).2.2.2⟩)
      (Cert.DxReferenceIdeal.RefRun.run (F := Ideal) m' ρ')⟩
  · rw [(hagree c).1, (hagree c).2]
    exact dx_eq m c i
  · rw [(hagree c).1, (hagree c).2]
    exact codes_eq m c i hi
  · rw [(hagree c).1, (hagree c).2]
    exact scales_eq m c i hi

end Cert.Proof.DxClaims

end
-- ==== Proof.DwBlock.lean ====
/-
  What ONE BLOCK of the dw product computes, over the extended reals: the kernel body's one stored value, read at an
  index, is the sum over the 6144 tokens of the products of its two operand blocks there, times the constant 16/9.
-/
module

public import proofs.«01_k».proof.Proof.Gen.DwKernelIdeal.Value
public import Idealize.ShloMosaic.Lib.ValueIdx
public import Idealize.ShloMosaic.PureOps.Ideal.Laws

@[expose] public section

noncomputable section

namespace Cert.DwKernelIdeal.DwBlock

open Cert.DwKernelIdeal Cert.DwKernelIdeal.Gen Idealize.ShloMosaic Idealize.ShloMosaic.TcCoe Idealize.SL.Sem

/-- The dimension numbers of the block product: contract axis 0 of both operands. -/
abbrev D : DotDims S6144x512 S6144x1024 S512x1024 := dot_S6144x512_S6144x1024_S512x1024_0_0_1_1_n_n

/-- The left operand's row at a contraction index is that index, -/
theorem lhs_0 (i : S512x1024.Idx) (q : D.contr.Idx) : (D.lhsIdx i q 0).val = (q ⟨0, by decide⟩).val :=
  D.lhsIdx_val_of_single rfl i q
/-- its column the output's row; -/
theorem lhs_1 (i : S512x1024.Idx) (q : D.contr.Idx) : (D.lhsIdx i q 1).val = (i 0).val := by
  unfold DotDims.lhsIdx
  rw [dif_neg (show ¬(1 : Fin S6144x512.rank) ∈ D.lhsBatch by decide),
    dif_pos (show (1 : Fin S6144x512.rank) ∈ D.lhsNonContracting by decide)]
  rfl
/-- the right operand's row is the contraction index, -/
theorem rhs_0 (i : S512x1024.Idx) (q : D.contr.Idx) : (D.rhsIdx i q 0).val = (q ⟨0, by decide⟩).val :=
  D.rhsIdx_val_of_single rfl i q
/-- its column the output's column. -/
theorem rhs_1 (i : S512x1024.Idx) (q : D.contr.Idx) : (D.rhsIdx i q 1).val = (i 1).val := by
  unfold DotDims.rhsIdx
  rw [dif_neg (show ¬(1 : Fin S6144x1024.rank) ∈ D.rhsBatch by decide),
    dif_pos (show (1 : Fin S6144x1024.rank) ∈ D.rhsNonContracting by decide)]
  rfl

/-- The left block's index for token `k` and output index `i`. -/
abbrev lidx (i : S512x1024.Idx) (k : Fin 6144) : S6144x512.Idx := fun a => match a with
  | ⟨0, _⟩ => ⟨k.val, k.isLt⟩
  | ⟨1, _⟩ => ⟨(i 0).val, (i 0).isLt⟩
/-- The right block's index for token `k` and output index `i`. -/
abbrev ridx (i : S512x1024.Idx) (k : Fin 6144) : S6144x1024.Idx := fun a => match a with
  | ⟨0, _⟩ => ⟨k.val, k.isLt⟩
  | ⟨1, _⟩ => ⟨(i 1).val, (i 1).isLt⟩

/-- THE BLOCK AT AN INDEX: the body's stored value is the contraction of its two blocks over all tokens, times 16/9. -/
theorem pay_apply (x0 : FVec Ideal S6144x512 .bf16) (x1 : FVec Ideal S6144x1024 .bf16) (i : S512x1024.Idx) :
    k0_pay1 (F := Ideal) x0 x1 i = (∑ k : Fin 6144, x0 (lidx i k) * x1 (ridx i k)) * Ideal.ofBits .f32 0x3FE38E39#32 := by
  show FloatOps.matmul D none x0 x1 (constant S512x1024 .f32 0x00000000#32) i * Ideal.ofBits .f32 0x3FE38E39#32 = _
  rw [Ideal.matmul_constant_zero_apply, ← Equiv.sum_comp (ValueIdx.contrEquiv1 D 6144 rfl rfl).symm]
  refine congrArg (fun s : EReal => s * Ideal.ofBits .f32 0x3FE38E39#32) (Finset.sum_congr rfl fun k _ => ?_)
  have hk := ValueIdx.contrEquiv1_symm_val D 6144 rfl rfl k
  have el : D.lhsIdx i ((ValueIdx.contrEquiv1 D 6144 rfl rfl).symm k) = lidx i k := funext fun a => Fin.ext (by
    match a with
    | ⟨0, _⟩ => exact (lhs_0 _ _).trans hk
    | ⟨1, _⟩ => exact lhs_1 _ _)
  have er : D.rhsIdx i ((ValueIdx.contrEquiv1 D 6144 rfl rfl).symm k) = ridx i k := funext fun a => Fin.ext (by
    match a with
    | ⟨0, _⟩ => exact (rhs_0 _ _).trans hk
    | ⟨1, _⟩ => exact rhs_1 _ _)
  rw [el, er]

end Cert.DwKernelIdeal.DwBlock

end
-- ==== Proof.DwArray.lean ====
/-
  What the dw ARRAY holds after the run, over the extended reals: the 14 × 8 grid's blocks of 512 × 1024 tile the
  4096 × 14336 result, each grid point writes its block of one whole-array function (`G`), so the array ends at `G`.
-/
module

public import proofs.«01_k».proof.Proof.DwBlock
public import Idealize.ShloMosaic.Lib.Pipeline.Value

@[expose] public section

noncomputable section

namespace Cert.DwKernelIdeal.DwArray

open Cert.DwKernelIdeal Cert.DwKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The index of the decoded `x` for token `k` and the result's row. -/
abbrev xidx (i : S4096x14336.Idx) (k : Fin 6144) : S6144x4096.Idx := fun a => match a with
  | ⟨0, _⟩ => ⟨k.val, k.isLt⟩
  | ⟨1, _⟩ => ⟨(i 0).val, (i 0).isLt⟩
/-- The index of the decoded `dy` for token `k` and the result's column. -/
abbrev yidx (i : S4096x14336.Idx) (k : Fin 6144) : S6144x14336.Idx := fun a => match a with
  | ⟨0, _⟩ => ⟨k.val, k.isLt⟩
  | ⟨1, _⟩ => ⟨(i 1).val, (i 1).isLt⟩

/-- The product as a function of two whole arrays: at (r, c), the sum over tokens of x[k, r] · dy[k, c], times 16/9. -/
def prod (x : FVec Ideal S6144x4096 .bf16) (y : FVec Ideal S6144x14336 .bf16) : FVec Ideal S4096x14336 .f32 :=
  fun i => (∑ k : Fin 6144, x (xidx i k) * y (yidx i k)) * Ideal.ofBits .f32 0x3FE38E39#32

/-- Device `c`'s product: what the result array is shown to hold. -/
abbrev G (c : Dev nD) : Buf (Elt Ideal) ((c : Thread nD τ).loc main_v0) :=
  prod (m ((c : Thread nD τ).loc main_arg0)) (m ((c : Thread nD τ).loc main_arg1))

theorem hz : (![0, 0] : Fin 2 → Nat) = fun _ => 0 := funext fun a => by fin_cases a <;> rfl

/-- Block indices at grid point `t`: the output's block is (t mod 8, t div 8); the `x` block is the output's row block,
    the `dy` block its column block; neither input is split over tokens (decided over the 112 points). -/
theorem index_facts : ∀ t : Fin cfg0.N,
    win0_2.index t 0 = t.val % 8 ∧ win0_2.index t 1 = t.val / 8
    ∧ win0_0.index t 0 = 0 ∧ win0_0.index t 1 = t.val % 8 ∧ win0_1.index t 0 = 0 ∧ win0_1.index t 1 = t.val / 8 :=
  (by decide +kernel : ∀ t : Fin grid0.N,
    win0_2.index t 0 = t.val % 8 ∧ win0_2.index t 1 = t.val / 8
    ∧ win0_0.index t 0 = 0 ∧ win0_0.index t 1 = t.val % 8 ∧ win0_1.index t 0 = 0 ∧ win0_1.index t 1 = t.val / 8)

/-- Point `t`'s block of `x` at an index is the array at the block's offset plus that index. -/
theorem iblk0_apply (c : Dev nD) (t : Fin cfg0.N) (j : S6144x512.Idx) (i : S6144x4096.Idx)
    (h0 : (i 0).val = win0_0.index t 0 * 6144 + (j 0).val) (h1 : (i 1).val = win0_0.index t 1 * 512 + (j 1).val) :
    iblk m c 0 t j = m ((c : Thread nD τ).loc main_arg0) i := by
  show m ((c : Thread nD τ).loc main_arg0) ((win0_0.blk t).view.emb j) = _
  refine congrArg _ (funext fun a => Fin.ext ?_)
  match a with
  | ⟨0, _⟩ => refine Eq.trans ?_ h0.symm; show win0_0.index t 0 * 6144 + 1 * (j 0).val = _; omega
  | ⟨1, _⟩ => refine Eq.trans ?_ h1.symm; show win0_0.index t 1 * 512 + 1 * (j 1).val = _; omega

/-- Point `t`'s block of `dy`, the same. -/
theorem iblk1_apply (c : Dev nD) (t : Fin cfg0.N) (j : S6144x1024.Idx) (i : S6144x14336.Idx)
    (h0 : (i 0).val = win0_1.index t 0 * 6144 + (j 0).val) (h1 : (i 1).val = win0_1.index t 1 * 1024 + (j 1).val) :
    iblk m c 1 t j = m ((c : Thread nD τ).loc main_arg1) i := by
  show m ((c : Thread nD τ).loc main_arg1) ((win0_1.blk t).view.emb j) = _
  refine congrArg _ (funext fun a => Fin.ext ?_)
  match a with
  | ⟨0, _⟩ => refine Eq.trans ?_ h0.symm; show win0_1.index t 0 * 6144 + 1 * (j 0).val = _; omega
  | ⟨1, _⟩ => refine Eq.trans ?_ h1.symm; show win0_1.index t 1 * 1024 + 1 * (j 1).val = _; omega

/-- WHAT POINT `t` WRITES BACK is its block of the whole-array product. -/
theorem flushed_eq (c : Dev nD) (t : Fin cfg0.N) :
    (dats m 0 c).flushed 2 t = (win0_2.blk t).view.read (Elt Ideal) (G m c) := by
  rw [Value.flushed2]
  unfold out0_2
  rw [View.canon_unit_zero hz, View.ld_unit_zero hz, View.ld_unit_zero hz]
  funext j
  show k0_pay1 (F := Ideal) (iblk m c 0 t) (iblk m c 1 t) j = G m c ((win0_2.blk t).view.emb j)
  obtain ⟨e0, e1, a0, a1, b0, b1⟩ := index_facts t
  have g0 : ((win0_2.blk t).view.emb j 0).val = win0_2.index t 0 * 512 + 1 * (j 0).val := rfl
  have g1 : ((win0_2.blk t).view.emb j 1).val = win0_2.index t 1 * 1024 + 1 * (j 1).val := rfl
  rw [DwBlock.pay_apply]
  refine congrArg (fun s : EReal => s * Ideal.ofBits .f32 0x3FE38E39#32) (Finset.sum_congr rfl fun k _ => ?_)
  rw [iblk0_apply m c t (DwBlock.lidx j k) (xidx ((win0_2.blk t).view.emb j) k)
      (by show k.val = win0_0.index t 0 * 6144 + k.val; omega)
      (by show ((win0_2.blk t).view.emb j 0).val = win0_0.index t 1 * 512 + (j 0).val; omega),
    iblk1_apply m c t (DwBlock.ridx j k) (yidx ((win0_2.blk t).view.emb j) k)
      (by show k.val = win0_1.index t 0 * 6144 + k.val; omega)
      (by show ((win0_2.blk t).view.emb j 1).val = win0_1.index t 1 * 1024 + (j 1).val; omega)]

/-- An index of the result is in point `t`'s block exactly when its row is in row block t mod 8 and its column in column
    block t div 8. -/
theorem mem_blk (t : Fin cfg0.N) (i : S4096x14336.Idx)
    (h0 : t.val % 8 * 512 ≤ (i 0 : Nat) ∧ (i 0 : Nat) < t.val % 8 * 512 + 512)
    (h1 : t.val / 8 * 1024 ≤ (i 1 : Nat) ∧ (i 1 : Nat) < t.val / 8 * 1024 + 1024) :
    i ∈ ((cfg0.win 2).blk t).view.set := by
  show i ∈ ((View.whole main_v0).slice (win0_2.rect t)).set
  rw [View.set_slice_whole, Rect.mem_set_unit]
  obtain ⟨e0, e1, -⟩ := index_facts t
  intro a
  match a with
  | ⟨0, _⟩ => show win0_2.index t 0 * 512 ≤ (i 0 : Nat) ∧ (i 0 : Nat) < win0_2.index t 0 * 512 + 512
              rw [e0]; exact h0
  | ⟨1, _⟩ => show win0_2.index t 1 * 1024 ≤ (i 1 : Nat) ∧ (i 1 : Nat) < win0_2.index t 1 * 1024 + 1024
              rw [e1]; exact h1

/-- The blocks cover the result array. -/
theorem cover (i : S4096x14336.Idx) :
    ∃ t : Fin cfg0.N, (cfg0.win 2).flush t = true ∧ i ∈ ((cfg0.win 2).blk t).view.set := by
  have h0 : (i 0 : Nat) < 4096 := (i 0).isLt
  have h1 : (i 1 : Nat) < 14336 := (i 1).isLt
  have hN : cfg0.N = 112 := N_0
  have ht : (i 1 : Nat) / 1024 * 8 + (i 0 : Nat) / 512 < cfg0.N := by omega
  refine ⟨⟨_, ht⟩, flush0_2 _, mem_blk _ i ?_ ?_⟩ <;> dsimp only <;> omega

/-- So the result array ends holding the product. -/
theorem final (c : Dev nD) : (dats m 0 c).arrAt 2 cfg0.N = G m c :=
  (dats m 0 c).arrAt_eq_of_cover 2 (G m c) (fun t _ => flushed_eq m c t) cover

/-- The kernel's run, read: the result array at the product of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.DwKernelIdeal.DwArray

end
-- ==== Proof.DwRef.lean ====
/-
  What the REFERENCE computes, over the extended reals: the einsum over tokens times 16/9 is the same whole-array
  product the kernel's result array was shown to hold.
-/
module

public import proofs.«01_k».proof.Proof.DwArray
public import proofs.«01_k».proof.Proof.Gen.DwReferenceIdeal.Run
public import proofs.«01_k».proof.Proof.Gen.DwReferenceIdeal.Read

@[expose] public section

noncomputable section

namespace Cert.DwReferenceIdeal.DwRef

open Cert.DwReferenceIdeal Cert.DwReferenceIdeal.Gen Idealize.ShloMosaic Idealize.ShloMosaic.TcCoe Idealize.SL.Sem

/-- The reference's result, as a function of its two arguments, is `DwArray.prod` of them. -/
theorem ref_eq (x : FVec Ideal S6144x4096 .bf16) (y : FVec Ideal S6144x14336 .bf16) :
    Read.val_main_v2 (F := Ideal) x y = Cert.DwKernelIdeal.DwArray.prod x y := by
  funext i
  rw [Read.val_main_v2_apply, Read.val_main_v0_apply, Read.val_main_v1_apply, Read.val_main_cst_apply]
  rfl

end Cert.DwReferenceIdeal.DwRef

end
-- ==== Proof.DwClaims.lean ====
/-
  The claims of the dw product: both programs run and leave their arguments, and over the extended reals the kernel's
  result array equals the reference's.
-/
module

public import proofs.«01_k».proof.Defs
public import proofs.«01_k».proof.Proof.DwRef
public import proofs.«01_k».proof.Proof.Gen.DwKernel.Frame
public import Idealize.ShloMosaic.Lib.Quiescent

@[expose] public section

noncomputable section

namespace Cert.Proof.DwClaims

open Idealize.ShloMosaic Idealize.ShloMosaic.TcCoe Idealize.SL.Sem

/-- The kernel as printed runs, leaves its arguments, and ends quiescent. -/
theorem frame_k : Cert.quiescent_DwKernel := fun m ρ _ => Cert.DwKernel.Gen.frame m ρ
/-- So does its idealization, -/
theorem frame_ki : Cert.quiescent_DwKernelIdeal := fun m ρ _ => Cert.DwKernelIdeal.Gen.frame m ρ
/-- and the reference, which declares no semaphore. -/
theorem frame_ri : Cert.quiescent_DwReferenceIdeal := fun m ρ _ =>
  (θ_run Cert.DwReferenceIdeal.defs _ _).mono (fun r h => ⟨fun c => ⟨(h c).2.1, (h c).2.2⟩,
      Idealize.ShloMosaic.sem_eq_zero_of_no_sems (by decide) r.2⟩)
    (Cert.DwReferenceIdeal.Value.run (F := Ideal) m ρ)

/-- The ideal pass rewrote nothing. -/
theorem preserves : Cert.preserves_DwKernel_DwKernelIdeal := trivial

/-- From agreeing arguments the kernel's result array and the reference's end equal, element by element, as extended
    reals: both are the sum over tokens of x · dy, times 16/9. -/
theorem algebraic : Cert.algebraic_DwKernelIdeal_DwReferenceIdeal := by
  intro m ρ m' ρ' _ hagree
  refine ⟨fun c => Cert.DwKernelIdeal.DwArray.G m c, Cert.DwKernelIdeal.DwArray.run m ρ,
    (θ_run Cert.DwReferenceIdeal.defs _ _).mono (fun _ h c => ⟨(h c).1.trans ?_, (h c).2⟩)
      (Cert.DwReferenceIdeal.Value.run (F := Ideal) m' ρ')⟩
  rw [(hagree c).1, (hagree c).2, Cert.DwReferenceIdeal.Read.val_main_v2_eq]
  exact Cert.DwReferenceIdeal.DwRef.ref_eq _ _

end Cert.Proof.DwClaims

end
-- ==== Proof.QtMath.lean ====
/- The arithmetic of a group of `quant_t`, over the extended reals: the rotated group's largest magnitude, scaled, and the
   exponent both sides make of it. -/
module

public import proofs.«01_k».proof.Proof.DxExp
public import Idealize.ShloMosaic.PureOps.Ideal.Laws

@[expose] public section

noncomputable section

namespace Cert.QtMath

open Idealize.ShloMosaic Cert.DxExp

/-! ## The constants -/

theorem scale_pos : ∃ r : ℝ, 0 < r ∧ Ideal.ofBits .f32 0x3E3504F3#32 = (r : EReal) := by
  have h1 : ((0x3E3504F3#32 : BitVec 32).extractLsb' (8 + 23) 1 == 1#1) = false := by decide
  have h2 : ((0x3E3504F3#32 : BitVec 32).extractLsb' 23 8).toNat = 124 := by decide
  show ∃ r : ℝ, 0 < r ∧ Ideal.ieee 8 23 (0x3E3504F3#32) = (r : EReal)
  unfold Ideal.ieee
  simp only [h1, h2]
  rw [if_neg (by norm_num), if_neg (by norm_num)]
  refine ⟨_, ?_, rfl⟩
  simp only [Bool.false_eq_true, if_false]
  positivity

theorem top_lt : ∃ r : ℝ, r < 2 ^ (128 : ℤ) ∧ Ideal.ofBits .f32 0x7F7FFFFF#32 = (r : EReal) := by
  have h1 : ((0x7F7FFFFF#32 : BitVec 32).extractLsb' (8 + 23) 1 == 1#1) = false := by decide
  have h2 : ((0x7F7FFFFF#32 : BitVec 32).extractLsb' 23 8).toNat = 254 := by decide
  have h3 : ((0x7F7FFFFF#32 : BitVec 32).extractLsb' 0 23).toNat = 8388607 := by decide
  show ∃ r : ℝ, r < 2 ^ (128 : ℤ) ∧ Ideal.ieee 8 23 (0x7F7FFFFF#32) = (r : EReal)
  unfold Ideal.ieee
  simp only [h1, h2, h3]
  rw [if_neg (by norm_num), if_neg (by norm_num)]
  refine ⟨_, ?_, rfl⟩
  simp only [Bool.false_eq_true, if_false]
  norm_num

theorem low_eq : Ideal.ofBits .f32 0x00800000#32 = ((2 ^ (-126 : ℤ) : ℝ) : EReal) := by
  have h := ofBits_up 1#8
  rwa [show up 1#8 = 0x00800000#32 by decide, if_neg (by decide), if_neg (by decide)] at h

theorem zero_eq : Ideal.ofBits .f32 0x00000000#32 = 0 := by
  have := ofBits_up 0#8
  rw [show up 0#8 = 0x00000000#32 by decide] at this
  simpa using this

theorem one_eq : Ideal.ofBits .f32 0x3F800000#32 = ((1 : ℝ) : EReal) := by
  have h := ofBits_up 127#8
  rw [show up 127#8 = 0x3F800000#32 by decide, if_neg (by decide), if_neg (by decide)] at h
  rw [h]; norm_num

theorem two_eq : Ideal.ofBits .f32 0x40000000#32 = ((2 : ℝ) : EReal) := by
  have h := ofBits_up 128#8
  rw [show up 128#8 = 0x40000000#32 by decide, if_neg (by decide), if_neg (by decide)] at h
  rw [h]; norm_num

theorem three_eq : Ideal.ofBits .f32 0x40400000#32 = ((3 : ℝ) : EReal) := by
  have h1 : ((0x40400000#32 : BitVec 32).extractLsb' (8 + 23) 1 == 1#1) = false := by decide
  have h2 : ((0x40400000#32 : BitVec 32).extractLsb' 23 8).toNat = 128 := by decide
  have h3 : ((0x40400000#32 : BitVec 32).extractLsb' 0 23).toNat = 4194304 := by decide
  show Ideal.ieee 8 23 (0x40400000#32) = ((3 : ℝ) : EReal)
  unfold Ideal.ieee
  simp only [h1, h2, h3]
  rw [if_neg (by norm_num), if_neg (by norm_num)]
  simp only [Bool.false_eq_true, if_false]
  refine congrArg Real.toEReal ?_
  norm_num

theorem bot_eq : Ideal.ofBits .f32 0xFF800000#32 = ⊥ := by
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  show Ideal.ieee 8 23 (0xFF800000#32) = ⊥
  unfold Ideal.ieee
  simp only [h1, h2, h3]
  norm_num

/-! ## A group's scaled maximum -/

/-- Whether the Hadamard matrix's entry is positive: an even number of bits in common. -/
def ev (p q : Fin 32) : Prop := IntOp.ctpop (BitVec.ofNat 32 p.val &&& BitVec.ofNat 32 q.val) &&& 1#32 = 0#32

instance (p q : Fin 32) : Decidable (ev p q) := inferInstanceAs (Decidable (_ = _))

/-- Row `p` of the Hadamard matrix of signs, times a group. -/
def hrow (v : Fin 32 → EReal) (p : Fin 32) : EReal := ∑ q : Fin 32, if ev p q then v q else -v q

/-- The rotated group's largest magnitude, times the constant 1/√32. -/
def gmax (v : Fin 32 → EReal) : EReal :=
  (Finset.univ : Finset (Fin 32)).fold max ⊥ (fun p => max (hrow v p) (-hrow v p)) * Ideal.ofBits .f32 0x3E3504F3#32

theorem sum_mul (f : Fin 32 → EReal) (r : ℝ) (h : 0 < r) : ∑ q, f q * (r : EReal) = (∑ q, f q) * (r : EReal) := by
  have hr : (0 : EReal) ≤ (r : EReal) := by exact_mod_cast h.le
  let φ : EReal →+ EReal :=
    { toFun := fun a => a * (r : EReal)
      map_zero' := zero_mul _
      map_add' := fun a b => EReal.right_distrib_of_nonneg_of_ne_top hr (EReal.coe_ne_top r) a b }
  exact (map_sum φ f Finset.univ).symm

theorem mono (r : ℝ) (h : 0 < r) : Monotone fun a : EReal => a * (r : EReal) := fun a b hab =>
  mul_le_mul_of_nonneg_right hab (by exact_mod_cast h.le)

theorem abs_mul (a : EReal) (r : ℝ) (h : 0 < r) : max (a * (r : EReal)) (-(a * (r : EReal))) = max a (-a) * (r : EReal) := by
  rw [← neg_mul]; exact ((mono r h).map_max).symm

theorem fold_mul (f : Fin 32 → EReal) (r : ℝ) (h : 0 < r) :
    (Finset.univ : Finset (Fin 32)).fold max ⊥ (fun p => f p * (r : EReal))
      = (Finset.univ : Finset (Fin 32)).fold max ⊥ f * (r : EReal) := by
  have := Finset.fold_hom (op := (max : EReal → EReal → EReal)) (op' := (max : EReal → EReal → EReal)) (f := f) (b := ⊥)
    (s := (Finset.univ : Finset (Fin 32))) (m := fun a : EReal => a * (r : EReal)) (fun a b => (mono r h).map_max)
  rw [EReal.bot_mul_coe_of_pos h] at this
  exact this

/-- The reference's way to the scaled maximum: the constant on the matrix's entries. -/
theorem gmax_ref (v : Fin 32 → EReal) :
    (Finset.univ : Finset (Fin 32)).fold max ⊥ (fun p =>
      max (0 + ∑ q, v q * (if ev p q then Ideal.ofBits .f32 0x3E3504F3#32 else -Ideal.ofBits .f32 0x3E3504F3#32))
        (-(0 + ∑ q, v q * (if ev p q then Ideal.ofBits .f32 0x3E3504F3#32 else -Ideal.ofBits .f32 0x3E3504F3#32))))
      = gmax v := by
  obtain ⟨r, hr, e⟩ := scale_pos
  unfold gmax
  rw [e, ← fold_mul _ r hr]
  refine congrArg (fun f => (Finset.univ : Finset (Fin 32)).fold max (⊥ : EReal) f) (funext fun p => ?_)
  have es : (0 + ∑ q, v q * (if ev p q then (r : EReal) else -(r : EReal))) = hrow v p * (r : EReal) := by
    rw [zero_add, hrow, ← sum_mul _ r hr]
    refine Finset.sum_congr rfl fun q _ => ?_
    split
    · rfl
    · rw [mul_neg, neg_mul]
  rw [es, abs_mul _ r hr]

/-- The kernel's way through a row: of 256 columns only the 32 of the row's own matrix count. -/
theorem hrow_kernel (f : Fin 256 → EReal) (v : Fin 32 → EReal) (p : Fin 32) (b : Fin 8)
    (h0 : ∀ j : Fin 256, j.val / 32 ≠ b.val → f j = 0)
    (h1 : ∀ q : Fin 32, f ⟨32 * b.val + q.val, by omega⟩ = if ev p q then v q else -v q) :
    ∑ j, f j = hrow v p := by
  rw [← Equiv.sum_comp (finProdFinEquiv (m := 8) (n := 32)) f, Fintype.sum_prod_type]
  rw [Finset.sum_eq_single b]
  · refine Finset.sum_congr rfl fun q _ => ?_
    rw [← h1 q]
    exact congrArg f (Fin.ext (Nat.add_comm _ _))
  · intro b' _ hb
    refine Finset.sum_eq_zero fun q _ => h0 _ ?_
    show (q.val + 32 * b'.val) / 32 ≠ b.val
    have hq := q.isLt
    have : b'.val ≠ b.val := fun h => hb (Fin.ext h)
    omega
  · intro h; exact absurd (Finset.mem_univ b) h

/-- The group of 32 tokens from `32 g`, in column `k`, with the tokens' signs. -/
def grp (x : Shape.Idx ⟨2, ![6144, 4096]⟩ → EReal) (s : Shape.Idx ⟨1, ![6144]⟩ → EReal) (g : Fin 192) (k : Fin 4096) (q : Fin 32) : EReal :=
  x (fun | 0 => ⟨32 * g.val + q.val, show 32 * g.val + q.val < 6144 by omega⟩ | 1 => k) * s (fun | 0 => ⟨32 * g.val + q.val, show 32 * g.val + q.val < 6144 by omega⟩)

/-! ## The largest of 32, as a tree -/

/-- The largest of `2 ^ n` values from `lo`, by halves. -/
def mx (f : ℕ → EReal) (lo : ℕ) : ℕ → EReal
  | 0 => f lo
  | n + 1 => max (mx f lo n) (mx f (lo + 2 ^ n) n)

theorem mx_le (f : ℕ → EReal) (z : EReal) (n : ℕ) : ∀ lo, mx f lo n ≤ z ↔ ∀ k, lo ≤ k → k < lo + 2 ^ n → f k ≤ z := by
  induction n with
  | zero =>
    intro lo
    refine ⟨fun h k h1 h2 => ?_, fun h => h lo le_rfl (by norm_num)⟩
    rw [show k = lo by rw [pow_zero] at h2; omega]
    exact h
  | succ n ih =>
    intro lo
    have e : 2 ^ (n + 1) = 2 ^ n + 2 ^ n := by rw [pow_succ]; omega
    show max _ _ ≤ z ↔ _
    rw [max_le_iff, ih lo, ih (lo + 2 ^ n)]
    refine ⟨fun h k h1 h2 => ?_, fun h => ⟨fun k h1 h2 => h k h1 (by omega), fun k h1 h2 => h k (by omega) (by omega)⟩⟩
    by_cases hk : k < lo + 2 ^ n
    · exact h.1 k h1 hk
    · exact h.2 k (by omega) (by omega)

theorem mx_fold (f : ℕ → EReal) : mx f 0 5 = (Finset.univ : Finset (Fin 32)).fold max ⊥ (fun p => f p.val) := by
  refine eq_of_forall_ge_iff fun z => ?_
  rw [mx_le, Finset.fold_max_le]
  exact ⟨fun h => ⟨bot_le, fun p _ => h p.val (Nat.zero_le _) (by have := p.isLt; norm_num)⟩,
    fun h k _ hk => h.2 ⟨k, by norm_num at hk; exact hk⟩ (Finset.mem_univ _)⟩

/-! ## The exponent -/

/-- The kernel's exponent of a scaled maximum. -/
def kE (a : EReal) : BitVec 32 := if ksearch a = 0#32 then 0#32 else ksearch a >>> 23#32 - 129#32

/-- The reference's, as a real. -/
def rE (a : EReal) : EReal :=
  if a = 0 then 0 else Ideal.liftRound Int.floor (Ideal.div (Ideal.log a) (Ideal.log ((2 : ℝ) : EReal))) + ((1 : ℝ) : EReal) - ((3 : ℝ) : EReal)

/-- The scaled maxima claimed: zero, and the normal floats' range. -/
def Ok (m : ℝ) : Prop := m = 0 ∨ (2 ^ (-126 : ℤ) ≤ m ∧ m < 2 ^ (128 : ℤ))

/-- The exponent the format asks for. -/
def be (m : ℝ) : ℤ := if m = 0 then 0 else lg m + 1 - 3

theorem fld_spec' {m : ℝ} (h0 : 0 < m) (h : m < 2 ^ (128 : ℤ)) (g : BitVec 8) :
    (m : EReal) < Ideal.ofBits .f32 (up g) ↔ fld m < g.toNat := by
  have hl := (lt_zpow_iff h0 128).mp h
  have hg := g.isLt
  rw [ofBits_up]
  unfold fld
  split
  · exact ⟨fun _ => by omega, fun _ => EReal.coe_lt_top m⟩
  · split
    · refine ⟨fun hc => ?_, fun hc => by omega⟩
      exact absurd (by exact_mod_cast hc : m < 0) (not_lt.mpr h0.le)
    · rw [EReal.coe_lt_coe_iff]
      rw [lt_zpow_iff h0]
      omega

theorem zero_spec (g : BitVec 8) : (0 : EReal) < Ideal.ofBits .f32 (up g) ↔ 0 < g.toNat := by
  have hg := g.isLt
  rw [ofBits_up]
  split
  · exact ⟨fun _ => by omega, fun _ => EReal.zero_lt_top⟩
  · split
    · exact ⟨fun hc => absurd hc (lt_irrefl _), fun hc => by omega⟩
    · exact ⟨fun _ => by omega, fun _ => by exact_mod_cast (by positivity : (0 : ℝ) < 2 ^ ((g.toNat : ℤ) - 127))⟩

theorem up_ne : ∀ f : Fin 256, f.val ≠ 0 → up (BitVec.ofNat 8 f) ≠ 0#32 := by decide +kernel

theorem lg_bounds {m : ℝ} (h0 : 0 < m) (h1 : 2 ^ (-126 : ℤ) ≤ m) (h2 : m < 2 ^ (128 : ℤ)) : -126 ≤ lg m ∧ lg m < 128 := by
  refine ⟨?_, (lt_zpow_iff h0 128).mp h2⟩
  by_contra hc
  exact absurd ((lt_zpow_iff h0 (-126)).mpr (not_le.mp hc)) (not_lt.mpr h1)

/-- THE KERNEL'S EXPONENT is the one asked for, -/
theorem kE_eq {m : ℝ} (ok : Ok m) : kE m = BitVec.ofInt 32 (be m) := by
  unfold kE be
  by_cases hm : m = 0
  · subst hm
    rw [EReal.coe_zero, ksearch_eq 0 0 (by decide) zero_spec, if_pos (by decide), if_pos rfl]
    rfl
  · obtain ⟨h1, h2⟩ := ok.resolve_left hm
    have hp : 0 < m := lt_of_lt_of_le (by positivity) h1
    obtain ⟨l1, l2⟩ := lg_bounds hp h1 h2
    have hf : fld m < 255 := by unfold fld; omega
    have hf0 : fld m ≠ 0 := by unfold fld; omega
    rw [if_neg hm, ksearch_eq m (fld m) (by omega) (fld_spec' hp h2), if_neg (up_ne ⟨fld m, by omega⟩ hf0), up_shr ⟨fld m, by omega⟩]
    have e : lg m + 1 - 3 = (fld m : ℤ) - 129 := by unfold fld; omega
    rw [e]
    have key : ∀ f : Fin 256, BitVec.ofNat 32 f.val - 129#32 = BitVec.ofInt 32 ((f.val : ℤ) - 129) := by decide +kernel
    exact key ⟨fld m, by omega⟩

/-- and so is the reference's. -/
theorem rE_eq {m : ℝ} (ok : Ok m) : rE m = ((be m : ℝ) : EReal) := by
  unfold rE be
  by_cases hm : m = 0
  · rw [if_pos (by exact_mod_cast hm), if_pos hm]; norm_num
  · have hp : 0 < m := lt_of_lt_of_le (by positivity) (ok.resolve_left hm).1
    rw [if_neg (by exact_mod_cast hm), if_neg hm, Ideal.log_coe, Ideal.log_coe, if_neg (not_le.mpr hp), if_neg (by norm_num)]
    have hl2 : Real.log 2 ≠ 0 := (Real.log_pos (by norm_num)).ne'
    unfold Ideal.div
    rw [if_neg (by exact_mod_cast hl2), ← EReal.coe_inv, ← EReal.coe_mul, Ideal.liftRound_coe, ← EReal.coe_add, ← EReal.coe_sub]
    rw [← lg]
    push_cast
    rfl

theorem be_bounds {m : ℝ} (ok : Ok m) : -128 ≤ be m ∧ be m ≤ 125 := by
  unfold be
  split
  · omega
  · obtain ⟨h1, h2⟩ := ok.resolve_left ‹_›
    have := lg_bounds (lt_of_lt_of_le (by positivity) h1) h1 h2
    omega

theorem fptosi_eq {e : ℤ} (h1 : -128 ≤ e) (h2 : e ≤ 125) : Ideal.fptosi 32 ((e : ℝ) : EReal) = BitVec.ofInt 32 e := by
  unfold Ideal.fptosi Ideal.toIntClamped
  show BitVec.ofInt 32 (max _ (min _ (if (0 : ℝ) ≤ (e : ℝ) then ⌊(e : ℝ)⌋ else ⌈(e : ℝ)⌉))) = _
  rw [Int.floor_intCast, Int.ceil_intCast, ite_self]
  congr 1
  norm_num
  omega

/-- The two exponents agree. -/
theorem agree {m : ℝ} (ok : Ok m) : Ideal.fptosi 32 (rE m) = kE m := by
  rw [rE_eq ok, kE_eq ok]
  exact fptosi_eq (be_bounds ok).1 (be_bounds ok).2

/-! ## The mask -/

/-- What the mask asks of a scaled maximum. -/
def okb (M : EReal) : BitVec 1 :=
  BitVec.ofBool (decide (M = Ideal.ofBits .f32 0x00000000#32)) |||
    (BitVec.ofBool (decide (Ideal.ofBits .f32 0x00800000#32 ≤ M)) &&& BitVec.ofBool (decide (M ≤ Ideal.ofBits .f32 0x7F7FFFFF#32)))

theorem okb_spec {M : EReal} (h : okb M = 1#1) : ∃ m : ℝ, M = (m : EReal) ∧ Ok m := by
  obtain ⟨t, ht, et⟩ := top_lt
  unfold okb at h
  rw [low_eq, et, zero_eq] at h
  by_cases h0 : M = 0
  · exact ⟨0, h0, .inl rfl⟩
  · by_cases h1 : ((2 ^ (-126 : ℤ) : ℝ) : EReal) ≤ M
    · by_cases h2 : M ≤ (t : EReal)
      · induction M with
        | bot => exact absurd h1 (by simp)
        | top => exact absurd h2 (by simp)
        | coe q => exact ⟨q, rfl, .inr ⟨EReal.coe_le_coe_iff.mp h1, lt_of_le_of_lt (EReal.coe_le_coe_iff.mp h2) ht⟩⟩
      · rw [decide_eq_false h0, decide_eq_false h2, decide_eq_true h1] at h
        exact absurd h (by decide)
    · rw [decide_eq_false h0, decide_eq_false h1] at h
      exact absurd h (by cases decide (M ≤ (t : EReal)) <;> decide)

end Cert.QtMath

end
-- ==== Proof.QtRef.lean ====
/- What the reference of `quant_t`'s scales computes, over the extended reals and entry by entry, and what the mask asks. -/
module

public import proofs.«01_k».proof.Proof.Gen.QtReferenceIdeal.Run
public import proofs.«01_k».proof.Proof.Gen.QtReferenceIdeal.Read
public import proofs.«01_k».proof.Proof.Gen.On_qt_in_range
public import proofs.«01_k».proof.Proof.QtMath

@[expose] public section

set_option maxRecDepth 16384

noncomputable section

namespace Cert.QtReferenceIdeal.QtRef

open Cert.QtReferenceIdeal Cert.QtReferenceIdeal.Gen Cert.QtReferenceIdeal.Read Cert.DxExp Cert.QtMath
open Idealize.ShloMosaic Idealize.ShloMosaic.TcCoe Idealize.SL.Sem

theorem ofBool_ite {α : Type} (p : Prop) [Decidable p] (a b : α) :
    (if BitVec.ofBool (decide p) = 1 then a else b) = if p then a else b := by
  by_cases h : p <;> simp [h]

theorem ofBeq_ite {α : Type} (u v : BitVec 32) (a b : α) :
    (if BitVec.ofBool (u == v) = 1 then a else b) = if u = v then a else b := by
  by_cases h : u = v
  · subst h; simp
  · rw [beq_false_of_ne h, if_neg h, if_neg (by decide)]

/-- An index of a 32 × 32 matrix, -/
def ixh (p q : Fin 32) : S32x32.Idx := fun | 0 => p | 1 => q
/-- and of the array of rotated groups. -/
def ixg (g : Fin 192) (p : Fin 32) (k : Fin 4096) : S192x32x4096.Idx := fun | 0 => g | 1 => p | 2 => k

/-- The Hadamard matrix's entries. -/
theorem had_apply (p q : Fin 32) : (val_main_v19 (F := Ideal) (ixh p q) : EReal)
    = if ev p q then Ideal.ofBits .f32 0x3E3504F3#32 else -Ideal.ofBits .f32 0x3E3504F3#32 := by
  rw [val_main_v19_apply, val_main_v16_apply, val_main_v18_apply]
  show (if BitVec.ofBool ((val_main_v13 (F := Ideal) (ixh p q)) == (val_main_v14 (F := Ideal) (ixh p q))) = 1 then _ else _) = _
  rw [ofBeq_ite, val_main_v14_apply, val_main_v13_apply, val_main_v12_apply, val_main_v11_apply, val_main_v10_apply, val_main_v8_apply, val_main_v9_apply,
    val_main_v6_apply, val_main_v7_apply]
  rfl

variable (x : (⟨S6144x4096, .bf16⟩ : BufTy).Contents (Elt Ideal)) (s : (⟨S6144, .f32⟩ : BufTy).Contents (Elt Ideal))

theorem term_apply (g : Fin 192) (p : Fin 32) (k : Fin 4096) (q : Fin 32) :
    (val_main_v24 (F := Ideal) x s (idx_main_v25 (ixg g p k) q) : EReal)
      = grp x s g k q * (if ev p q then Ideal.ofBits .f32 0x3E3504F3#32 else -Ideal.ofBits .f32 0x3E3504F3#32) := by
  rw [val_main_v24_apply, val_main_v22_apply, val_main_v23_apply, val_main_v21_apply, val_main_v20_apply]
  refine congrArg₂ (fun a b : EReal => a * b) ?_ ((congrArg (val_main_v19 (F := Ideal)) (funext fun a => Fin.ext (by
    match a with
    | ⟨0, _⟩ => rfl
    | ⟨1, _⟩ => rfl))).trans (had_apply p q))
  rw [val_main_v4_apply, val_main_v3_apply]
  refine congrArg₂ (fun a b : EReal => a * b) ?_ ?_
  · show x _ = x _
    refine congrArg x (funext fun a => Fin.ext ?_)
    have hg := g.isLt
    have hq := q.isLt
    have hk := k.isLt
    match a with
    | ⟨0, _⟩ => simp [idx_main_v25, idx_main_v22, idx_main_v4, ixg]; omega
    | ⟨1, _⟩ => simp [idx_main_v25, idx_main_v22, idx_main_v4, ixg]
  · rw [val_main_v2_apply, val_main_v1_apply]
    refine congrArg s (funext fun a => Fin.ext ?_)
    have hg := g.isLt
    have hq := q.isLt
    have hk := k.isLt
    match a with
    | ⟨0, _⟩ => simp [idx_main_v25, idx_main_v22, idx_main_v4, idx_main_v2, idx_main_v1, ixg]; omega

theorem reducesD1 : S192x32x4096.Reduces [1] S192x4096 := by decide

/-- The scaled maxima. -/
theorem max_apply (i : S192x4096.Idx) : (val_main_v27 (F := Ideal) x s i : EReal) = gmax (grp x s (i 0) (i 1)) := by
  unfold val_main_v27
  refine (Host.reduce_eq_fold_single (max : EReal → EReal → EReal) (val_main_v26 (F := Ideal) x s) (val_main_cst_3 (F := Ideal)) reducesTo_S192x32x4096_S192x4096_d1
    reducesD1 h_S_ i).trans ?_
  rw [val_main_cst_3_apply, ← gmax_ref]
  show (Finset.univ : Finset (Fin 32)).fold max (Ideal.ofBits .f32 0xFF800000#32) _ = _
  rw [bot_eq]
  refine congrArg (fun f => (Finset.univ : Finset (Fin 32)).fold max (⊥ : EReal) f) (funext fun p => ?_)
  have e : reducesD1.lift i p = ixg (i 0) p (i 1) := funext fun a => Fin.ext (by
    match a with
    | ⟨0, _⟩ => rfl
    | ⟨1, _⟩ => rfl
    | ⟨2, _⟩ => rfl)
  show val_main_v26 (F := Ideal) x s (reducesD1.lift i p) = _
  rw [e, val_main_v26_apply]
  refine congrArg (fun u : EReal => max u (-u)) ?_
  rw [val_main_v25_apply, val_main_cst_2_apply]
  refine congrArg₂ (fun a b : EReal => a + b) zero_eq (Finset.sum_congr rfl fun q _ => term_apply x s (i 0) p (i 1) q)

/-- The exponents, of the scaled maxima. -/
def expOf (a : FVec Ideal S192x4096 .f32) : FVec Ideal S192x4096 .f32 :=
  select (cmpf .oeq a (val_main_v37 (F := Ideal))) (val_main_v39 (F := Ideal))
    (subf (addf (floor (Host.divf (Host.log a) (val_main_v30 (F := Ideal)))) (val_main_v33 (F := Ideal))) (val_main_v35 (F := Ideal)))

theorem v40_eq : val_main_v40 (F := Ideal) x s = expOf (val_main_v27 (F := Ideal) x s) := rfl

theorem expOf_apply (a : FVec Ideal S192x4096 .f32) (i : S192x4096.Idx) : (expOf a i : EReal) = rE (a i) := by
  show (if BitVec.ofBool (decide ((a i : EReal) = Ideal.ofBits .f32 0x00000000#32)) = 1 then Ideal.ofBits .f32 0x00000000#32
    else Ideal.liftRound Int.floor (Ideal.div (Ideal.log (a i)) (Ideal.log (Ideal.ofBits .f32 0x40000000#32)))
      + Ideal.ofBits .f32 0x3F800000#32 - Ideal.ofBits .f32 0x40400000#32) = _
  rw [ofBool_ite, zero_eq, QtMath.two_eq, QtMath.one_eq, three_eq]
  rfl

/-- The reference's result. -/
theorem ref_apply (i : S192x4096.Idx) :
    val_main_v42 (F := Ideal) x s i = (Ideal.fptosi 32 (rE (gmax (grp x s (i 0) (i 1))))).setWidth 8 := by
  rw [val_main_v42_apply, val_main_v41_apply, v40_eq]
  refine congrArg (fun e : EReal => (Ideal.fptosi 32 e).setWidth 8) ?_
  rw [expOf_apply, max_apply]

/-- The mask, of the scaled maxima. -/
def maskOf (a : FVec Ideal S192x4096 .f32) : IVec S192x4096 1 :=
  ori (cmpf .oeq a (broadcastInDim S192x4096 ![] bcast_S_S192x4096 (constant S_ .f32 0x00000000#32)))
    (andi (cmpf .oge a (broadcastInDim S192x4096 ![] bcast_S_S192x4096 (constant S_ .f32 0x00800000#32)))
      (cmpf .ole a (broadcastInDim S192x4096 ![] bcast_S_S192x4096 (constant S_ .f32 0x7F7FFFFF#32))))

theorem mask_eq (r : IVec S6144x4096 8) : Cert.On_qt_in_range.fn (F := Ideal) x r s = maskOf (val_main_v27 (F := Ideal) x s) := rfl

theorem maskOf_apply (a : FVec Ideal S192x4096 .f32) (i : S192x4096.Idx) : maskOf a i = okb (a i) := rfl

/-- The mask at an entry. -/
theorem mask_apply (r : IVec S6144x4096 8) (i : S192x4096.Idx) :
    Cert.On_qt_in_range.fn (F := Ideal) x r s i = okb (gmax (grp x s (i 0) (i 1))) := by
  rw [mask_eq, maskOf_apply, max_apply]

end Cert.QtReferenceIdeal.QtRef

end
-- ==== Proof.QtKernelIdealLoops.lean ====
module

public import proofs.«01_k».proof.Proof.Gen.QtKernelIdeal.Frame
public import proofs.«01_k».proof.Proof.Gen.QtKernelIdeal.Loops

@[expose] public section

set_option maxRecDepth 16384
set_option maxHeartbeats 8000000

noncomputable section

namespace Cert.QtKernelIdeal.Qt

open Cert.QtKernelIdeal Cert.QtKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip of loop 1: it reads the bytes and the rotated rows, leaves the codes, the decoded values and the small
    scratch buffers at some contents, and writes its exponents, which depend on the rotated rows alone. -/
@[irreducible] def trip1 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t1_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t1_abs.2.1
  refine ⟨?_, fun E f6 f8 f10 f11 f12 f13 => ?run⟩
  case run =>
    unfold k0_t1_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb1Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t1_loop.trips then (trip1 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb1 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb1Step (F := F) c i arg2 harg2 arg3 harg3 arg4 harg4 arg5 harg5 arg6 harg6 arg7 harg7 arg8 harg8 arg9 harg9 arg10 harg10 arg11 harg11 arg12 harg12 arg13 harg13 X3 X9 k (pb1 c i arg2 harg2 arg3 harg3 arg4 harg4 arg5 harg5 arg6 harg6 arg7 harg7 arg8 harg8 arg9 harg9 arg10 harg10 arg11 harg11 arg12 harg12 arg13 harg13 X3 X9 k)

theorem pb1_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t1_loop.trips) :
    pb1 (F := F) c i arg2 harg2 arg3 harg3 arg4 harg4 arg5 harg5 arg6 harg6 arg7 harg7 arg8 harg8 arg9 harg9 arg10 harg10 arg11 harg11 arg12 harg12 arg13 harg13 X3 X9 (k.val + 1) = (trip1 (F := F) c i arg2 harg2 arg3 harg3 arg4 harg4 arg5 harg5 arg6 harg6 arg7 harg7 arg8 harg8 arg9 harg9 arg10 harg10 arg11 harg11 arg12 harg12 arg13 harg13 X3 X9 k).1 ++ pb1 (F := F) c i arg2 harg2 arg3 harg3 arg4 harg4 arg5 harg5 arg6 harg6 arg7 harg7 arg8 harg8 arg9 harg9 arg10 harg10 arg11 harg11 arg12 harg12 arg13 harg13 X3 X9 k.val := by
  rw [pb1.eq_2]; unfold pb1Step; exact dif_pos k.isLt

set_option warn.classDefReducibility false in
/-- The loop by its invariant: the bytes and the rotated rows as they are, the exponents' buffer with the pieces of the
    trips before `k` over what it held, everything else at some contents. -/
@[sl_loop] def loopInv1 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb1 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip1 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb1_succ]
      iexists _; isplitl [H13]; · iexact H13
      ipureintro; rw [h13, ← View.writes_append]

/-- One trip of loop 2: it reads the bytes and the rotated rows, leaves the codes, the decoded values and the small
    scratch buffers at some contents, and writes its exponents, which depend on the rotated rows alone. -/
@[irreducible] def trip2 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t2_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t2_abs.2.1
  refine ⟨?_, fun E f6 f8 f10 f11 f12 f13 => ?run⟩
  case run =>
    unfold k0_t2_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb2Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t2_loop.trips then (trip2 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb2 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb2Step (F := F) c i arg2 harg2 arg3 harg3 arg4 harg4 arg5 harg5 arg6 harg6 arg7 harg7 arg8 harg8 arg9 harg9 arg10 harg10 arg11 harg11 arg12 harg12 arg13 harg13 X3 X9 k (pb2 c i arg2 harg2 arg3 harg3 arg4 harg4 arg5 harg5 arg6 harg6 arg7 harg7 arg8 harg8 arg9 harg9 arg10 harg10 arg11 harg11 arg12 harg12 arg13 harg13 X3 X9 k)

theorem pb2_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t2_loop.trips) :
    pb2 (F := F) c i arg2 harg2 arg3 harg3 arg4 harg4 arg5 harg5 arg6 harg6 arg7 harg7 arg8 harg8 arg9 harg9 arg10 harg10 arg11 harg11 arg12 harg12 arg13 harg13 X3 X9 (k.val + 1) = (trip2 (F := F) c i arg2 harg2 arg3 harg3 arg4 harg4 arg5 harg5 arg6 harg6 arg7 harg7 arg8 harg8 arg9 harg9 arg10 harg10 arg11 harg11 arg12 harg12 arg13 harg13 X3 X9 k).1 ++ pb2 (F := F) c i arg2 harg2 arg3 harg3 arg4 harg4 arg5 harg5 arg6 harg6 arg7 harg7 arg8 harg8 arg9 harg9 arg10 harg10 arg11 harg11 arg12 harg12 arg13 harg13 X3 X9 k.val := by
  rw [pb2.eq_2]; unfold pb2Step; exact dif_pos k.isLt

set_option warn.classDefReducibility false in
/-- The loop by its invariant: the bytes and the rotated rows as they are, the exponents' buffer with the pieces of the
    trips before `k` over what it held, everything else at some contents. -/
@[sl_loop] def loopInv2 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb2 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip2 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb2_succ]
      iexists _; isplitl [H13]; · iexact H13
      ipureintro; rw [h13, ← View.writes_append]

/-- One trip of loop 3: it reads the bytes and the rotated rows, leaves the codes, the decoded values and the small
    scratch buffers at some contents, and writes its exponents, which depend on the rotated rows alone. -/
@[irreducible] def trip3 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t3_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t3_abs.2.1
  refine ⟨?_, fun E f6 f8 f10 f11 f12 f13 => ?run⟩
  case run =>
    unfold k0_t3_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb3Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t3_loop.trips then (trip3 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb3 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb3Step (F := F) c i arg2 harg2 arg3 harg3 arg4 harg4 arg5 harg5 arg6 harg6 arg7 harg7 arg8 harg8 arg9 harg9 arg10 harg10 arg11 harg11 arg12 harg12 arg13 harg13 X3 X9 k (pb3 c i arg2 harg2 arg3 harg3 arg4 harg4 arg5 harg5 arg6 harg6 arg7 harg7 arg8 harg8 arg9 harg9 arg10 harg10 arg11 harg11 arg12 harg12 arg13 harg13 X3 X9 k)

theorem pb3_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t3_loop.trips) :
    pb3 (F := F) c i arg2 harg2 arg3 harg3 arg4 harg4 arg5 harg5 arg6 harg6 arg7 harg7 arg8 harg8 arg9 harg9 arg10 harg10 arg11 harg11 arg12 harg12 arg13 harg13 X3 X9 (k.val + 1) = (trip3 (F := F) c i arg2 harg2 arg3 harg3 arg4 harg4 arg5 harg5 arg6 harg6 arg7 harg7 arg8 harg8 arg9 harg9 arg10 harg10 arg11 harg11 arg12 harg12 arg13 harg13 X3 X9 k).1 ++ pb3 (F := F) c i arg2 harg2 arg3 harg3 arg4 harg4 arg5 harg5 arg6 harg6 arg7 harg7 arg8 harg8 arg9 harg9 arg10 harg10 arg11 harg11 arg12 harg12 arg13 harg13 X3 X9 k.val := by
  rw [pb3.eq_2]; unfold pb3Step; exact dif_pos k.isLt

set_option warn.classDefReducibility false in
/-- The loop by its invariant: the bytes and the rotated rows as they are, the exponents' buffer with the pieces of the
    trips before `k` over what it held, everything else at some contents. -/
@[sl_loop] def loopInv3 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb3 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip3 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb3_succ]
      iexists _; isplitl [H13]; · iexact H13
      ipureintro; rw [h13, ← View.writes_append]

/-- One trip of loop 4: it reads the bytes and the rotated rows, leaves the codes, the decoded values and the small
    scratch buffers at some contents, and writes its exponents, which depend on the rotated rows alone. -/
@[irreducible] def trip4 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t4_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t4_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t4_abs.2.1
  refine ⟨?_, fun E f6 f8 f10 f11 f12 f13 => ?run⟩
  case run =>
    unfold k0_t4_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb4Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t4_loop.trips then (trip4 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb4 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb4Step (F := F) c i arg2 harg2 arg3 harg3 arg4 harg4 arg5 harg5 arg6 harg6 arg7 harg7 arg8 harg8 arg9 harg9 arg10 harg10 arg11 harg11 arg12 harg12 arg13 harg13 X3 X9 k (pb4 c i arg2 harg2 arg3 harg3 arg4 harg4 arg5 harg5 arg6 harg6 arg7 harg7 arg8 harg8 arg9 harg9 arg10 harg10 arg11 harg11 arg12 harg12 arg13 harg13 X3 X9 k)

theorem pb4_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t4_loop.trips) :
    pb4 (F := F) c i arg2 harg2 arg3 harg3 arg4 harg4 arg5 harg5 arg6 harg6 arg7 harg7 arg8 harg8 arg9 harg9 arg10 harg10 arg11 harg11 arg12 harg12 arg13 harg13 X3 X9 (k.val + 1) = (trip4 (F := F) c i arg2 harg2 arg3 harg3 arg4 harg4 arg5 harg5 arg6 harg6 arg7 harg7 arg8 harg8 arg9 harg9 arg10 harg10 arg11 harg11 arg12 harg12 arg13 harg13 X3 X9 k).1 ++ pb4 (F := F) c i arg2 harg2 arg3 harg3 arg4 harg4 arg5 harg5 arg6 harg6 arg7 harg7 arg8 harg8 arg9 harg9 arg10 harg10 arg11 harg11 arg12 harg12 arg13 harg13 X3 X9 k.val := by
  rw [pb4.eq_2]; unfold pb4Step; exact dif_pos k.isLt

set_option warn.classDefReducibility false in
/-- The loop by its invariant: the bytes and the rotated rows as they are, the exponents' buffer with the pieces of the
    trips before `k` over what it held, everything else at some contents. -/
@[sl_loop] def loopInv4 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t4 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb4 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip4 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb4_succ]
      iexists _; isplitl [H13]; · iexact H13
      ipureintro; rw [h13, ← View.writes_append]

end Cert.QtKernelIdeal.Qt

end
-- ==== Proof.QtKernelIdealRun.lean ====
module

public import proofs.«01_k».proof.Proof.Gen.QtKernelIdeal.Frame
public import proofs.«01_k».proof.Proof.Gen.QtKernelIdeal.Loops
public import proofs.«01_k».proof.Proof.QtKernelIdealLoops

@[expose] public section

set_option maxRecDepth 16384
set_option maxHeartbeats 8000000

noncomputable section

namespace Cert.QtKernelIdeal.Qt

open Cert.QtKernelIdeal Cert.QtKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body, run once: from the four input blocks and everything else at any contents it gives the inputs back, and
    leaves in the scales' buffer what one whole-buffer store puts there; the rest ends at some contents. -/
@[irreducible] def kernelRun (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f13 : BufTy.Contents (Elt F) arg13.view.ty) :
    { L : List (View.Piece (Elt F) S32x1024 .i8) //
      ∀ (f6 : BufTy.Contents (Elt F) arg6.view.ty) (f7 : BufTy.Contents (Elt F) arg7.view.ty) (f8 : BufTy.Contents (Elt F) arg8.view.ty) (f10 : BufTy.Contents (Elt F) arg10.view.ty) (f11 : BufTy.Contents (Elt F) arg11.view.ty) (f12 : BufTy.Contents (Elt F) arg12.view.ty) (E : Set ℕ) (K : PUnit → sProp (MT nD τ sig Unit (Elt F) ℕ (UR sig nD τ) ℕ)),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ f, (arg6.view.loc (c : Thread nD τ) ↦[arg6.view.set]{fullShare} f)) ∗ (∃ f, (arg7.view.loc (c : Thread nD τ) ↦[arg7.view.set]{fullShare} arg7.view.writes (Elt F) f L)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ⟨⟩))
      ⊢ wp frame (wpE (defs₀ (F := F)) Variants.none (c : Thread nD τ) none) E (cc0_quant_t (F := F) i arg2 harg2 arg3 harg3 arg4 harg4 arg5 harg5 arg6 harg6 arg7 harg7 arg8 harg8 arg9 harg9 arg10 harg10 arg11 harg11 arg12 harg12 arg13 harg13) K } := by
  refine ⟨?_, fun f6 f7 f8 f10 f11 f12 E K => ?run⟩
  case run =>
    simp only [cc0_quant_t_eq_skeleton]
    unfold cc0_quant_t_skel
    iintro ⟨H2, H3, H4, H5, H6, H7, H8, H9, H10, H11, H12, H13, Hk⟩
    sl_exec
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.QtKernelIdeal.Qt

end
-- ==== Proof.QtPieces.lean ====
module

public import proofs.«01_k».proof.Proof.Gen.QtKernelIdeal.Frame
public import proofs.«01_k».proof.Proof.Gen.QtKernelIdeal.Loops
public import proofs.«01_k».proof.Proof.QtKernelIdealRun

@[expose] public section

set_option maxRecDepth 16384
set_option maxHeartbeats 8000000

noncomputable section

namespace Cert.QtKernelIdeal.Qt

open Cert.QtKernelIdeal Cert.QtKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rotated rows of chunk `q` (256 of the block's 1024 rows), as the body stores them. -/
def st1 (arg2 : Memref sig .tc .vmem S1024x1024 .bf16) (arg4 : Memref sig .tc .vmem S1x1024 .f32) (arg5 : Memref sig .tc .vmem S256x256 .bf16)
    (f2 : BufTy.Contents (Elt F) arg2.view.ty) (f4 : BufTy.Contents (Elt F) arg4.view.ty) (f5 : BufTy.Contents (Elt F) arg5.view.ty) : View.Piece (Elt F) S256x1024 .f32 :=
  ⟨Rect.unit (s := S256x1024) ![0, 0] S256x1024.size inb_S256x1024_S256x1024_0_0, k0_pay945
    (View.readAt (Elt F) arg5.view (Rect.unit (s := S256x256) ![0, 0] S256x256.size inb_S256x256_S256x256_0_0).toLoadRect f5)
    (View.readAt (Elt F) arg4.view (Rect.unit (s := S1x1024) ![0, 0] S1x256.size inb_S1x1024_S1x256_0_0).toLoadRect f4)
    (View.readAt (Elt F) arg2.view (Rect.unit (s := S1024x1024) ![0, 0] S256x1024.size inb_S1024x1024_S256x1024_0_0).toLoadRect f2)⟩

def st2 (arg2 : Memref sig .tc .vmem S1024x1024 .bf16) (arg4 : Memref sig .tc .vmem S1x1024 .f32) (arg5 : Memref sig .tc .vmem S256x256 .bf16)
    (f2 : BufTy.Contents (Elt F) arg2.view.ty) (f4 : BufTy.Contents (Elt F) arg4.view.ty) (f5 : BufTy.Contents (Elt F) arg5.view.ty) : View.Piece (Elt F) S256x1024 .f32 :=
  ⟨Rect.unit (s := S256x1024) ![0, 0] S256x1024.size inb_S256x1024_S256x1024_0_0, k0_pay947
    (View.readAt (Elt F) arg5.view (Rect.unit (s := S256x256) ![0, 0] S256x256.size inb_S256x256_S256x256_0_0).toLoadRect f5)
    (View.readAt (Elt F) arg4.view (Rect.unit (s := S1x1024) ![0, 256] S1x256.size inb_S1x1024_S1x256_0_256).toLoadRect f4)
    (View.readAt (Elt F) arg2.view (Rect.unit (s := S1024x1024) ![256, 0] S256x1024.size inb_S1024x1024_S256x1024_256_0).toLoadRect f2)⟩

def st3 (arg2 : Memref sig .tc .vmem S1024x1024 .bf16) (arg4 : Memref sig .tc .vmem S1x1024 .f32) (arg5 : Memref sig .tc .vmem S256x256 .bf16)
    (f2 : BufTy.Contents (Elt F) arg2.view.ty) (f4 : BufTy.Contents (Elt F) arg4.view.ty) (f5 : BufTy.Contents (Elt F) arg5.view.ty) : View.Piece (Elt F) S256x1024 .f32 :=
  ⟨Rect.unit (s := S256x1024) ![0, 0] S256x1024.size inb_S256x1024_S256x1024_0_0, k0_pay949
    (View.readAt (Elt F) arg5.view (Rect.unit (s := S256x256) ![0, 0] S256x256.size inb_S256x256_S256x256_0_0).toLoadRect f5)
    (View.readAt (Elt F) arg4.view (Rect.unit (s := S1x1024) ![0, 512] S1x256.size inb_S1x1024_S1x256_0_512).toLoadRect f4)
    (View.readAt (Elt F) arg2.view (Rect.unit (s := S1024x1024) ![512, 0] S256x1024.size inb_S1024x1024_S256x1024_512_0).toLoadRect f2)⟩

def st4 (arg2 : Memref sig .tc .vmem S1024x1024 .bf16) (arg4 : Memref sig .tc .vmem S1x1024 .f32) (arg5 : Memref sig .tc .vmem S256x256 .bf16)
    (f2 : BufTy.Contents (Elt F) arg2.view.ty) (f4 : BufTy.Contents (Elt F) arg4.view.ty) (f5 : BufTy.Contents (Elt F) arg5.view.ty) : View.Piece (Elt F) S256x1024 .f32 :=
  ⟨Rect.unit (s := S256x1024) ![0, 0] S256x1024.size inb_S256x1024_S256x1024_0_0, k0_pay951
    (View.readAt (Elt F) arg5.view (Rect.unit (s := S256x256) ![0, 0] S256x256.size inb_S256x256_S256x256_0_0).toLoadRect f5)
    (View.readAt (Elt F) arg4.view (Rect.unit (s := S1x1024) ![0, 768] S1x256.size inb_S1x1024_S1x256_0_768).toLoadRect f4)
    (View.readAt (Elt F) arg2.view (Rect.unit (s := S1024x1024) ![768, 0] S256x1024.size inb_S1024x1024_S256x1024_768_0).toLoadRect f2)⟩

/-- The pieces the four loops store in the exponents' buffer, last first. -/
def allPieces (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f13 : BufTy.Contents (Elt F) arg13.view.ty) : List (View.Piece (Elt F) S32x1024 .i32) :=
  pb4 (F := F) c i arg2 harg2 arg3 harg3 arg4 harg4 arg5 harg5 arg6 harg6 arg7 harg7 arg8 harg8 arg9 harg9 arg10 harg10 arg11 harg11 arg12 harg12 arg13 harg13 f3 (arg9.view.writes (Elt F) arg9.view.junk [st4 arg2 arg4 arg5 f2 f4 f5, st3 arg2 arg4 arg5 f2 f4 f5, st2 arg2 arg4 arg5 f2 f4 f5, st1 arg2 arg4 arg5 f2 f4 f5]) (Scf.trips k0_t4_loop.lb k0_t4_loop.ub k0_t4_loop.st) ++ (pb3 (F := F) c i arg2 harg2 arg3 harg3 arg4 harg4 arg5 harg5 arg6 harg6 arg7 harg7 arg8 harg8 arg9 harg9 arg10 harg10 arg11 harg11 arg12 harg12 arg13 harg13 f3 (arg9.view.writes (Elt F) arg9.view.junk [st3 arg2 arg4 arg5 f2 f4 f5, st2 arg2 arg4 arg5 f2 f4 f5, st1 arg2 arg4 arg5 f2 f4 f5]) (Scf.trips k0_t3_loop.lb k0_t3_loop.ub k0_t3_loop.st) ++ (pb2 (F := F) c i arg2 harg2 arg3 harg3 arg4 harg4 arg5 harg5 arg6 harg6 arg7 harg7 arg8 harg8 arg9 harg9 arg10 harg10 arg11 harg11 arg12 harg12 arg13 harg13 f3 (arg9.view.writes (Elt F) arg9.view.junk [st2 arg2 arg4 arg5 f2 f4 f5, st1 arg2 arg4 arg5 f2 f4 f5]) (Scf.trips k0_t2_loop.lb k0_t2_loop.ub k0_t2_loop.st) ++ pb1 (F := F) c i arg2 harg2 arg3 harg3 arg4 harg4 arg5 harg5 arg6 harg6 arg7 harg7 arg8 harg8 arg9 harg9 arg10 harg10 arg11 harg11 arg12 harg12 arg13 harg13 f3 (arg9.view.writes (Elt F) arg9.view.junk [st1 arg2 arg4 arg5 f2 f4 f5]) (Scf.trips k0_t1_loop.lb k0_t1_loop.ub k0_t1_loop.st)))

set_option maxRecDepth 100000 in
/-- What the body stores in the scales' buffer: the exponents' buffer after the four loops, cast. -/
theorem kernelRun_eq (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f13 : BufTy.Contents (Elt F) arg13.view.ty) :
    (kernelRun (F := F) c i arg2 harg2 arg3 harg3 arg4 harg4 arg5 harg5 arg6 harg6 arg7 harg7 arg8 harg8 arg9 harg9 arg10 harg10 arg11 harg11 arg12 harg12 arg13 harg13 f2 f3 f4 f5 f9 f13).1
      = [⟨Rect.unit (s := S32x1024) ![0, 0] S32x1024.size inb_S32x1024_S32x1024_0_0,
          k0_pay953 (View.readAt (Elt F) arg13.view (Rect.unit (s := S32x1024) ![0, 0] S32x1024.size inb_S32x1024_S32x1024_0_0).toLoadRect
            (arg13.view.writes (Elt F) f13 (allPieces c i arg2 harg2 arg3 harg3 arg4 harg4 arg5 harg5 arg6 harg6 arg7 harg7 arg8 harg8 arg9 harg9 arg10 harg10 arg11 harg11 arg12 harg12 arg13 harg13 f2 f3 f4 f5 f9 f13)))⟩] := by
  sl_kernel_rfl

end Cert.QtKernelIdeal.Qt

end
-- ==== Proof.QtTrip.lean ====
/- One trip of each loop of `quant_t`, as far as the exponents go: a tile of 8 groups by 128 lanes from the 32 rows of
   8 that hold the groups' rotated entries. The kernel's text writes it out four times; `trip1_eq` … `trip4_eq` say that
   what each trip stores in the exponents' buffer is this. -/
module

public import proofs.«01_k».proof.Proof.Gen.QtKernelIdeal.Frame
public import proofs.«01_k».proof.Proof.Gen.QtKernelIdeal.Loops
public import proofs.«01_k».proof.Proof.QtKernelIdealLoops

@[expose] public section

set_option maxRecDepth 16384
set_option maxHeartbeats 8000000

noncomputable section

namespace Cert.QtKernelIdeal.Qt

open Cert.QtKernelIdeal Cert.QtKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One bit of the search for the exponent field. -/
def bitStep (m : FVec F S8x128 .f32) (b : BitVec 32) (acc : IVec S8x128 32) : IVec S8x128 32 :=
  select (cmpf .olt m (bitcastToFloat .f32 (ori acc (broadcast S8x128 b)))) acc (ori acc (broadcast S8x128 b))

/-- The exponent field of `m`, in place, most significant bit first. -/
def expBits (m : FVec F S8x128 .f32) : IVec S8x128 32 :=
  bitStep m 8388608#32 (bitStep m 16777216#32 (bitStep m 33554432#32 (bitStep m 67108864#32
    (bitStep m 134217728#32 (bitStep m 268435456#32 (bitStep m 536870912#32 (bitStep m 1073741824#32
      (broadcast S8x128 0#32))))))))

/-- The exponent, per entry. -/
def eT (m : FVec F S8x128 .f32) : IVec S8x128 32 :=
  select (cmpi .eq (expBits m) (broadcast S8x128 0#32)) (broadcast S8x128 0#32)
    (subi (shrui (expBits m) (broadcast S8x128 23#32)) (broadcast S8x128 129#32))

/-- The largest magnitude over the 32 rows, times the constant 1/√32. -/
def mT (s : Fin 32 → FVec F S8x128 .f32) : FVec F S8x128 .f32 :=
  mulf (maximumf (maximumf (maximumf (maximumf (maximumf (absf (s 0)) (absf (s 1))) (maximumf (absf (s 2)) (absf (s 3)))) (maximumf (maximumf (absf (s 4)) (absf (s 5))) (maximumf (absf (s 6)) (absf (s 7))))) (maximumf (maximumf (maximumf (absf (s 8)) (absf (s 9))) (maximumf (absf (s 10)) (absf (s 11)))) (maximumf (maximumf (absf (s 12)) (absf (s 13))) (maximumf (absf (s 14)) (absf (s 15)))))) (maximumf (maximumf (maximumf (maximumf (absf (s 16)) (absf (s 17))) (maximumf (absf (s 18)) (absf (s 19)))) (maximumf (maximumf (absf (s 20)) (absf (s 21))) (maximumf (absf (s 22)) (absf (s 23))))) (maximumf (maximumf (maximumf (absf (s 24)) (absf (s 25))) (maximumf (absf (s 26)) (absf (s 27)))) (maximumf (maximumf (absf (s 28)) (absf (s 29))) (maximumf (absf (s 30)) (absf (s 31))))))) (broadcast S8x128 (Scalar.ofBits .f32 0x3E3504F3#32))

set_option maxRecDepth 100000

theorem rowInb1 (k : Fin k0_t1_loop.trips) (i : Fin 32) (a : Fin 2) :
    (![8 * i.val, k0_off35 k 1] : Fin 2 → Nat) a + S8x128.size a ≤ S256x1024.size a := by
  revert k i a; decide +kernel

/-- The `i`-th row of 8 groups the trip loads. -/
def ldRow1 (arg9 : Memref sig .tc .vmem S256x1024 .f32) (X9 : BufTy.Contents (Elt F) arg9.view.ty)
    (k : Fin k0_t1_loop.trips) (i : Fin 32) : Vec F S8x128 .f32 :=
  View.readAt (Elt F) arg9.view (Rect.unit (s := S256x1024) ![8 * i.val, k0_off35 k 1] S8x128.size (rowInb1 k i)).toLoadRect X9

/-- What a trip of loop 1 stores in the exponents' buffer. -/
theorem trip1_eq (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t1_loop.trips) :
    (trip1 (F := F) c i arg2 harg2 arg3 harg3 arg4 harg4 arg5 harg5 arg6 harg6 arg7 harg7 arg8 harg8 arg9 harg9 arg10 harg10 arg11 harg11 arg12 harg12 arg13 harg13 X3 X9 k).1
      = [⟨Rect.unit (s := S32x1024) (k0_off35 k) S8x128.size (k0_off35_inb k), k0_pay946 (eT (mT (ldRow1 arg9 X9 k)))⟩] := by
  sl_kernel_rfl

theorem rowInb2 (k : Fin k0_t2_loop.trips) (i : Fin 32) (a : Fin 2) :
    (![8 * i.val, k0_off78 k 1] : Fin 2 → Nat) a + S8x128.size a ≤ S256x1024.size a := by
  revert k i a; decide +kernel

/-- The `i`-th row of 8 groups the trip loads. -/
def ldRow2 (arg9 : Memref sig .tc .vmem S256x1024 .f32) (X9 : BufTy.Contents (Elt F) arg9.view.ty)
    (k : Fin k0_t2_loop.trips) (i : Fin 32) : Vec F S8x128 .f32 :=
  View.readAt (Elt F) arg9.view (Rect.unit (s := S256x1024) ![8 * i.val, k0_off78 k 1] S8x128.size (rowInb2 k i)).toLoadRect X9

/-- What a trip of loop 2 stores in the exponents' buffer. -/
theorem trip2_eq (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t2_loop.trips) :
    (trip2 (F := F) c i arg2 harg2 arg3 harg3 arg4 harg4 arg5 harg5 arg6 harg6 arg7 harg7 arg8 harg8 arg9 harg9 arg10 harg10 arg11 harg11 arg12 harg12 arg13 harg13 X3 X9 k).1
      = [⟨Rect.unit (s := S32x1024) (k0_off78 k) S8x128.size (k0_off78_inb k), k0_pay948 (eT (mT (ldRow2 arg9 X9 k)))⟩] := by
  sl_kernel_rfl

theorem rowInb3 (k : Fin k0_t3_loop.trips) (i : Fin 32) (a : Fin 2) :
    (![8 * i.val, k0_off121 k 1] : Fin 2 → Nat) a + S8x128.size a ≤ S256x1024.size a := by
  revert k i a; decide +kernel

/-- The `i`-th row of 8 groups the trip loads. -/
def ldRow3 (arg9 : Memref sig .tc .vmem S256x1024 .f32) (X9 : BufTy.Contents (Elt F) arg9.view.ty)
    (k : Fin k0_t3_loop.trips) (i : Fin 32) : Vec F S8x128 .f32 :=
  View.readAt (Elt F) arg9.view (Rect.unit (s := S256x1024) ![8 * i.val, k0_off121 k 1] S8x128.size (rowInb3 k i)).toLoadRect X9

/-- What a trip of loop 3 stores in the exponents' buffer. -/
theorem trip3_eq (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t3_loop.trips) :
    (trip3 (F := F) c i arg2 harg2 arg3 harg3 arg4 harg4 arg5 harg5 arg6 harg6 arg7 harg7 arg8 harg8 arg9 harg9 arg10 harg10 arg11 harg11 arg12 harg12 arg13 harg13 X3 X9 k).1
      = [⟨Rect.unit (s := S32x1024) (k0_off121 k) S8x128.size (k0_off121_inb k), k0_pay950 (eT (mT (ldRow3 arg9 X9 k)))⟩] := by
  sl_kernel_rfl

theorem rowInb4 (k : Fin k0_t4_loop.trips) (i : Fin 32) (a : Fin 2) :
    (![8 * i.val, k0_off164 k 1] : Fin 2 → Nat) a + S8x128.size a ≤ S256x1024.size a := by
  revert k i a; decide +kernel

/-- The `i`-th row of 8 groups the trip loads. -/
def ldRow4 (arg9 : Memref sig .tc .vmem S256x1024 .f32) (X9 : BufTy.Contents (Elt F) arg9.view.ty)
    (k : Fin k0_t4_loop.trips) (i : Fin 32) : Vec F S8x128 .f32 :=
  View.readAt (Elt F) arg9.view (Rect.unit (s := S256x1024) ![8 * i.val, k0_off164 k 1] S8x128.size (rowInb4 k i)).toLoadRect X9

/-- What a trip of loop 4 stores in the exponents' buffer. -/
theorem trip4_eq (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t4_loop.trips) :
    (trip4 (F := F) c i arg2 harg2 arg3 harg3 arg4 harg4 arg5 harg5 arg6 harg6 arg7 harg7 arg8 harg8 arg9 harg9 arg10 harg10 arg11 harg11 arg12 harg12 arg13 harg13 X3 X9 k).1
      = [⟨Rect.unit (s := S32x1024) (k0_off164 k) S8x128.size (k0_off164_inb k), k0_pay952 (eT (mT (ldRow4 arg9 X9 k)))⟩] := by
  sl_kernel_rfl

end Cert.QtKernelIdeal.Qt

end
-- ==== Proof.QtValue.lean ====
module

public import proofs.«01_k».proof.Proof.Gen.QtKernelIdeal.Frame
public import proofs.«01_k».proof.Proof.Gen.QtKernelIdeal.Loops
public import proofs.«01_k».proof.Proof.QtPieces
public import proofs.«01_k».proof.Proof.QtTrip
public import Idealize.ShloMosaic.Lib.WritesUnit
public import Idealize.ShloMosaic.Lib.VecWindow
public import Idealize.ShloMosaic.Lib.ValueIdx
public import Idealize.ShloMosaic.Lib.Pipeline.Value

@[expose] public section

set_option maxRecDepth 16384
set_option maxHeartbeats 8000000

noncomputable section

namespace Cert.QtKernelIdeal.Qt

open Cert.QtKernelIdeal Cert.QtKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- An index of a rectangle. -/
def ix {a b : ℕ} (r : Fin a) (c : Fin b) : Shape.Idx ⟨2, ![a, b]⟩ := fun | 0 => r | 1 => c

theorem ext2 {a b : ℕ} {x y : Shape.Idx ⟨2, ![a, b]⟩} (h0 : (x 0).val = (y 0).val) (h1 : (x 1).val = (y 1).val) : x = y :=
  funext fun i => Fin.ext (match i with | 0 => h0 | 1 => h1)

/-- Chunk `q` of the block, rotated: the Hadamard operand with the chunk's signs on its columns, times the chunk. -/
def rot (x : FVec F S1024x1024 .bf16) (sg : FVec F S1x1024 .f32) (had : FVec F S256x256 .bf16) (q : Fin 4) : FVec F S256x1024 .f32 :=
  k0_pay945 had
    (fun j : S1x256.Idx => sg (ix (a := 1) (b := 1024) 0 ⟨256 * q.val + (j 1).val, by have := q.isLt; have h : (j 1).val < 256 := (j 1).isLt; omega⟩))
    (fun j : S256x1024.Idx => x (ix (a := 1024) (b := 1024) ⟨256 * q.val + (j 0).val, by have := q.isLt; have h : (j 0).val < 256 := (j 0).isLt; omega⟩ (j 1)))

/-- The `i`-th 8 rows of rotated rows, at the `k`-th 128 lanes. -/
def rowsOf (R : FVec F S256x1024 .f32) (k : Fin 8) (i : Fin 32) : FVec F S8x128 .f32 := fun p =>
  R (ix (a := 256) (b := 1024) ⟨8 * i.val + (p 0).val, by have := i.isLt; have h : (p 0).val < 8 := (p 0).isLt; omega⟩
    ⟨128 * k.val + (p 1).val, by have := k.isLt; have h : (p 1).val < 128 := (p 1).isLt; omega⟩)

/-- The exponents of a block: row `8 q + b`, column `128 k + l` is group `b` of chunk `q`, lane `l` of tile `k`. -/
def outE (x : FVec F S1024x1024 .bf16) (sg : FVec F S1x1024 .f32) (had : FVec F S256x256 .bf16) : IVec S32x1024 32 := fun y =>
  eT (mT (rowsOf (rot x sg had ⟨(y 0).val / 8, by have h : (y 0).val < 32 := (y 0).isLt; omega⟩)
    ⟨(y 1).val / 128, by have h : (y 1).val < 1024 := (y 1).isLt; omega⟩))
    (ix (a := 8) (b := 128) ⟨(y 0).val % 8, by omega⟩ ⟨(y 1).val % 128, by omega⟩)

/-- The scales of a block. -/
def outS (x : FVec F S1024x1024 .bf16) (sg : FVec F S1x1024 .f32) (had : FVec F S256x256 .bf16) : Vec F S32x1024 .i8 :=
  k0_pay953 (F := F) (outE x sg had)

/-- Reading back contents whose last piece covers the whole view. -/
theorem read_whole_piece {sp : Space} {s : Shape} {e : EltTy} (v : View sig .tc sp s e) (f : BufTy.Contents (Elt F) v.ty)
    {off : Fin s.rank → ℕ} (hoff : off = fun _ => 0) (inb : ∀ a, off a + s.size a ≤ s.size a)
    (w : (Rect.unit off s.size inb).shape.Idx → Elt F e) (L : List (View.Piece (Elt F) s e)) (y : s.Idx) :
    v.read (Elt F) (v.writes (Elt F) f (⟨Rect.unit off s.size inb, w⟩ :: L)) y = w y :=
  View.read_writes_cons_unit_of_mem v f inb w L y y hoff (fun a => by simp)

theorem hz2 : (![0, 0] : Fin 2 → ℕ) = fun _ => 0 := funext fun a => by fin_cases a <;> rfl

theorem off1 (k : Fin k0_t1_loop.trips) : k0_off35 k 0 = 0 ∧ k0_off35 k 1 = 128 * k.val := by
  revert k; decide +kernel

theorem pay1 (v : IVec S8x128 32) : k0_pay946 v = v := by
  funext y; unfold k0_pay946; exact shapeCast_apply _ _ y y rfl

/-- The pieces of the first `n` trips of loop 1, read where they cover. -/
theorem pb1_hit (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : 0 ≤ (y 0).val ∧ (y 0).val < 8) (k : Fin k0_t1_loop.trips) (hk : k.val = (y 1).val / 128) :
    ∀ n, n ≤ k0_t1_loop.trips → (y 1).val < 128 * n →
      arg13.view.read (Elt F) (arg13.view.writes (Elt F) G (pb1 (F := F) c i arg2 harg2 arg3 harg3 arg4 harg4 arg5 harg5 arg6 harg6 arg7 harg7 arg8 harg8 arg9 harg9 arg10 harg10 arg11 harg11 arg12 harg12 arg13 harg13 X3 X9 n ++ M)) y
        = eT (mT (ldRow1 arg9 X9 k)) (ix (a := 8) (b := 128) ⟨(y 0).val % 8, by omega⟩ ⟨(y 1).val % 128, by omega⟩)
  | 0, _, h => absurd h (by omega)
  | n + 1, hn, h => by
    have e := pb1_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off1 ⟨n, hn⟩
    rw [show pb1 (F := F) c i arg2 harg2 arg3 harg3 arg4 harg4 arg5 harg5 arg6 harg6 arg7 harg7 arg8 harg8 arg9 harg9 arg10 harg10 arg11 harg11 arg12 harg12 arg13 harg13 X3 X9 (n + 1) = _ from e, trip1_eq, List.append_assoc, List.singleton_append]
    by_cases hc : (y 1).val < 128 * n
    · rw [View.read_writes_cons_unit_of_not_mem (off' := k0_off35 ⟨n, hn⟩) (size := S8x128.size) arg13.view _ _ _ _ y rfl 1 (Or.inl (by rw [o.2]; exact hc))]
      exact pb1_hit c i arg2 harg2 arg3 harg3 arg4 harg4 arg5 harg5 arg6 harg6 arg7 harg7 arg8 harg8 arg9 harg9 arg10 harg10 arg11 harg11 arg12 harg12 arg13 harg13 X3 X9 G M y hy k hk n (by omega) hc
    · have ek : (⟨n, hn⟩ : Fin k0_t1_loop.trips) = k := Fin.ext (by show n = k.val; omega)
      rw [View.read_writes_cons_unit_of_mem (off' := k0_off35 ⟨n, hn⟩) (size := S8x128.size) arg13.view _ _ _ _ y
        (ix (a := 8) (b := 128) ⟨(y 0).val % 8, by omega⟩ ⟨(y 1).val % 128, by omega⟩) rfl (fun a => by
          match a with
          | 0 => show (y 0).val = k0_off35 ⟨n, hn⟩ 0 + (y 0).val % 8; rw [o.1]; omega
          | 1 => show (y 1).val = k0_off35 ⟨n, hn⟩ 1 + (y 1).val % 128; rw [o.2]; show (y 1).val = 128 * n + (y 1).val % 128; omega), pay1, ek]

/-- They cover no other row. -/
theorem pb1_miss (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : (y 0).val < 0 ∨ 8 ≤ (y 0).val) :
    ∀ n, n ≤ k0_t1_loop.trips →
      arg13.view.read (Elt F) (arg13.view.writes (Elt F) G (pb1 (F := F) c i arg2 harg2 arg3 harg3 arg4 harg4 arg5 harg5 arg6 harg6 arg7 harg7 arg8 harg8 arg9 harg9 arg10 harg10 arg11 harg11 arg12 harg12 arg13 harg13 X3 X9 n ++ M)) y
        = arg13.view.read (Elt F) (arg13.view.writes (Elt F) G M) y
  | 0, _ => rfl
  | n + 1, hn => by
    have e := pb1_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off1 ⟨n, hn⟩
    rw [show pb1 (F := F) c i arg2 harg2 arg3 harg3 arg4 harg4 arg5 harg5 arg6 harg6 arg7 harg7 arg8 harg8 arg9 harg9 arg10 harg10 arg11 harg11 arg12 harg12 arg13 harg13 X3 X9 (n + 1) = _ from e, trip1_eq, List.append_assoc, List.singleton_append,
      View.read_writes_cons_unit_of_not_mem (off' := k0_off35 ⟨n, hn⟩) (size := S8x128.size) arg13.view _ _ _ _ y rfl 0 (by rw [o.1]; exact hy)]
    exact pb1_miss c i arg2 harg2 arg3 harg3 arg4 harg4 arg5 harg5 arg6 harg6 arg7 harg7 arg8 harg8 arg9 harg9 arg10 harg10 arg11 harg11 arg12 harg12 arg13 harg13 X3 X9 G M y hy n (by omega)

/-- The rotated rows loop 1 loads. -/
theorem ld1_eq (arg2 : Memref sig .tc .vmem S1024x1024 .bf16) (arg4 : Memref sig .tc .vmem S1x1024 .f32) (arg5 : Memref sig .tc .vmem S256x256 .bf16) (arg9 : Memref sig .tc .vmem S256x1024 .f32) (f2 : BufTy.Contents (Elt F) arg2.view.ty) (f4 : BufTy.Contents (Elt F) arg4.view.ty) (f5 : BufTy.Contents (Elt F) arg5.view.ty)
    (k : Fin k0_t1_loop.trips) (k' : Fin 8) (hk : k.val = k'.val) :
    ldRow1 (F := F) arg9 (arg9.view.writes (Elt F) arg9.view.junk [st1 arg2 arg4 arg5 f2 f4 f5]) k
      = rowsOf (rot (arg2.view.read (Elt F) f2) (arg4.view.read (Elt F) f4) (arg5.view.read (Elt F) f5) 0) k' := by
  funext i p
  unfold ldRow1 rowsOf
  rw [View.readAt_apply, st1, read_whole_piece arg9.view _ hz2]
  have e5 : View.readAt (Elt F) arg5.view (Rect.unit (s := S256x256) ![0, 0] S256x256.size inb_S256x256_S256x256_0_0).toLoadRect f5
      = arg5.view.read (Elt F) f5 := funext fun j => congrArg (arg5.view.read (Elt F) f5) (ext2 (a := 256) (b := 256)
        (by show 0 + 1 * (j 0).val = _; omega) (by show 0 + 1 * (j 1).val = _; omega))
  have e4 : View.readAt (Elt F) arg4.view (Rect.unit (s := S1x1024) ![0, 0] S1x256.size inb_S1x1024_S1x256_0_0).toLoadRect f4
      = fun j : S1x256.Idx => arg4.view.read (Elt F) f4 (ix (a := 1) (b := 1024) 0 ⟨256 * (0 : Fin 4).val + (j 1).val, by
          have h : (j 1).val < 256 := (j 1).isLt; show 0 + (j 1).val < 1024; omega⟩) :=
    funext fun j => congrArg (arg4.view.read (Elt F) f4) (ext2 (a := 1) (b := 1024)
        (by show 0 + 1 * (j 0).val = 0; have h : (j 0).val < 1 := (j 0).isLt; omega) (by show 0 + 1 * (j 1).val = 0 + (j 1).val; omega))
  have e2 : View.readAt (Elt F) arg2.view (Rect.unit (s := S1024x1024) ![0, 0] S256x1024.size inb_S1024x1024_S256x1024_0_0).toLoadRect f2
      = fun j : S256x1024.Idx => arg2.view.read (Elt F) f2 (ix (a := 1024) (b := 1024) ⟨256 * (0 : Fin 4).val + (j 0).val, by
          have h : (j 0).val < 256 := (j 0).isLt; show 0 + (j 0).val < 1024; omega⟩ (j 1)) :=
    funext fun j => congrArg (arg2.view.read (Elt F) f2) (ext2 (a := 1024) (b := 1024)
        (by show 0 + 1 * (j 0).val = 0 + (j 0).val; omega) (by show 0 + 1 * (j 1).val = (j 1).val; omega))
  rw [e5, e4, e2]
  refine congrArg (rot (arg2.view.read (Elt F) f2) (arg4.view.read (Elt F) f4) (arg5.view.read (Elt F) f5) 0) (ext2 (a := 256) (b := 1024) ?_ ?_)
  · show 8 * i.val + 1 * (p 0).val = 8 * i.val + (p 0).val; omega
  · show k0_off35 k 1 + 1 * (p 1).val = 128 * k'.val + (p 1).val
    rw [(off1 k).2, hk]; omega

theorem off2 (k : Fin k0_t2_loop.trips) : k0_off78 k 0 = 8 ∧ k0_off78 k 1 = 128 * k.val := by
  revert k; decide +kernel

theorem pay2 (v : IVec S8x128 32) : k0_pay948 v = v := by
  funext y; unfold k0_pay948; exact shapeCast_apply _ _ y y rfl

/-- The pieces of the first `n` trips of loop 2, read where they cover. -/
theorem pb2_hit (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : 8 ≤ (y 0).val ∧ (y 0).val < 16) (k : Fin k0_t2_loop.trips) (hk : k.val = (y 1).val / 128) :
    ∀ n, n ≤ k0_t2_loop.trips → (y 1).val < 128 * n →
      arg13.view.read (Elt F) (arg13.view.writes (Elt F) G (pb2 (F := F) c i arg2 harg2 arg3 harg3 arg4 harg4 arg5 harg5 arg6 harg6 arg7 harg7 arg8 harg8 arg9 harg9 arg10 harg10 arg11 harg11 arg12 harg12 arg13 harg13 X3 X9 n ++ M)) y
        = eT (mT (ldRow2 arg9 X9 k)) (ix (a := 8) (b := 128) ⟨(y 0).val % 8, by omega⟩ ⟨(y 1).val % 128, by omega⟩)
  | 0, _, h => absurd h (by omega)
  | n + 1, hn, h => by
    have e := pb2_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off2 ⟨n, hn⟩
    rw [show pb2 (F := F) c i arg2 harg2 arg3 harg3 arg4 harg4 arg5 harg5 arg6 harg6 arg7 harg7 arg8 harg8 arg9 harg9 arg10 harg10 arg11 harg11 arg12 harg12 arg13 harg13 X3 X9 (n + 1) = _ from e, trip2_eq, List.append_assoc, List.singleton_append]
    by_cases hc : (y 1).val < 128 * n
    · rw [View.read_writes_cons_unit_of_not_mem (off' := k0_off78 ⟨n, hn⟩) (size := S8x128.size) arg13.view _ _ _ _ y rfl 1 (Or.inl (by rw [o.2]; exact hc))]
      exact pb2_hit c i arg2 harg2 arg3 harg3 arg4 harg4 arg5 harg5 arg6 harg6 arg7 harg7 arg8 harg8 arg9 harg9 arg10 harg10 arg11 harg11 arg12 harg12 arg13 harg13 X3 X9 G M y hy k hk n (by omega) hc
    · have ek : (⟨n, hn⟩ : Fin k0_t2_loop.trips) = k := Fin.ext (by show n = k.val; omega)
      rw [View.read_writes_cons_unit_of_mem (off' := k0_off78 ⟨n, hn⟩) (size := S8x128.size) arg13.view _ _ _ _ y
        (ix (a := 8) (b := 128) ⟨(y 0).val % 8, by omega⟩ ⟨(y 1).val % 128, by omega⟩) rfl (fun a => by
          match a with
          | 0 => show (y 0).val = k0_off78 ⟨n, hn⟩ 0 + (y 0).val % 8; rw [o.1]; omega
          | 1 => show (y 1).val = k0_off78 ⟨n, hn⟩ 1 + (y 1).val % 128; rw [o.2]; show (y 1).val = 128 * n + (y 1).val % 128; omega), pay2, ek]

/-- They cover no other row. -/
theorem pb2_miss (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : (y 0).val < 8 ∨ 16 ≤ (y 0).val) :
    ∀ n, n ≤ k0_t2_loop.trips →
      arg13.view.read (Elt F) (arg13.view.writes (Elt F) G (pb2 (F := F) c i arg2 harg2 arg3 harg3 arg4 harg4 arg5 harg5 arg6 harg6 arg7 harg7 arg8 harg8 arg9 harg9 arg10 harg10 arg11 harg11 arg12 harg12 arg13 harg13 X3 X9 n ++ M)) y
        = arg13.view.read (Elt F) (arg13.view.writes (Elt F) G M) y
  | 0, _ => rfl
  | n + 1, hn => by
    have e := pb2_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off2 ⟨n, hn⟩
    rw [show pb2 (F := F) c i arg2 harg2 arg3 harg3 arg4 harg4 arg5 harg5 arg6 harg6 arg7 harg7 arg8 harg8 arg9 harg9 arg10 harg10 arg11 harg11 arg12 harg12 arg13 harg13 X3 X9 (n + 1) = _ from e, trip2_eq, List.append_assoc, List.singleton_append,
      View.read_writes_cons_unit_of_not_mem (off' := k0_off78 ⟨n, hn⟩) (size := S8x128.size) arg13.view _ _ _ _ y rfl 0 (by rw [o.1]; exact hy)]
    exact pb2_miss c i arg2 harg2 arg3 harg3 arg4 harg4 arg5 harg5 arg6 harg6 arg7 harg7 arg8 harg8 arg9 harg9 arg10 harg10 arg11 harg11 arg12 harg12 arg13 harg13 X3 X9 G M y hy n (by omega)

/-- The rotated rows loop 2 loads. -/
theorem ld2_eq (arg2 : Memref sig .tc .vmem S1024x1024 .bf16) (arg4 : Memref sig .tc .vmem S1x1024 .f32) (arg5 : Memref sig .tc .vmem S256x256 .bf16) (arg9 : Memref sig .tc .vmem S256x1024 .f32) (f2 : BufTy.Contents (Elt F) arg2.view.ty) (f4 : BufTy.Contents (Elt F) arg4.view.ty) (f5 : BufTy.Contents (Elt F) arg5.view.ty)
    (k : Fin k0_t2_loop.trips) (k' : Fin 8) (hk : k.val = k'.val) :
    ldRow2 (F := F) arg9 (arg9.view.writes (Elt F) arg9.view.junk [st2 arg2 arg4 arg5 f2 f4 f5, st1 arg2 arg4 arg5 f2 f4 f5]) k
      = rowsOf (rot (arg2.view.read (Elt F) f2) (arg4.view.read (Elt F) f4) (arg5.view.read (Elt F) f5) 1) k' := by
  funext i p
  unfold ldRow2 rowsOf
  rw [View.readAt_apply, st2, read_whole_piece arg9.view _ hz2]
  have e5 : View.readAt (Elt F) arg5.view (Rect.unit (s := S256x256) ![0, 0] S256x256.size inb_S256x256_S256x256_0_0).toLoadRect f5
      = arg5.view.read (Elt F) f5 := funext fun j => congrArg (arg5.view.read (Elt F) f5) (ext2 (a := 256) (b := 256)
        (by show 0 + 1 * (j 0).val = _; omega) (by show 0 + 1 * (j 1).val = _; omega))
  have e4 : View.readAt (Elt F) arg4.view (Rect.unit (s := S1x1024) ![0, 256] S1x256.size inb_S1x1024_S1x256_0_256).toLoadRect f4
      = fun j : S1x256.Idx => arg4.view.read (Elt F) f4 (ix (a := 1) (b := 1024) 0 ⟨256 * (1 : Fin 4).val + (j 1).val, by
          have h : (j 1).val < 256 := (j 1).isLt; show 256 + (j 1).val < 1024; omega⟩) :=
    funext fun j => congrArg (arg4.view.read (Elt F) f4) (ext2 (a := 1) (b := 1024)
        (by show 0 + 1 * (j 0).val = 0; have h : (j 0).val < 1 := (j 0).isLt; omega) (by show 256 + 1 * (j 1).val = 256 + (j 1).val; omega))
  have e2 : View.readAt (Elt F) arg2.view (Rect.unit (s := S1024x1024) ![256, 0] S256x1024.size inb_S1024x1024_S256x1024_256_0).toLoadRect f2
      = fun j : S256x1024.Idx => arg2.view.read (Elt F) f2 (ix (a := 1024) (b := 1024) ⟨256 * (1 : Fin 4).val + (j 0).val, by
          have h : (j 0).val < 256 := (j 0).isLt; show 256 + (j 0).val < 1024; omega⟩ (j 1)) :=
    funext fun j => congrArg (arg2.view.read (Elt F) f2) (ext2 (a := 1024) (b := 1024)
        (by show 256 + 1 * (j 0).val = 256 + (j 0).val; omega) (by show 0 + 1 * (j 1).val = (j 1).val; omega))
  rw [e5, e4, e2]
  refine congrArg (rot (arg2.view.read (Elt F) f2) (arg4.view.read (Elt F) f4) (arg5.view.read (Elt F) f5) 1) (ext2 (a := 256) (b := 1024) ?_ ?_)
  · show 8 * i.val + 1 * (p 0).val = 8 * i.val + (p 0).val; omega
  · show k0_off78 k 1 + 1 * (p 1).val = 128 * k'.val + (p 1).val
    rw [(off2 k).2, hk]; omega

theorem off3 (k : Fin k0_t3_loop.trips) : k0_off121 k 0 = 16 ∧ k0_off121 k 1 = 128 * k.val := by
  revert k; decide +kernel

theorem pay3 (v : IVec S8x128 32) : k0_pay950 v = v := by
  funext y; unfold k0_pay950; exact shapeCast_apply _ _ y y rfl

/-- The pieces of the first `n` trips of loop 3, read where they cover. -/
theorem pb3_hit (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : 16 ≤ (y 0).val ∧ (y 0).val < 24) (k : Fin k0_t3_loop.trips) (hk : k.val = (y 1).val / 128) :
    ∀ n, n ≤ k0_t3_loop.trips → (y 1).val < 128 * n →
      arg13.view.read (Elt F) (arg13.view.writes (Elt F) G (pb3 (F := F) c i arg2 harg2 arg3 harg3 arg4 harg4 arg5 harg5 arg6 harg6 arg7 harg7 arg8 harg8 arg9 harg9 arg10 harg10 arg11 harg11 arg12 harg12 arg13 harg13 X3 X9 n ++ M)) y
        = eT (mT (ldRow3 arg9 X9 k)) (ix (a := 8) (b := 128) ⟨(y 0).val % 8, by omega⟩ ⟨(y 1).val % 128, by omega⟩)
  | 0, _, h => absurd h (by omega)
  | n + 1, hn, h => by
    have e := pb3_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off3 ⟨n, hn⟩
    rw [show pb3 (F := F) c i arg2 harg2 arg3 harg3 arg4 harg4 arg5 harg5 arg6 harg6 arg7 harg7 arg8 harg8 arg9 harg9 arg10 harg10 arg11 harg11 arg12 harg12 arg13 harg13 X3 X9 (n + 1) = _ from e, trip3_eq, List.append_assoc, List.singleton_append]
    by_cases hc : (y 1).val < 128 * n
    · rw [View.read_writes_cons_unit_of_not_mem (off' := k0_off121 ⟨n, hn⟩) (size := S8x128.size) arg13.view _ _ _ _ y rfl 1 (Or.inl (by rw [o.2]; exact hc))]
      exact pb3_hit c i arg2 harg2 arg3 harg3 arg4 harg4 arg5 harg5 arg6 harg6 arg7 harg7 arg8 harg8 arg9 harg9 arg10 harg10 arg11 harg11 arg12 harg12 arg13 harg13 X3 X9 G M y hy k hk n (by omega) hc
    · have ek : (⟨n, hn⟩ : Fin k0_t3_loop.trips) = k := Fin.ext (by show n = k.val; omega)
      rw [View.read_writes_cons_unit_of_mem (off' := k0_off121 ⟨n, hn⟩) (size := S8x128.size) arg13.view _ _ _ _ y
        (ix (a := 8) (b := 128) ⟨(y 0).val % 8, by omega⟩ ⟨(y 1).val % 128, by omega⟩) rfl (fun a => by
          match a with
          | 0 => show (y 0).val = k0_off121 ⟨n, hn⟩ 0 + (y 0).val % 8; rw [o.1]; omega
          | 1 => show (y 1).val = k0_off121 ⟨n, hn⟩ 1 + (y 1).val % 128; rw [o.2]; show (y 1).val = 128 * n + (y 1).val % 128; omega), pay3, ek]

/-- They cover no other row. -/
theorem pb3_miss (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : (y 0).val < 16 ∨ 24 ≤ (y 0).val) :
    ∀ n, n ≤ k0_t3_loop.trips →
      arg13.view.read (Elt F) (arg13.view.writes (Elt F) G (pb3 (F := F) c i arg2 harg2 arg3 harg3 arg4 harg4 arg5 harg5 arg6 harg6 arg7 harg7 arg8 harg8 arg9 harg9 arg10 harg10 arg11 harg11 arg12 harg12 arg13 harg13 X3 X9 n ++ M)) y
        = arg13.view.read (Elt F) (arg13.view.writes (Elt F) G M) y
  | 0, _ => rfl
  | n + 1, hn => by
    have e := pb3_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off3 ⟨n, hn⟩
    rw [show pb3 (F := F) c i arg2 harg2 arg3 harg3 arg4 harg4 arg5 harg5 arg6 harg6 arg7 harg7 arg8 harg8 arg9 harg9 arg10 harg10 arg11 harg11 arg12 harg12 arg13 harg13 X3 X9 (n + 1) = _ from e, trip3_eq, List.append_assoc, List.singleton_append,
      View.read_writes_cons_unit_of_not_mem (off' := k0_off121 ⟨n, hn⟩) (size := S8x128.size) arg13.view _ _ _ _ y rfl 0 (by rw [o.1]; exact hy)]
    exact pb3_miss c i arg2 harg2 arg3 harg3 arg4 harg4 arg5 harg5 arg6 harg6 arg7 harg7 arg8 harg8 arg9 harg9 arg10 harg10 arg11 harg11 arg12 harg12 arg13 harg13 X3 X9 G M y hy n (by omega)

/-- The rotated rows loop 3 loads. -/
theorem ld3_eq (arg2 : Memref sig .tc .vmem S1024x1024 .bf16) (arg4 : Memref sig .tc .vmem S1x1024 .f32) (arg5 : Memref sig .tc .vmem S256x256 .bf16) (arg9 : Memref sig .tc .vmem S256x1024 .f32) (f2 : BufTy.Contents (Elt F) arg2.view.ty) (f4 : BufTy.Contents (Elt F) arg4.view.ty) (f5 : BufTy.Contents (Elt F) arg5.view.ty)
    (k : Fin k0_t3_loop.trips) (k' : Fin 8) (hk : k.val = k'.val) :
    ldRow3 (F := F) arg9 (arg9.view.writes (Elt F) arg9.view.junk [st3 arg2 arg4 arg5 f2 f4 f5, st2 arg2 arg4 arg5 f2 f4 f5, st1 arg2 arg4 arg5 f2 f4 f5]) k
      = rowsOf (rot (arg2.view.read (Elt F) f2) (arg4.view.read (Elt F) f4) (arg5.view.read (Elt F) f5) 2) k' := by
  funext i p
  unfold ldRow3 rowsOf
  rw [View.readAt_apply, st3, read_whole_piece arg9.view _ hz2]
  have e5 : View.readAt (Elt F) arg5.view (Rect.unit (s := S256x256) ![0, 0] S256x256.size inb_S256x256_S256x256_0_0).toLoadRect f5
      = arg5.view.read (Elt F) f5 := funext fun j => congrArg (arg5.view.read (Elt F) f5) (ext2 (a := 256) (b := 256)
        (by show 0 + 1 * (j 0).val = _; omega) (by show 0 + 1 * (j 1).val = _; omega))
  have e4 : View.readAt (Elt F) arg4.view (Rect.unit (s := S1x1024) ![0, 512] S1x256.size inb_S1x1024_S1x256_0_512).toLoadRect f4
      = fun j : S1x256.Idx => arg4.view.read (Elt F) f4 (ix (a := 1) (b := 1024) 0 ⟨256 * (2 : Fin 4).val + (j 1).val, by
          have h : (j 1).val < 256 := (j 1).isLt; show 512 + (j 1).val < 1024; omega⟩) :=
    funext fun j => congrArg (arg4.view.read (Elt F) f4) (ext2 (a := 1) (b := 1024)
        (by show 0 + 1 * (j 0).val = 0; have h : (j 0).val < 1 := (j 0).isLt; omega) (by show 512 + 1 * (j 1).val = 512 + (j 1).val; omega))
  have e2 : View.readAt (Elt F) arg2.view (Rect.unit (s := S1024x1024) ![512, 0] S256x1024.size inb_S1024x1024_S256x1024_512_0).toLoadRect f2
      = fun j : S256x1024.Idx => arg2.view.read (Elt F) f2 (ix (a := 1024) (b := 1024) ⟨256 * (2 : Fin 4).val + (j 0).val, by
          have h : (j 0).val < 256 := (j 0).isLt; show 512 + (j 0).val < 1024; omega⟩ (j 1)) :=
    funext fun j => congrArg (arg2.view.read (Elt F) f2) (ext2 (a := 1024) (b := 1024)
        (by show 512 + 1 * (j 0).val = 512 + (j 0).val; omega) (by show 0 + 1 * (j 1).val = (j 1).val; omega))
  rw [e5, e4, e2]
  refine congrArg (rot (arg2.view.read (Elt F) f2) (arg4.view.read (Elt F) f4) (arg5.view.read (Elt F) f5) 2) (ext2 (a := 256) (b := 1024) ?_ ?_)
  · show 8 * i.val + 1 * (p 0).val = 8 * i.val + (p 0).val; omega
  · show k0_off121 k 1 + 1 * (p 1).val = 128 * k'.val + (p 1).val
    rw [(off3 k).2, hk]; omega

theorem off4 (k : Fin k0_t4_loop.trips) : k0_off164 k 0 = 24 ∧ k0_off164 k 1 = 128 * k.val := by
  revert k; decide +kernel

theorem pay4 (v : IVec S8x128 32) : k0_pay952 v = v := by
  funext y; unfold k0_pay952; exact shapeCast_apply _ _ y y rfl

/-- The pieces of the first `n` trips of loop 4, read where they cover. -/
theorem pb4_hit (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : 24 ≤ (y 0).val ∧ (y 0).val < 32) (k : Fin k0_t4_loop.trips) (hk : k.val = (y 1).val / 128) :
    ∀ n, n ≤ k0_t4_loop.trips → (y 1).val < 128 * n →
      arg13.view.read (Elt F) (arg13.view.writes (Elt F) G (pb4 (F := F) c i arg2 harg2 arg3 harg3 arg4 harg4 arg5 harg5 arg6 harg6 arg7 harg7 arg8 harg8 arg9 harg9 arg10 harg10 arg11 harg11 arg12 harg12 arg13 harg13 X3 X9 n ++ M)) y
        = eT (mT (ldRow4 arg9 X9 k)) (ix (a := 8) (b := 128) ⟨(y 0).val % 8, by omega⟩ ⟨(y 1).val % 128, by omega⟩)
  | 0, _, h => absurd h (by omega)
  | n + 1, hn, h => by
    have e := pb4_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off4 ⟨n, hn⟩
    rw [show pb4 (F := F) c i arg2 harg2 arg3 harg3 arg4 harg4 arg5 harg5 arg6 harg6 arg7 harg7 arg8 harg8 arg9 harg9 arg10 harg10 arg11 harg11 arg12 harg12 arg13 harg13 X3 X9 (n + 1) = _ from e, trip4_eq, List.append_assoc, List.singleton_append]
    by_cases hc : (y 1).val < 128 * n
    · rw [View.read_writes_cons_unit_of_not_mem (off' := k0_off164 ⟨n, hn⟩) (size := S8x128.size) arg13.view _ _ _ _ y rfl 1 (Or.inl (by rw [o.2]; exact hc))]
      exact pb4_hit c i arg2 harg2 arg3 harg3 arg4 harg4 arg5 harg5 arg6 harg6 arg7 harg7 arg8 harg8 arg9 harg9 arg10 harg10 arg11 harg11 arg12 harg12 arg13 harg13 X3 X9 G M y hy k hk n (by omega) hc
    · have ek : (⟨n, hn⟩ : Fin k0_t4_loop.trips) = k := Fin.ext (by show n = k.val; omega)
      rw [View.read_writes_cons_unit_of_mem (off' := k0_off164 ⟨n, hn⟩) (size := S8x128.size) arg13.view _ _ _ _ y
        (ix (a := 8) (b := 128) ⟨(y 0).val % 8, by omega⟩ ⟨(y 1).val % 128, by omega⟩) rfl (fun a => by
          match a with
          | 0 => show (y 0).val = k0_off164 ⟨n, hn⟩ 0 + (y 0).val % 8; rw [o.1]; omega
          | 1 => show (y 1).val = k0_off164 ⟨n, hn⟩ 1 + (y 1).val % 128; rw [o.2]; show (y 1).val = 128 * n + (y 1).val % 128; omega), pay4, ek]

/-- They cover no other row. -/
theorem pb4_miss (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G : BufTy.Contents (Elt F) arg13.view.ty) (M : List (View.Piece (Elt F) S32x1024 .i32)) (y : S32x1024.Idx)
    (hy : (y 0).val < 24 ∨ 32 ≤ (y 0).val) :
    ∀ n, n ≤ k0_t4_loop.trips →
      arg13.view.read (Elt F) (arg13.view.writes (Elt F) G (pb4 (F := F) c i arg2 harg2 arg3 harg3 arg4 harg4 arg5 harg5 arg6 harg6 arg7 harg7 arg8 harg8 arg9 harg9 arg10 harg10 arg11 harg11 arg12 harg12 arg13 harg13 X3 X9 n ++ M)) y
        = arg13.view.read (Elt F) (arg13.view.writes (Elt F) G M) y
  | 0, _ => rfl
  | n + 1, hn => by
    have e := pb4_succ (F := F) c i arg2 harg2 arg3 harg3 arg4 harg4 arg5 harg5 arg6 harg6 arg7 harg7 arg8 harg8 arg9 harg9 arg10 harg10 arg11 harg11 arg12 harg12 arg13 harg13 X3 X9 ⟨n, hn⟩
    have o := off4 ⟨n, hn⟩
    rw [show pb4 (F := F) c i arg2 harg2 arg3 harg3 arg4 harg4 arg5 harg5 arg6 harg6 arg7 harg7 arg8 harg8 arg9 harg9 arg10 harg10 arg11 harg11 arg12 harg12 arg13 harg13 X3 X9 (n + 1) = _ from e, trip4_eq, List.append_assoc, List.singleton_append,
      View.read_writes_cons_unit_of_not_mem (off' := k0_off164 ⟨n, hn⟩) (size := S8x128.size) arg13.view _ _ _ _ y rfl 0 (by rw [o.1]; exact hy)]
    exact pb4_miss c i arg2 harg2 arg3 harg3 arg4 harg4 arg5 harg5 arg6 harg6 arg7 harg7 arg8 harg8 arg9 harg9 arg10 harg10 arg11 harg11 arg12 harg12 arg13 harg13 X3 X9 G M y hy n (by omega)

/-- The rotated rows loop 4 loads. -/
theorem ld4_eq (arg2 : Memref sig .tc .vmem S1024x1024 .bf16) (arg4 : Memref sig .tc .vmem S1x1024 .f32) (arg5 : Memref sig .tc .vmem S256x256 .bf16) (arg9 : Memref sig .tc .vmem S256x1024 .f32) (f2 : BufTy.Contents (Elt F) arg2.view.ty) (f4 : BufTy.Contents (Elt F) arg4.view.ty) (f5 : BufTy.Contents (Elt F) arg5.view.ty)
    (k : Fin k0_t4_loop.trips) (k' : Fin 8) (hk : k.val = k'.val) :
    ldRow4 (F := F) arg9 (arg9.view.writes (Elt F) arg9.view.junk [st4 arg2 arg4 arg5 f2 f4 f5, st3 arg2 arg4 arg5 f2 f4 f5, st2 arg2 arg4 arg5 f2 f4 f5, st1 arg2 arg4 arg5 f2 f4 f5]) k
      = rowsOf (rot (arg2.view.read (Elt F) f2) (arg4.view.read (Elt F) f4) (arg5.view.read (Elt F) f5) 3) k' := by
  funext i p
  unfold ldRow4 rowsOf
  rw [View.readAt_apply, st4, read_whole_piece arg9.view _ hz2]
  have e5 : View.readAt (Elt F) arg5.view (Rect.unit (s := S256x256) ![0, 0] S256x256.size inb_S256x256_S256x256_0_0).toLoadRect f5
      = arg5.view.read (Elt F) f5 := funext fun j => congrArg (arg5.view.read (Elt F) f5) (ext2 (a := 256) (b := 256)
        (by show 0 + 1 * (j 0).val = _; omega) (by show 0 + 1 * (j 1).val = _; omega))
  have e4 : View.readAt (Elt F) arg4.view (Rect.unit (s := S1x1024) ![0, 768] S1x256.size inb_S1x1024_S1x256_0_768).toLoadRect f4
      = fun j : S1x256.Idx => arg4.view.read (Elt F) f4 (ix (a := 1) (b := 1024) 0 ⟨256 * (3 : Fin 4).val + (j 1).val, by
          have h : (j 1).val < 256 := (j 1).isLt; show 768 + (j 1).val < 1024; omega⟩) :=
    funext fun j => congrArg (arg4.view.read (Elt F) f4) (ext2 (a := 1) (b := 1024)
        (by show 0 + 1 * (j 0).val = 0; have h : (j 0).val < 1 := (j 0).isLt; omega) (by show 768 + 1 * (j 1).val = 768 + (j 1).val; omega))
  have e2 : View.readAt (Elt F) arg2.view (Rect.unit (s := S1024x1024) ![768, 0] S256x1024.size inb_S1024x1024_S256x1024_768_0).toLoadRect f2
      = fun j : S256x1024.Idx => arg2.view.read (Elt F) f2 (ix (a := 1024) (b := 1024) ⟨256 * (3 : Fin 4).val + (j 0).val, by
          have h : (j 0).val < 256 := (j 0).isLt; show 768 + (j 0).val < 1024; omega⟩ (j 1)) :=
    funext fun j => congrArg (arg2.view.read (Elt F) f2) (ext2 (a := 1024) (b := 1024)
        (by show 768 + 1 * (j 0).val = 768 + (j 0).val; omega) (by show 0 + 1 * (j 1).val = (j 1).val; omega))
  rw [e5, e4, e2]
  refine congrArg (rot (arg2.view.read (Elt F) f2) (arg4.view.read (Elt F) f4) (arg5.view.read (Elt F) f5) 3) (ext2 (a := 256) (b := 1024) ?_ ?_)
  · show 8 * i.val + 1 * (p 0).val = 8 * i.val + (p 0).val; omega
  · show k0_off164 k 1 + 1 * (p 1).val = 128 * k'.val + (p 1).val
    rw [(off4 k).2, hk]; omega

/-- The exponents' buffer after the four loops. -/
theorem all_read (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f13 : BufTy.Contents (Elt F) arg13.view.ty) (y : S32x1024.Idx) :
    arg13.view.read (Elt F) (arg13.view.writes (Elt F) f13 (allPieces (F := F) c i arg2 harg2 arg3 harg3 arg4 harg4 arg5 harg5 arg6 harg6 arg7 harg7 arg8 harg8 arg9 harg9 arg10 harg10 arg11 harg11 arg12 harg12 arg13 harg13 f2 f3 f4 f5 f9 f13)) y
      = outE (arg2.view.read (Elt F) f2) (arg4.view.read (Elt F) f4) (arg5.view.read (Elt F) f5) y := by
  have h0 : (y 0).val < 32 := (y 0).isLt
  have h1 : (y 1).val < 1024 := (y 1).isLt
  unfold allPieces
  by_cases c4 : 24 ≤ (y 0).val
  · have ht : k0_t4_loop.trips = 8 := by decide
    obtain ⟨k, hk⟩ : ∃ k : Fin k0_t4_loop.trips, k.val = (y 1).val / 128 := ⟨⟨(y 1).val / 128, by rw [ht]; omega⟩, rfl⟩
    rw [pb4_hit (F := F) c i arg2 harg2 arg3 harg3 arg4 harg4 arg5 harg5 arg6 harg6 arg7 harg7 arg8 harg8 arg9 harg9 arg10 harg10 arg11 harg11 arg12 harg12 arg13 harg13 _ _ f13 _ y ⟨by omega, by omega⟩ k hk _ le_rfl (by show (y 1).val < 128 * 8; omega),
      ld4_eq arg2 arg4 arg5 arg9 f2 f4 f5 k ⟨(y 1).val / 128, by omega⟩ hk]
    unfold outE
    rw [show (⟨(y 0).val / 8, by omega⟩ : Fin 4) = 3 from Fin.ext (by show (y 0).val / 8 = 3; omega)]
  rw [pb4_miss (F := F) c i arg2 harg2 arg3 harg3 arg4 harg4 arg5 harg5 arg6 harg6 arg7 harg7 arg8 harg8 arg9 harg9 arg10 harg10 arg11 harg11 arg12 harg12 arg13 harg13 _ _ f13 _ y (Or.inl (by omega)) _ le_rfl]
  by_cases c3 : 16 ≤ (y 0).val
  · have ht : k0_t3_loop.trips = 8 := by decide
    obtain ⟨k, hk⟩ : ∃ k : Fin k0_t3_loop.trips, k.val = (y 1).val / 128 := ⟨⟨(y 1).val / 128, by rw [ht]; omega⟩, rfl⟩
    rw [pb3_hit (F := F) c i arg2 harg2 arg3 harg3 arg4 harg4 arg5 harg5 arg6 harg6 arg7 harg7 arg8 harg8 arg9 harg9 arg10 harg10 arg11 harg11 arg12 harg12 arg13 harg13 _ _ f13 _ y ⟨by omega, by omega⟩ k hk _ le_rfl (by show (y 1).val < 128 * 8; omega),
      ld3_eq arg2 arg4 arg5 arg9 f2 f4 f5 k ⟨(y 1).val / 128, by omega⟩ hk]
    unfold outE
    rw [show (⟨(y 0).val / 8, by omega⟩ : Fin 4) = 2 from Fin.ext (by show (y 0).val / 8 = 2; omega)]
  rw [pb3_miss (F := F) c i arg2 harg2 arg3 harg3 arg4 harg4 arg5 harg5 arg6 harg6 arg7 harg7 arg8 harg8 arg9 harg9 arg10 harg10 arg11 harg11 arg12 harg12 arg13 harg13 _ _ f13 _ y (Or.inl (by omega)) _ le_rfl]
  by_cases c2 : 8 ≤ (y 0).val
  · have ht : k0_t2_loop.trips = 8 := by decide
    obtain ⟨k, hk⟩ : ∃ k : Fin k0_t2_loop.trips, k.val = (y 1).val / 128 := ⟨⟨(y 1).val / 128, by rw [ht]; omega⟩, rfl⟩
    rw [pb2_hit (F := F) c i arg2 harg2 arg3 harg3 arg4 harg4 arg5 harg5 arg6 harg6 arg7 harg7 arg8 harg8 arg9 harg9 arg10 harg10 arg11 harg11 arg12 harg12 arg13 harg13 _ _ f13 _ y ⟨by omega, by omega⟩ k hk _ le_rfl (by show (y 1).val < 128 * 8; omega),
      ld2_eq arg2 arg4 arg5 arg9 f2 f4 f5 k ⟨(y 1).val / 128, by omega⟩ hk]
    unfold outE
    rw [show (⟨(y 0).val / 8, by omega⟩ : Fin 4) = 1 from Fin.ext (by show (y 0).val / 8 = 1; omega)]
  rw [pb2_miss (F := F) c i arg2 harg2 arg3 harg3 arg4 harg4 arg5 harg5 arg6 harg6 arg7 harg7 arg8 harg8 arg9 harg9 arg10 harg10 arg11 harg11 arg12 harg12 arg13 harg13 _ _ f13 _ y (Or.inl (by omega)) _ le_rfl]
  have ht : k0_t1_loop.trips = 8 := by decide
  obtain ⟨k, hk⟩ : ∃ k : Fin k0_t1_loop.trips, k.val = (y 1).val / 128 := ⟨⟨(y 1).val / 128, by rw [ht]; omega⟩, rfl⟩
  show arg13.view.read (Elt F) (arg13.view.writes (Elt F) f13 (pb1 (F := F) c i arg2 harg2 arg3 harg3 arg4 harg4 arg5 harg5 arg6 harg6 arg7 harg7 arg8 harg8 arg9 harg9 arg10 harg10 arg11 harg11 arg12 harg12 arg13 harg13 f3 (arg9.view.writes (Elt F) arg9.view.junk [st1 arg2 arg4 arg5 f2 f4 f5]) (Scf.trips k0_t1_loop.lb k0_t1_loop.ub k0_t1_loop.st))) y = _
  rw [← List.append_nil (pb1 _ _ _ _ _ _ _ _ _ _ _ _ _ _ _ _ _ _ _ _ _ _ _ _ _ _ _ _ _)]
  rw [pb1_hit (F := F) c i arg2 harg2 arg3 harg3 arg4 harg4 arg5 harg5 arg6 harg6 arg7 harg7 arg8 harg8 arg9 harg9 arg10 harg10 arg11 harg11 arg12 harg12 arg13 harg13 _ _ f13 _ y ⟨by omega, by omega⟩ k hk _ le_rfl (by show (y 1).val < 128 * 8; omega),
    ld1_eq arg2 arg4 arg5 arg9 f2 f4 f5 k ⟨(y 1).val / 128, by omega⟩ hk]
  unfold outE
  rw [show (⟨(y 0).val / 8, by omega⟩ : Fin 4) = 0 from Fin.ext (by show (y 0).val / 8 = 0; omega)]

/-- WHAT THE BODY LEAVES in the scales' buffer, as a function of what its operands hold. -/
theorem run_value (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f13 : BufTy.Contents (Elt F) arg13.view.ty) (f7 : BufTy.Contents (Elt F) arg7.view.ty) :
    arg7.view.read (Elt F) (arg7.view.writes (Elt F) f7 (kernelRun (F := F) c i arg2 harg2 arg3 harg3 arg4 harg4 arg5 harg5 arg6 harg6 arg7 harg7 arg8 harg8 arg9 harg9 arg10 harg10 arg11 harg11 arg12 harg12 arg13 harg13 f2 f3 f4 f5 f9 f13).1)
      = outS (arg2.view.read (Elt F) f2) (arg4.view.read (Elt F) f4) (arg5.view.read (Elt F) f5) := by
  rw [kernelRun_eq]
  funext y
  rw [read_whole_piece arg7.view _ hz2]
  unfold outS
  refine congrFun (congrArg (k0_pay953 (F := F)) (funext fun z => ?_)) y
  refine Eq.trans ?_ (all_read c i arg2 harg2 arg3 harg3 arg4 harg4 arg5 harg5 arg6 harg6 arg7 harg7 arg8 harg8 arg9 harg9 arg10 harg10 arg11 harg11 arg12 harg12 arg13 harg13 f2 f3 f4 f5 f9 f13 z)
  exact congrArg (arg13.view.read (Elt F) _) (ext2 (a := 32) (b := 1024)
        (by show 0 + 1 * (z 0).val = _; omega) (by show 0 + 1 * (z 1).val = _; omega))

end Cert.QtKernelIdeal.Qt

end
-- ==== Proof.QtHost.lean ====
/- The two operands of `quant_t` that the host makes, as the grid finds them: the Hadamard matrix and the signs as a row. -/
module

public import proofs.«01_k».proof.Proof.Gen.QtKernelIdeal.Frame

@[expose] public section

set_option maxRecDepth 16384
set_option maxHeartbeats 4000000

noncomputable section

namespace Cert.QtKernelIdeal.Qt

open Cert.QtKernelIdeal Cert.QtKernelIdeal.Gen Idealize.ShloMosaic Idealize.ShloMosaic.TcCoe Idealize.SL.Sem

variable {F : FTy → Type} [FloatOps F]

/-- An integer, in every entry. -/
def bI (k : BitVec 32) : IVec S256x256 32 := broadcastInDim S256x256 ![] bcast_S_S256x256 (constantI S_ 32 k)
/-- A float, in every entry. -/
def bF (k : BitVec 32) : FVec F S256x256 .f32 := broadcastInDim S256x256 ![] bcast_S_S256x256 (constant S_ .f32 k)

/-- The Hadamard operand: eight 32 × 32 matrices of signs side by side, their rows interleaved. -/
def hadV : FVec F S256x256 .bf16 :=
  truncf .bf16 (select (cmpi .eq (andi (iotaInDim S256x256 32 0) (bI 7#32)) (Host.shrui (iotaInDim S256x256 32 1) (bI 5#32)))
    (subf (bF 0x3F800000#32) (mulf (bF 0x40000000#32) (sitofp .f32 (andi (ctpop (andi (Host.shrui (iotaInDim S256x256 32 0) (bI 3#32))
      (andi (iotaInDim S256x256 32 1) (bI 31#32)))) (bI 1#32)))))
    (bF 0x00000000#32)) bitsLt_bf16_f32

variable (m : (ℓ : Loc nD τ sig) → Buf (Elt F) ℓ)

theorem V_had (c : Dev nD) : V m c main_v21 = hadV (F := F) := by
  show StableHlo.after (List.flatten [hostOps0, hostOps0_1, hostOps0_2]) (fun b => m (c, b)) main_v21 = _
  simp only [hostOps0, hostOps0_1, hostOps0_2, List.flatten_cons, List.flatten_nil, List.append_nil, List.cons_append, List.nil_append]
  after_results_simp <;> rfl

theorem V_sign (c : Dev nD) : V m c main_v22 = shapeCast S1x6144 (m ((c : Thread nD τ).loc main_arg2)) shapeCasts_S6144_S1x6144 := by
  show StableHlo.after (List.flatten [hostOps0, hostOps0_1, hostOps0_2]) (fun b => m (c, b)) main_v22 = _
  simp only [hostOps0, hostOps0_1, hostOps0_2, List.flatten_cons, List.flatten_nil, List.append_nil, List.cons_append, List.nil_append]
  after_results_simp <;> rfl

end Cert.QtKernelIdeal.Qt

end
-- ==== Proof.QtBlock.lean ====
/- What a block of `quant_t`'s scales holds over the extended reals: each entry is the exponent of the scaled maximum of a
   group of 32 tokens in one column. -/
module

public import proofs.«01_k».proof.Proof.QtValue
public import proofs.«01_k».proof.Proof.QtHost
public import proofs.«01_k».proof.Proof.QtMath
public import Idealize.ShloMosaic.Lib.ValueIdx

@[expose] public section

set_option maxRecDepth 16384

noncomputable section

namespace Cert.QtKernelIdeal.Qt

open Cert.QtKernelIdeal Cert.QtKernelIdeal.Gen Cert.DxExp Cert.QtMath Idealize.ShloMosaic Idealize.ShloMosaic.TcCoe Idealize.SL.Sem

theorem ofBool_ite {α : Type} (p : Prop) [Decidable p] (a b : α) :
    (if BitVec.ofBool (decide p) = 1 then a else b) = if p then a else b := by
  by_cases h : p <;> simp [h]

theorem ofBeq_ite {α : Type} (u v : BitVec 32) (a b : α) :
    (if BitVec.ofBool (u == v) = 1 then a else b) = if u = v then a else b := by
  by_cases h : u = v
  · subst h; simp
  · rw [beq_false_of_ne h, if_neg h, if_neg (by decide)]

/-! ## The exponent of an entry -/

theorem bitStep_apply (m : FVec Ideal S8x128 .f32) (b : BitVec 32) (acc : IVec S8x128 32) (y : S8x128.Idx) :
    bitStep m b acc y = kstep (m y) b (acc y) := ofBool_ite _ _ _

theorem expBits_apply (m : FVec Ideal S8x128 .f32) (y : S8x128.Idx) : expBits m y = ksearch (m y) := by
  unfold expBits ksearch
  simp only [bitStep_apply]
  rfl

theorem eT_apply (m : FVec Ideal S8x128 .f32) (y : S8x128.Idx) : eT m y = kE (m y) := by
  show (if BitVec.ofBool (expBits m y == 0#32) = 1 then 0#32 else IntOp.shrui .vector (expBits m y) 23#32 - 129#32) = _
  rw [ofBeq_ite, expBits_apply]
  rfl

theorem mT_apply (s : Fin 32 → FVec Ideal S8x128 .f32) (y : S8x128.Idx) :
    mT s y = (Finset.univ : Finset (Fin 32)).fold max ⊥ (fun p => max (s p y : EReal) (-(s p y : EReal))) * Ideal.ofBits .f32 0x3E3504F3#32 := by
  refine congrArg (fun a : EReal => a * Ideal.ofBits .f32 0x3E3504F3#32) ?_
  have h := mx_fold (fun n => max (s (Fin.ofNat 32 n) y : EReal) (-(s (Fin.ofNat 32 n) y : EReal)))
  refine Eq.trans ?_ (h.trans (congrArg (fun f => (Finset.univ : Finset (Fin 32)).fold max (⊥ : EReal) f) (funext fun p => ?_)))
  · rfl
  · rw [show Fin.ofNat 32 p.val = p from Fin.ext (Nat.mod_eq_of_lt p.isLt)]

/-! ## The rotation -/

/-- The dimension numbers of the rotation: the matrix's columns against the chunk's rows. -/
abbrev D : DotDims S256x256 S256x1024 S256x1024 := dot_S256x256_S256x1024_S256x1024_1_0_0_1_n_n

theorem lhs_1 (i : S256x1024.Idx) (q : D.contr.Idx) : (D.lhsIdx i q 1).val = (q ⟨0, by decide⟩).val :=
  D.lhsIdx_val_of_single rfl i q
theorem lhs_0 (i : S256x1024.Idx) (q : D.contr.Idx) : (D.lhsIdx i q 0).val = (i 0).val := by
  unfold DotDims.lhsIdx
  rw [dif_neg (show ¬(0 : Fin S256x256.rank) ∈ D.lhsBatch by decide),
    dif_pos (show (0 : Fin S256x256.rank) ∈ D.lhsNonContracting by decide)]
  rfl
theorem rhs_0 (i : S256x1024.Idx) (q : D.contr.Idx) : (D.rhsIdx i q 0).val = (q ⟨0, by decide⟩).val :=
  D.rhsIdx_val_of_single rfl i q
theorem rhs_1 (i : S256x1024.Idx) (q : D.contr.Idx) : (D.rhsIdx i q 1).val = (i 1).val := by
  unfold DotDims.rhsIdx
  rw [dif_neg (show ¬(1 : Fin S256x1024.rank) ∈ D.rhsBatch by decide),
    dif_pos (show (1 : Fin S256x1024.rank) ∈ D.rhsNonContracting by decide)]
  rfl

theorem pay945_apply (had : FVec Ideal S256x256 .bf16) (sg : FVec Ideal S1x256 .f32) (x : FVec Ideal S256x1024 .bf16)
    (r : Fin 256) (l : Fin 1024) :
    k0_pay945 (F := Ideal) had sg x (ix (a := 256) (b := 1024) r l)
      = ∑ j : Fin 256, ((had (ix (a := 256) (b := 256) r j) : EReal) * (sg (ix (a := 1) (b := 256) 0 j) : EReal)) * (x (ix (a := 256) (b := 1024) j l) : EReal) := by
  unfold k0_pay945
  refine (shapeCast_apply _ _ (ix (a := 256) (b := 1024) r l) (ix (a := 256) (b := 1024) r l) rfl).trans ?_
  show FloatOps.matmul D none _ x (constant S256x1024 .f32 0x00000000#32) (ix (a := 256) (b := 1024) r l) = _
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  rw [show D.lhsIdx (ix (a := 256) (b := 1024) r l) ((ValueIdx.contrEquiv1 D 256 rfl rfl).symm k) = ix (a := 256) (b := 256) r k from
      ext2 (a := 256) (b := 256) (lhs_0 _ _) ((lhs_1 _ _).trans hk),
    show D.rhsIdx (ix (a := 256) (b := 1024) r l) ((ValueIdx.contrEquiv1 D 256 rfl rfl).symm k) = ix (a := 256) (b := 1024) k l from
      ext2 (a := 256) (b := 1024) ((rhs_0 _ _).trans hk) (rhs_1 _ _)]
  refine congrArg (fun a : EReal => a * (x (ix (a := 256) (b := 1024) k l) : EReal)) ?_
  refine congrArg₂ (fun a b : EReal => a * b) (shapeCast_apply _ _ _ _ rfl) ?_
  refine (broadcastTo_apply _ broadcasts_S1x256_S256x256 (ix (a := 256) (b := 256) r k) (ix (a := 1) (b := 256) 0 k) (fun a => by
    match a with
    | 0 => rfl
    | 1 => rfl)).trans ?_
  exact shapeCast_apply _ _ _ _ rfl

theorem low3 : ∀ i : Fin 256, BitVec.ofNat 32 i.val &&& 7#32 = BitVec.ofNat 32 (i.val % 8) := by decide +kernel
theorem high5 : ∀ i : Fin 256, BitVec.ofNat 32 i.val >>> 5#32 = BitVec.ofNat 32 (i.val / 32) := by decide +kernel
theorem high3 : ∀ i : Fin 256, BitVec.ofNat 32 i.val >>> 3#32 = BitVec.ofNat 32 (i.val / 8) := by decide +kernel
theorem low5 : ∀ i : Fin 256, BitVec.ofNat 32 i.val &&& 31#32 = BitVec.ofNat 32 (i.val % 32) := by decide +kernel

theorem bit_cases (w : BitVec 32) : w &&& 1#32 = 0#32 ∨ w &&& 1#32 = 1#32 := by
  have h : (w &&& 1#32).toNat = w.toNat % 2 := by
    rw [BitVec.toNat_and]; exact Nat.and_one_is_mod _
  rcases Nat.mod_two_eq_zero_or_one w.toNat with e | e
  · exact .inl (BitVec.eq_of_toNat_eq (h.trans e))
  · exact .inr (BitVec.eq_of_toNat_eq (h.trans e))

/-- The Hadamard operand's entries. -/
theorem had_apply (r j : Fin 256) :
    (hadV (F := Ideal) (ix (a := 256) (b := 256) r j) : EReal)
      = if r.val % 8 = j.val / 32 then (if ev ⟨r.val / 8, by omega⟩ ⟨j.val % 32, by omega⟩ then 1 else -1) else 0 := by
  show (if BitVec.ofBool ((BitVec.ofNat 32 r.val &&& 7#32) == (BitVec.ofNat 32 j.val >>> 5#32)) = 1
    then Ideal.ofBits .f32 0x3F800000#32 - Ideal.ofBits .f32 0x40000000#32
      * (((IntOp.ctpop ((BitVec.ofNat 32 r.val >>> 3#32) &&& (BitVec.ofNat 32 j.val &&& 31#32)) &&& 1#32).toInt : ℝ) : EReal)
    else Ideal.ofBits .f32 0x00000000#32) = _
  rw [ofBeq_ite, low3, high5, high3, low5, zero_eq, QtMath.one_eq, QtMath.two_eq]
  have hr := r.isLt
  have hj := j.isLt
  by_cases h : r.val % 8 = j.val / 32
  · rw [if_pos h, if_pos (congrArg _ h)]
    by_cases he : ev ⟨r.val / 8, by omega⟩ ⟨j.val % 32, by omega⟩
    · rw [if_pos he, show IntOp.ctpop (BitVec.ofNat 32 (r.val / 8) &&& BitVec.ofNat 32 (j.val % 32)) &&& 1#32 = 0#32 from he]
      simp
    · rw [if_neg he, (bit_cases (IntOp.ctpop (BitVec.ofNat 32 (r.val / 8) &&& BitVec.ofNat 32 (j.val % 32)))).resolve_left he,
        show (1#32 : BitVec 32).toInt = 1 by decide, ← EReal.coe_mul, ← EReal.coe_sub]
      norm_num
  · rw [if_neg h, if_neg]
    intro hc
    have := congrArg BitVec.toNat hc
    simp only [BitVec.toNat_ofNat] at this
    omega

section Rows

variable (x : FVec Ideal S1024x1024 .bf16) (sg : FVec Ideal S1x1024 .f32)

/-- A group of a block: 32 tokens from `32 g`, in column `l`, with their signs. -/
def bgrp (g : Fin 32) (l : Fin 1024) (q : Fin 32) : EReal :=
  (x (ix (a := 1024) (b := 1024) ⟨32 * g.val + q.val, by omega⟩ l) : EReal) * (sg (ix (a := 1) (b := 1024) 0 ⟨32 * g.val + q.val, by omega⟩) : EReal)

/-- A rotated entry: row `p` of the Hadamard matrix against the group. -/
theorem rot_apply (q : Fin 4) (b : Fin 8) (p : Fin 32) (l : Fin 1024) :
    (rot (F := Ideal) x sg hadV q (ix (a := 256) (b := 1024) ⟨8 * p.val + b.val, by omega⟩ l) : EReal)
      = hrow (bgrp x sg ⟨8 * q.val + b.val, by omega⟩ l) p := by
  unfold rot
  rw [pay945_apply]
  refine hrow_kernel _ _ p b ?_ ?_
  · intro j hj
    rw [had_apply, if_neg (show ¬(8 * p.val + b.val) % 8 = j.val / 32 by omega), zero_mul, zero_mul]
  · intro q'
    rw [had_apply, if_pos (show (8 * p.val + b.val) % 8 = (32 * b.val + q'.val) / 32 by omega)]
    rw [show (⟨(8 * p.val + b.val) / 8, by omega⟩ : Fin 32) = p from Fin.ext (show (8 * p.val + b.val) / 8 = p.val by omega),
      show (⟨(32 * b.val + q'.val) % 32, by omega⟩ : Fin 32) = q' from Fin.ext (show (32 * b.val + q'.val) % 32 = q'.val by omega)]
    have ex : x (ix (a := 1024) (b := 1024) ⟨256 * q.val + (32 * b.val + q'.val), by omega⟩ l)
        = x (ix (a := 1024) (b := 1024) ⟨32 * (8 * q.val + b.val) + q'.val, by omega⟩ l) :=
      congrArg x (ext2 (a := 1024) (b := 1024) (show 256 * q.val + (32 * b.val + q'.val) = 32 * (8 * q.val + b.val) + q'.val by omega) rfl)
    have es : sg (ix (a := 1) (b := 1024) 0 ⟨256 * q.val + (32 * b.val + q'.val), by omega⟩)
        = sg (ix (a := 1) (b := 1024) 0 ⟨32 * (8 * q.val + b.val) + q'.val, by omega⟩) :=
      congrArg sg (ext2 (a := 1) (b := 1024) rfl (show 256 * q.val + (32 * b.val + q'.val) = 32 * (8 * q.val + b.val) + q'.val by omega))
    have key : ∀ a u v u' v' : EReal, u' = u → v' = v → (a = 1 → a * v' * u' = u * v) ∧ (a = -1 → a * v' * u' = -(u * v)) := by
      rintro a u v u' v' rfl rfl
      exact ⟨fun h => by rw [h, one_mul, mul_comm], fun h => by rw [h, neg_mul, one_mul, neg_mul, mul_comm]⟩
    by_cases he : ev p q'
    · rw [if_pos he, if_pos he]
      exact (key 1 _ _ _ _ ex es).1 rfl
    · rw [if_neg he, if_neg he]
      exact (key (-1) _ _ _ _ ex es).2 rfl

/-- THE BLOCK'S SCALES, entry by entry. -/
theorem outS_apply (y : S32x1024.Idx) :
    outS (F := Ideal) x sg hadV y = (kE (gmax (bgrp x sg (y 0) (y 1)))).setWidth 8 := by
  show (outE (F := Ideal) x sg hadV y).setWidth 8 = _
  refine congrArg (BitVec.setWidth 8) ?_
  have h0 : (y 0).val < 32 := (y 0).isLt
  have h1 : (y 1).val < 1024 := (y 1).isLt
  unfold outE
  rw [eT_apply, mT_apply]
  refine congrArg kE (congrArg (fun a : EReal => a * Ideal.ofBits .f32 0x3E3504F3#32)
    (congrArg (fun f => (Finset.univ : Finset (Fin 32)).fold max (⊥ : EReal) f) (funext fun p => ?_)))
  have h := rot_apply x sg ⟨(y 0).val / 8, by omega⟩ ⟨(y 0).val % 8, by omega⟩ p ⟨128 * ((y 1).val / 128) + (y 1).val % 128, by omega⟩
  rw [show (⟨8 * ((y 0).val / 8) + (y 0).val % 8, by omega⟩ : Fin 32) = y 0 from Fin.ext (show 8 * ((y 0).val / 8) + (y 0).val % 8 = (y 0).val by omega),
    show (⟨128 * ((y 1).val / 128) + (y 1).val % 128, by omega⟩ : Fin 1024) = y 1 from
      Fin.ext (show 128 * ((y 1).val / 128) + (y 1).val % 128 = (y 1).val by omega)] at h
  rw [← h]
  refine congrArg (fun u : EReal => max u (-u)) (congrArg (rot (F := Ideal) x sg hadV ⟨(y 0).val / 8, by omega⟩) ?_)
  exact ext2 (a := 256) (b := 1024) rfl (show 128 * ((y 1).val / 128) + (y 1).val % 128 = (y 1).val by omega)

end Rows

end Cert.QtKernelIdeal.Qt

end
-- ==== Proof.QtKernelIdealBody.lean ====
module

public import proofs.«01_k».proof.Proof.Gen.QtKernelIdeal.Frame
public import proofs.«01_k».proof.Proof.Gen.QtKernelIdeal.Loops
public import proofs.«01_k».proof.Proof.QtKernelIdealRun
public import proofs.«01_k».proof.Proof.QtValue

@[expose] public section

set_option maxRecDepth 16384
set_option maxHeartbeats 8000000

noncomputable section

namespace Cert.QtKernelIdeal.Qt

open Cert.QtKernelIdeal Cert.QtKernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

namespace Val

variable (m : (ℓ : Loc nD τ sig) → Buf (Elt F) ℓ) (ρ : Dev nD → PrngReg)

/-- The output windows of which nothing is said. -/
def forgets0 : Fin 7 → Bool := fun w => match w with | 4 => true | 6 => true | _ => false

/-- The proof data on core `c`: the arrays as the region finds them; after the body an input's buffer at its block;
    full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => outS (iblk m c 0 t) (iblk m c 2 t) (iblk m c 3 t)
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_5 (c : Dev nD) (t : Fin cfg0.N) : (dats m 0 c).after 5 t = outS (iblk m c 0 t) (iblk m c 2 t) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- The region's invariant as the body takes it: every scratch buffer at some contents, and the generator register. -/
theorem PhiA0_eq (c : Dev nD) :
    (Pipeline.ΦA spec0 c : sProp (MT nD τ sig Unit (Elt F) ℕ (UR sig nD τ) ℕ)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare ((dats m 0 c).before 5 t d))
    ∗ (∃ d, owns (c : Thread nD τ) (ms0_6 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ owns (c : Thread nD τ) (ms0_5 t) fullShare ((dats m 0 c).after 5 t)
    ∗ (∃ d, owns (c : Thread nD τ) (ms0_6 t) fullShare d))

set_option maxHeartbeats 12000000 in
/-- The body at any point, by `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, after0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  unfold owns
  iintro ⟨⟨⟨⟨%g9, %f9, %h9, S9⟩, ⟨%g10, %f10, %h10, S10⟩, ⟨%g11, %f11, %h11, S11⟩, ⟨%g12, %f12, %h12, S12⟩, ⟨%g13, %f13, %h13, S13⟩⟩, Hg⟩, Ho, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply ((kernelRun c (grid0.coords t) _ _ _ _ _ _ _ _ _ _ _ _ _ _ _ _ _ _ _ _ _ _ _ _ f2 f3 f4 f5 f9 f13).2 f6 f7 f8 f10 f11 f12 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  isplitl [S12]; · iexact S12
  isplitl [S13]; · iexact S13
  iintro ⟨H2, H3, H4, H5, ⟨%e6, H6⟩, ⟨%e7, H7⟩, ⟨%e8, H8⟩, ⟨%e9, S9⟩, ⟨%e10, S10⟩, ⟨%e11, S11⟩, ⟨%e12, S12⟩, ⟨%e13, S13⟩⟩
  isplitl [S9 S10 S11 S12 S13 Hg]
  · isplitl [S9 S10 S11 S12 S13]
    · isplitl [S9]
      · iexists _, _; isplitr; swap; · iexact S9
        ipureintro; rfl
      isplitl [S10]
      · iexists _, _; isplitr; swap; · iexact S10
        ipureintro; rfl
      isplitl [S11]
      · iexists _, _; isplitr; swap; · iexact S11
        ipureintro; rfl
      isplitl [S12]
      · iexists _, _; isplitr; swap; · iexact S12
        ipureintro; rfl
      iexists _, _; isplitr; swap; · iexact S13
      ipureintro; rfl
    iexact Hg
  isplitl [Ho]; · iexact Ho
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _, _; isplitr; swap; · iexact H6
    ipureintro; rfl
  isplitl [H7]
  · iexists _; isplitr; swap; · iexact H7
    ipureintro; rw [← h2, ← h4, ← h5]; exact run_value _ _ _ _ _ _ _ _ _ _ _ _ _ _ _ _ _ _ _ _ _ _ _ _ _ _ _ _ _ _ _ _ _
  iexists _, _; isplitr; swap; · iexact H8
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the run's implicit arguments are found by unifying its conclusion with this statement
set_option backward.isDefEq.respectTransparency.types false in
/-- Every weakly fair execution of @main terminates; at its end every array of the pipeline is at what the proof data
    allows, every other unscoped buffer as the region found it, and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run each argument holds what it held at launch. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((dats m 0 c).toRForget_arrAt_iff (w := 0) rfl _ _).mp ((h c).1 0)).trans (((dats m 0 c).arrAt_in 0 rfl _).trans ((A_eq m c 0).trans (V_main_arg0 m c))),
   (((dats m 0 c).toRForget_arrAt_iff (w := 1) rfl _ _).mp ((h c).1 1)).trans (((dats m 0 c).arrAt_in 1 rfl _).trans ((A_eq m c 1).trans (V_main_arg1 m c))),
   ((h c).2 main_arg2 (Pipeline.mem_restRefs_of main_arg2 (by decide) (by decide))).trans (V_main_arg2 m c)⟩

/-- The run with the scales' array named and the arguments unchanged. -/
theorem run_blocks : θ_run defs (onTc (τ := τ) (main (F := F))) ⟨m, fun _ => 0, ρ⟩ fun r => ∀ c : Dev nD,
      r.2.mem ((c.tc : Thread nD τ).loc main_v23_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((dats m 0 c).toRForget_arrAt_iff (w := 5) rfl _ _).mp ((h.1 c).1 5), final_args m h.1 c⟩)
    (run_main m ρ)

/-- The frame: the run terminates, the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => final_args m h.1 c, h.2⟩) (run_main m ρ)

end Val

end Cert.QtKernelIdeal.Qt

end
-- ==== Proof.QtArray.lean ====
/- What the scales' ARRAY holds after the run, over the extended reals: the 6 × 4 grid's blocks of 32 × 1024 tile the
   192 × 4096 result, and each grid point writes its block of one whole-array function. -/
module

public import proofs.«01_k».proof.Proof.QtBlock
public import proofs.«01_k».proof.Proof.QtKernelIdealBody

@[expose] public section

noncomputable section

namespace Cert.QtKernelIdeal.Qt

open Cert.QtKernelIdeal Cert.QtKernelIdeal.Gen Cert.QtMath Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The scales of whole arrays: at (g, k), the exponent of the scaled maximum of group `g` of column `k`. -/
def scales (x : FVec Ideal S6144x4096 .bf16) (s : FVec Ideal S6144 .f32) : IVec S192x4096 8 :=
  fun i => (kE (gmax (grp x s (i 0) (i 1)))).setWidth 8

/-- Device `c`'s scales: what the result array is shown to hold. -/
abbrev G (c : Dev nD) : Buf (Elt Ideal) ((c : Thread nD τ).loc main_v23_1) :=
  scales (m ((c : Thread nD τ).loc main_arg0)) (m ((c : Thread nD τ).loc main_arg2))

/-- Block indices at grid point `t` (decided over the 24 points). -/
theorem index_facts : ∀ t : Fin cfg0.N,
    win0_5.index t 0 < 6 ∧ win0_5.index t 1 < 4 ∧ win0_0.index t 0 = win0_5.index t 0 ∧ win0_0.index t 1 = win0_5.index t 1
    ∧ win0_2.index t 0 = 0 ∧ win0_2.index t 1 = win0_5.index t 0 ∧ win0_3.index t 0 = 0 ∧ win0_3.index t 1 = 0 :=
  (by decide +kernel : ∀ t : Fin grid0.N,
    win0_5.index t 0 < 6 ∧ win0_5.index t 1 < 4 ∧ win0_0.index t 0 = win0_5.index t 0 ∧ win0_0.index t 1 = win0_5.index t 1
    ∧ win0_2.index t 0 = 0 ∧ win0_2.index t 1 = win0_5.index t 0 ∧ win0_3.index t 0 = 0 ∧ win0_3.index t 1 = 0)

/-- Every block is some point's. -/
theorem index_onto : ∀ a : Fin 6, ∀ b : Fin 4, ∃ t : Fin cfg0.N, win0_5.index t 0 = a.val ∧ win0_5.index t 1 = b.val :=
  (by decide +kernel : ∀ a : Fin 6, ∀ b : Fin 4, ∃ t : Fin grid0.N, win0_5.index t 0 = a.val ∧ win0_5.index t 1 = b.val)

theorem iblk0_apply (c : Dev nD) (t : Fin cfg0.N) (j : S1024x1024.Idx) (i : S6144x4096.Idx)
    (h0 : (i 0).val = win0_0.index t 0 * 1024 + (j 0).val) (h1 : (i 1).val = win0_0.index t 1 * 1024 + (j 1).val) :
    iblk m c 0 t j = m ((c : Thread nD τ).loc main_arg0) i := by
  show V m c main_arg0 ((win0_0.blk t).view.emb j) = _
  rw [V_main_arg0]
  refine congrArg _ (funext fun a => Fin.ext ?_)
  match a with
  | ⟨0, _⟩ => refine Eq.trans ?_ h0.symm; show win0_0.index t 0 * 1024 + 1 * (j 0).val = _; omega
  | ⟨1, _⟩ => refine Eq.trans ?_ h1.symm; show win0_0.index t 1 * 1024 + 1 * (j 1).val = _; omega

theorem iblk2_apply (c : Dev nD) (t : Fin cfg0.N) (j : S1x1024.Idx) (i : S6144.Idx)
    (h0 : (i 0).val = win0_2.index t 1 * 1024 + (j 1).val) :
    iblk m c 2 t j = m ((c : Thread nD τ).loc main_arg2) i := by
  show V m c main_v22 ((win0_2.blk t).view.emb j) = _
  rw [V_sign]
  refine shapeCast_apply _ _ _ i ?_
  rw [Shape.rowMajor_val_two, Shape.rowMajor_val_one]
  obtain ⟨-, -, -, -, e0, -⟩ := index_facts t
  have hj : (j 0).val < 1 := (j 0).isLt
  show (i 0).val = (win0_2.index t 0 * 1 + 1 * (j 0).val) * 6144 + (win0_2.index t 1 * 1024 + 1 * (j 1).val)
  omega

theorem iblk3_eq (c : Dev nD) (t : Fin cfg0.N) : iblk m c 3 t = hadV (F := Ideal) := by
  funext j
  show V m c main_v21 ((win0_3.blk t).view.emb j) = _
  rw [V_had]
  obtain ⟨-, -, -, -, -, -, e0, e1⟩ := index_facts t
  refine congrArg _ (funext fun a => Fin.ext ?_)
  match a with
  | ⟨0, _⟩ => show win0_3.index t 0 * 256 + 1 * (j 0).val = (j 0).val; omega
  | ⟨1, _⟩ => show win0_3.index t 1 * 256 + 1 * (j 1).val = (j 1).val; omega

/-- WHAT POINT `t` WRITES BACK is its block of the whole array's scales. -/
theorem flushed_eq (c : Dev nD) (t : Fin cfg0.N) :
    (Val.dats m 0 c).flushed 5 t = (win0_5.blk t).view.read (Elt Ideal) (G m c) := by
  show (cfg0.win 5).cut _ ((Val.dats m 0 c).after 5 t) = _
  rw [Val.after0_5]
  funext j
  show outS (F := Ideal) (iblk m c 0 t) (iblk m c 2 t) (iblk m c 3 t) j = G m c ((win0_5.blk t).view.emb j)
  obtain ⟨e0, e1, a0, a1, b0, b1, -⟩ := index_facts t
  have g0 : ((win0_5.blk t).view.emb j 0).val = win0_5.index t 0 * 32 + 1 * (j 0).val := rfl
  have g1 : ((win0_5.blk t).view.emb j 1).val = win0_5.index t 1 * 1024 + 1 * (j 1).val := rfl
  rw [iblk3_eq, outS_apply]
  refine congrArg (fun v => (kE (gmax v)).setWidth 8) (funext fun q => ?_)
  refine congrArg₂ (fun a b : EReal => a * b) ?_ ?_
  · exact iblk0_apply m c t _ _ (by
      show 32 * ((win0_5.blk t).view.emb j 0).val + q.val = win0_0.index t 0 * 1024 + (32 * (j 0).val + q.val); omega) (by
      show ((win0_5.blk t).view.emb j 1).val = win0_0.index t 1 * 1024 + (j 1).val; omega)
  · exact iblk2_apply m c t _ _ (by
      show 32 * ((win0_5.blk t).view.emb j 0).val + q.val = win0_2.index t 1 * 1024 + (32 * (j 0).val + q.val); omega)

theorem mem_blk (t : Fin cfg0.N) (i : S192x4096.Idx)
    (h0 : win0_5.index t 0 * 32 ≤ (i 0 : Nat) ∧ (i 0 : Nat) < win0_5.index t 0 * 32 + 32)
    (h1 : win0_5.index t 1 * 1024 ≤ (i 1 : Nat) ∧ (i 1 : Nat) < win0_5.index t 1 * 1024 + 1024) :
    i ∈ ((cfg0.win 5).blk t).view.set := by
  show i ∈ ((View.whole main_v23_1).slice (win0_5.rect t)).set
  rw [View.set_slice_whole, Rect.mem_set_unit]
  intro a
  match a with
  | ⟨0, _⟩ => exact h0
  | ⟨1, _⟩ => exact h1

/-- The blocks cover the result array. -/
theorem cover (i : S192x4096.Idx) :
    ∃ t : Fin cfg0.N, (cfg0.win 5).flush t = true ∧ i ∈ ((cfg0.win 5).blk t).view.set := by
  have h0 : (i 0 : Nat) < 192 := (i 0).isLt
  have h1 : (i 1 : Nat) < 4096 := (i 1).isLt
  obtain ⟨t, e0, e1⟩ := index_onto ⟨(i 0 : Nat) / 32, by omega⟩ ⟨(i 1 : Nat) / 1024, by omega⟩
  refine ⟨t, flush0_5 t, mem_blk t i ?_ ?_⟩
  · rw [e0]; dsimp only; omega
  · rw [e1]; dsimp only; omega

/-- So the result array ends holding the scales. -/
theorem final (c : Dev nD) : (Val.dats m 0 c).arrAt 5 cfg0.N = G m c :=
  (Val.dats m 0 c).arrAt_eq_of_cover 5 (G m c) (fun t _ => flushed_eq m c t) cover

/-- The kernel's run, read: the scales' array at the arguments' scales, the arguments unchanged. -/
theorem run : θ_run defs (onTc (τ := τ) (main (F := Ideal))) ⟨m, fun _ => 0, ρ⟩ fun r => ∀ c : Dev nD,
      r.2.mem ((c : Thread nD τ).loc main_v23_1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Val.run_blocks m ρ)

end Cert.QtKernelIdeal.Qt

end
-- ==== Proof.QtKernelLoops.lean ====
module

public import proofs.«01_k».proof.Proof.Gen.QtKernel.Frame
public import proofs.«01_k».proof.Proof.Gen.QtKernel.Loops

@[expose] public section

set_option maxRecDepth 16384
set_option maxHeartbeats 8000000

noncomputable section

namespace Cert.QtKernel.Qt

open Cert.QtKernel Cert.QtKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One trip of loop 1: it reads the bytes and the rotated rows, leaves the codes, the decoded values and the small
    scratch buffers at some contents, and writes its exponents, which depend on the rotated rows alone. -/
@[irreducible] def trip1 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t1_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t1_abs.2.1
  refine ⟨?_, fun E f6 f8 f10 f11 f12 f13 => ?run⟩
  case run =>
    unfold k0_t1_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb1Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t1_loop.trips then (trip1 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb1 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb1Step (F := F) c i arg2 harg2 arg3 harg3 arg4 harg4 arg5 harg5 arg6 harg6 arg7 harg7 arg8 harg8 arg9 harg9 arg10 harg10 arg11 harg11 arg12 harg12 arg13 harg13 X3 X9 k (pb1 c i arg2 harg2 arg3 harg3 arg4 harg4 arg5 harg5 arg6 harg6 arg7 harg7 arg8 harg8 arg9 harg9 arg10 harg10 arg11 harg11 arg12 harg12 arg13 harg13 X3 X9 k)

theorem pb1_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t1_loop.trips) :
    pb1 (F := F) c i arg2 harg2 arg3 harg3 arg4 harg4 arg5 harg5 arg6 harg6 arg7 harg7 arg8 harg8 arg9 harg9 arg10 harg10 arg11 harg11 arg12 harg12 arg13 harg13 X3 X9 (k.val + 1) = (trip1 (F := F) c i arg2 harg2 arg3 harg3 arg4 harg4 arg5 harg5 arg6 harg6 arg7 harg7 arg8 harg8 arg9 harg9 arg10 harg10 arg11 harg11 arg12 harg12 arg13 harg13 X3 X9 k).1 ++ pb1 (F := F) c i arg2 harg2 arg3 harg3 arg4 harg4 arg5 harg5 arg6 harg6 arg7 harg7 arg8 harg8 arg9 harg9 arg10 harg10 arg11 harg11 arg12 harg12 arg13 harg13 X3 X9 k.val := by
  rw [pb1.eq_2]; unfold pb1Step; exact dif_pos k.isLt

set_option warn.classDefReducibility false in
/-- The loop by its invariant: the bytes and the rotated rows as they are, the exponents' buffer with the pieces of the
    trips before `k` over what it held, everything else at some contents. -/
@[sl_loop] def loopInv1 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb1 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip1 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb1_succ]
      iexists _; isplitl [H13]; · iexact H13
      ipureintro; rw [h13, ← View.writes_append]

/-- One trip of loop 2: it reads the bytes and the rotated rows, leaves the codes, the decoded values and the small
    scratch buffers at some contents, and writes its exponents, which depend on the rotated rows alone. -/
@[irreducible] def trip2 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t2_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t2_abs.2.1
  refine ⟨?_, fun E f6 f8 f10 f11 f12 f13 => ?run⟩
  case run =>
    unfold k0_t2_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb2Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t2_loop.trips then (trip2 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb2 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb2Step (F := F) c i arg2 harg2 arg3 harg3 arg4 harg4 arg5 harg5 arg6 harg6 arg7 harg7 arg8 harg8 arg9 harg9 arg10 harg10 arg11 harg11 arg12 harg12 arg13 harg13 X3 X9 k (pb2 c i arg2 harg2 arg3 harg3 arg4 harg4 arg5 harg5 arg6 harg6 arg7 harg7 arg8 harg8 arg9 harg9 arg10 harg10 arg11 harg11 arg12 harg12 arg13 harg13 X3 X9 k)

theorem pb2_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t2_loop.trips) :
    pb2 (F := F) c i arg2 harg2 arg3 harg3 arg4 harg4 arg5 harg5 arg6 harg6 arg7 harg7 arg8 harg8 arg9 harg9 arg10 harg10 arg11 harg11 arg12 harg12 arg13 harg13 X3 X9 (k.val + 1) = (trip2 (F := F) c i arg2 harg2 arg3 harg3 arg4 harg4 arg5 harg5 arg6 harg6 arg7 harg7 arg8 harg8 arg9 harg9 arg10 harg10 arg11 harg11 arg12 harg12 arg13 harg13 X3 X9 k).1 ++ pb2 (F := F) c i arg2 harg2 arg3 harg3 arg4 harg4 arg5 harg5 arg6 harg6 arg7 harg7 arg8 harg8 arg9 harg9 arg10 harg10 arg11 harg11 arg12 harg12 arg13 harg13 X3 X9 k.val := by
  rw [pb2.eq_2]; unfold pb2Step; exact dif_pos k.isLt

set_option warn.classDefReducibility false in
/-- The loop by its invariant: the bytes and the rotated rows as they are, the exponents' buffer with the pieces of the
    trips before `k` over what it held, everything else at some contents. -/
@[sl_loop] def loopInv2 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb2 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip2 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb2_succ]
      iexists _; isplitl [H13]; · iexact H13
      ipureintro; rw [h13, ← View.writes_append]

/-- One trip of loop 3: it reads the bytes and the rotated rows, leaves the codes, the decoded values and the small
    scratch buffers at some contents, and writes its exponents, which depend on the rotated rows alone. -/
@[irreducible] def trip3 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t3_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t3_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t3_abs.2.1
  refine ⟨?_, fun E f6 f8 f10 f11 f12 f13 => ?run⟩
  case run =>
    unfold k0_t3_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb3Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t3_loop.trips then (trip3 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb3 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb3Step (F := F) c i arg2 harg2 arg3 harg3 arg4 harg4 arg5 harg5 arg6 harg6 arg7 harg7 arg8 harg8 arg9 harg9 arg10 harg10 arg11 harg11 arg12 harg12 arg13 harg13 X3 X9 k (pb3 c i arg2 harg2 arg3 harg3 arg4 harg4 arg5 harg5 arg6 harg6 arg7 harg7 arg8 harg8 arg9 harg9 arg10 harg10 arg11 harg11 arg12 harg12 arg13 harg13 X3 X9 k)

theorem pb3_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t3_loop.trips) :
    pb3 (F := F) c i arg2 harg2 arg3 harg3 arg4 harg4 arg5 harg5 arg6 harg6 arg7 harg7 arg8 harg8 arg9 harg9 arg10 harg10 arg11 harg11 arg12 harg12 arg13 harg13 X3 X9 (k.val + 1) = (trip3 (F := F) c i arg2 harg2 arg3 harg3 arg4 harg4 arg5 harg5 arg6 harg6 arg7 harg7 arg8 harg8 arg9 harg9 arg10 harg10 arg11 harg11 arg12 harg12 arg13 harg13 X3 X9 k).1 ++ pb3 (F := F) c i arg2 harg2 arg3 harg3 arg4 harg4 arg5 harg5 arg6 harg6 arg7 harg7 arg8 harg8 arg9 harg9 arg10 harg10 arg11 harg11 arg12 harg12 arg13 harg13 X3 X9 k.val := by
  rw [pb3.eq_2]; unfold pb3Step; exact dif_pos k.isLt

set_option warn.classDefReducibility false in
/-- The loop by its invariant: the bytes and the rotated rows as they are, the exponents' buffer with the pieces of the
    trips before `k` over what it held, everything else at some contents. -/
@[sl_loop] def loopInv3 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb3 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip3 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb3_succ]
      iexists _; isplitl [H13]; · iexact H13
      ipureintro; rw [h13, ← View.writes_append]

/-- One trip of loop 4: it reads the bytes and the rotated rows, leaves the codes, the decoded values and the small
    scratch buffers at some contents, and writes its exponents, which depend on the rotated rows alone. -/
@[irreducible] def trip4 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t4_loop.trips) :
    { L : List (View.Piece (Elt F) S32x1024 .i32) // ∀ (E : Set ℕ) (f6 : BufTy.Contents (Elt F) arg6.view.ty) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg3.view.loc (c : Thread nD τ) ↦[arg3.view.set]{fullShare} X3) ∗ (arg9.view.loc (c : Thread nD τ) ↦[arg9.view.set]{fullShare} X9) ∗ (arg6.view.loc (c : Thread nD τ) ↦[arg6.view.set]{fullShare} f6) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp (MT nD τ sig Unit (Elt F) ℕ (UR sig nD τ) ℕ))
      ⊢ wp frame (wpE (defs₀ (F := F)) Variants.none (c : Thread nD τ) none) E (k0_t4_body (F := F) i arg2 harg2 arg3 harg3 arg4 harg4 arg5 harg5 arg6 harg6 arg7 harg7 arg8 harg8 arg9 harg9 arg10 harg10 arg11 harg11 arg12 harg12 arg13 harg13 k PUnit.unit)
          (fun _ => iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (arg13.view.loc (c : Thread nD τ) ↦[arg13.view.set]{fullShare} arg13.view.writes (Elt F) f13 L))) } := by
  have hk : k.val < 8 := Nat.lt_of_lt_of_le k.isLt k0_t4_abs.2.1
  refine ⟨?_, fun E f6 f8 f10 f11 f12 f13 => ?run⟩
  case run =>
    unfold k0_t4_body
    iintro ⟨HR3, HR9, H6, H8, H10, H11, H12, H13⟩
    sl_exec
    sl_step
    isplitl [HR3]; · iexact HR3
    isplitl [HR9]; · iexact HR9
    isplitl [H6]; · iexists _; iexact H6
    isplitl [H8]; · iexists _; iexact H8
    isplitl [H10]; · iexists _; iexact H10
    isplitl [H11]; · iexists _; iexact H11
    isplitl [H12]; · iexists _; iexact H12
    iexact H13

/-- One more trip's pieces in front of those before it. -/
@[irreducible] def pb4Step (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : ℕ) (prev : List (View.Piece (Elt F) S32x1024 .i32)) : List (View.Piece (Elt F) S32x1024 .i32) :=
  if h : k < k0_t4_loop.trips then (trip4 (F := F) c i arg2 harg2 arg3 harg3 arg4 harg4 arg5 harg5 arg6 harg6 arg7 harg7 arg8 harg8 arg9 harg9 arg10 harg10 arg11 harg11 arg12 harg12 arg13 harg13 X3 X9 ⟨k, h⟩).1 ++ prev else prev

/-- The exponents' pieces of the trips before the `k`-th, last first. -/
def pb4 (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) : ℕ → List (View.Piece (Elt F) S32x1024 .i32)
  | 0 => []
  | k + 1 => pb4Step (F := F) c i arg2 harg2 arg3 harg3 arg4 harg4 arg5 harg5 arg6 harg6 arg7 harg7 arg8 harg8 arg9 harg9 arg10 harg10 arg11 harg11 arg12 harg12 arg13 harg13 X3 X9 k (pb4 c i arg2 harg2 arg3 harg3 arg4 harg4 arg5 harg5 arg6 harg6 arg7 harg7 arg8 harg8 arg9 harg9 arg10 harg10 arg11 harg11 arg12 harg12 arg13 harg13 X3 X9 k)

theorem pb4_succ (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (k : Fin k0_t4_loop.trips) :
    pb4 (F := F) c i arg2 harg2 arg3 harg3 arg4 harg4 arg5 harg5 arg6 harg6 arg7 harg7 arg8 harg8 arg9 harg9 arg10 harg10 arg11 harg11 arg12 harg12 arg13 harg13 X3 X9 (k.val + 1) = (trip4 (F := F) c i arg2 harg2 arg3 harg3 arg4 harg4 arg5 harg5 arg6 harg6 arg7 harg7 arg8 harg8 arg9 harg9 arg10 harg10 arg11 harg11 arg12 harg12 arg13 harg13 X3 X9 k).1 ++ pb4 (F := F) c i arg2 harg2 arg3 harg3 arg4 harg4 arg5 harg5 arg6 harg6 arg7 harg7 arg8 harg8 arg9 harg9 arg10 harg10 arg11 harg11 arg12 harg12 arg13 harg13 X3 X9 k.val := by
  rw [pb4.eq_2]; unfold pb4Step; exact dif_pos k.isLt

set_option warn.classDefReducibility false in
/-- The loop by its invariant: the bytes and the rotated rows as they are, the exponents' buffer with the pieces of the
    trips before `k` over what it held, everything else at some contents. -/
@[sl_loop] def loopInv4 (c : Dev nD) (E : Set ℕ) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (X3 : BufTy.Contents (Elt F) arg3.view.ty) (X9 : BufTy.Contents (Elt F) arg9.view.ty) (G13 : BufTy.Contents (Elt F) arg13.view.ty) :
    LoopInvTy_k0_t4 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 where
  inv k _ := iprop((arg3.view.loc (c : Thread nD τ) ↦[arg3.view.set]{fullShare} X3) ∗ (arg9.view.loc (c : Thread nD τ) ↦[arg9.view.set]{fullShare} X9) ∗ (∃ f, (arg6.view.loc (c : Thread nD τ) ↦[arg6.view.set]{fullShare} f)) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f) ∗ ⌜f = arg13.view.writes (Elt F) G13 (pb4 (F := F) c i arg2 harg2 arg3 harg3 arg4 harg4 arg5 harg5 arg6 harg6 arg7 harg7 arg8 harg8 arg9 harg9 arg10 harg10 arg11 harg11 arg12 harg12 arg13 harg13 X3 X9 k)⌝))
  step k acc := by
    iintro ⟨HR3, HR9, ⟨%f6, H6⟩, ⟨%f8, H8⟩, ⟨%f10, H10⟩, ⟨%f11, H11⟩, ⟨%f12, H12⟩, ⟨%f13, H13, %h13⟩⟩
    iapply (wp_wand_r Idealize.ShloMosaic.frame (wpE (defs₀ (F := F)) Variants.none (c : Thread nD τ) none) E)
    isplitl [HR3 HR9 H6 H8 H10 H11 H12 H13]
    · iapply ((trip4 (F := F) c i arg2 harg2 arg3 harg3 arg4 harg4 arg5 harg5 arg6 harg6 arg7 harg7 arg8 harg8 arg9 harg9 arg10 harg10 arg11 harg11 arg12 harg12 arg13 harg13 X3 X9 k).2 E f6 f8 f10 f11 f12 f13)
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      iexact H13
    · iintro %_ ⟨HR3, HR9, H6, H8, H10, H11, H12, H13⟩
      isplitl [HR3]; · iexact HR3
      isplitl [HR9]; · iexact HR9
      isplitl [H6]; · iexact H6
      isplitl [H8]; · iexact H8
      isplitl [H10]; · iexact H10
      isplitl [H11]; · iexact H11
      isplitl [H12]; · iexact H12
      rw [pb4_succ]
      iexists _; isplitl [H13]; · iexact H13
      ipureintro; rw [h13, ← View.writes_append]

end Cert.QtKernel.Qt

end
-- ==== Proof.QtKernelRun.lean ====
module

public import proofs.«01_k».proof.Proof.Gen.QtKernel.Frame
public import proofs.«01_k».proof.Proof.Gen.QtKernel.Loops
public import proofs.«01_k».proof.Proof.QtKernelLoops

@[expose] public section

set_option maxRecDepth 16384
set_option maxHeartbeats 8000000

noncomputable section

namespace Cert.QtKernel.Qt

open Cert.QtKernel Cert.QtKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body, run once: from the four input blocks and everything else at any contents it gives the inputs back, and
    leaves in the scales' buffer what one whole-buffer store puts there; the rest ends at some contents. -/
@[irreducible] def kernelRun (c : Dev nD) (i : grid0.Coords) (arg2 : Memref sig .tc .vmem S1024x1024 .bf16) (harg2 : arg2.IsWhole) (arg3 : Memref sig .tc .vmem S1024x1024 .i8) (harg3 : arg3.IsWhole) (arg4 : Memref sig .tc .vmem S1x1024 .f32) (harg4 : arg4.IsWhole) (arg5 : Memref sig .tc .vmem S256x256 .bf16) (harg5 : arg5.IsWhole) (arg6 : Memref sig .tc .vmem S512x1024 .i8) (harg6 : arg6.IsWhole) (arg7 : Memref sig .tc .vmem S32x1024 .i8) (harg7 : arg7.IsWhole) (arg8 : Memref sig .tc .vmem S1024x1024 .bf16) (harg8 : arg8.IsWhole) (arg9 : Memref sig .tc .vmem S256x1024 .f32) (harg9 : arg9.IsWhole) (arg10 : Memref sig .tc .vmem S16x128 .i32) (harg10 : arg10.IsWhole) (arg11 : Memref sig .tc .vmem S64x128 .i32) (harg11 : arg11.IsWhole) (arg12 : Memref sig .tc .vmem S32x128 .i32) (harg12 : arg12.IsWhole) (arg13 : Memref sig .tc .vmem S32x1024 .i32) (harg13 : arg13.IsWhole) (f2 : BufTy.Contents (Elt F) arg2.view.ty) (f3 : BufTy.Contents (Elt F) arg3.view.ty) (f4 : BufTy.Contents (Elt F) arg4.view.ty) (f5 : BufTy.Contents (Elt F) arg5.view.ty) (f9 : BufTy.Contents (Elt F) arg9.view.ty) (f13 : BufTy.Contents (Elt F) arg13.view.ty) :
    { L : List (View.Piece (Elt F) S32x1024 .i8) //
      ∀ (f6 : BufTy.Contents (Elt F) arg6.view.ty) (f7 : BufTy.Contents (Elt F) arg7.view.ty) (f8 : BufTy.Contents (Elt F) arg8.view.ty) (f10 : BufTy.Contents (Elt F) arg10.view.ty) (f11 : BufTy.Contents (Elt F) arg11.view.ty) (f12 : BufTy.Contents (Elt F) arg12.view.ty) (E : Set ℕ) (K : PUnit → sProp (MT nD τ sig Unit (Elt F) ℕ (UR sig nD τ) ℕ)),
      iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (∃ f, (arg6.view.loc (c : Thread nD τ) ↦[arg6.view.set]{fullShare} f)) ∗ (∃ f, (arg7.view.loc (c : Thread nD τ) ↦[arg7.view.set]{fullShare} arg7.view.writes (Elt F) f L)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f))) -∗ K ⟨⟩))
      ⊢ wp frame (wpE (defs₀ (F := F)) Variants.none (c : Thread nD τ) none) E (cc0_quant_t (F := F) i arg2 harg2 arg3 harg3 arg4 harg4 arg5 harg5 arg6 harg6 arg7 harg7 arg8 harg8 arg9 harg9 arg10 harg10 arg11 harg11 arg12 harg12 arg13 harg13) K } := by
  refine ⟨?_, fun f6 f7 f8 f10 f11 f12 E K => ?run⟩
  case run =>
    simp only [cc0_quant_t_eq_skeleton]
    unfold cc0_quant_t_skel
    iintro ⟨H2, H3, H4, H5, H6, H7, H8, H9, H10, H11, H12, H13, Hk⟩
    sl_exec
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.QtKernel.Qt

end
-- ==== Proof.QtKernelFrame.lean ====
module

public import proofs.«01_k».proof.Proof.Gen.QtKernel.Frame
public import proofs.«01_k».proof.Proof.Gen.QtKernel.Loops
public import proofs.«01_k».proof.Proof.QtKernelRun

@[expose] public section

set_option maxRecDepth 16384
set_option maxHeartbeats 8000000

noncomputable section

namespace Cert.QtKernel.Qt

open Cert.QtKernel Cert.QtKernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

namespace Frm

variable (m : (ℓ : Loc nD τ sig) → Buf (Elt F) ℓ) (ρ : Dev nD → PrngReg)

/-- The output windows of which nothing is said. -/
def forgets0 : Fin 7 → Bool := fun w => match w with | 4 => true | 5 => true | 6 => true | _ => false

/-- The proof data on core `c`: the arrays as the region finds them; after the body an input's buffer at its block;
    full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- The region's invariant as the body takes it: every scratch buffer at some contents, and the generator register. -/
theorem PhiA0_eq (c : Dev nD) :
    (Pipeline.ΦA spec0 c : sProp (MT nD τ sig Unit (Elt F) ℕ (UR sig nD τ) ℕ)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 12000000 in
/-- The body at any point, by `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  unfold owns
  iintro ⟨⟨⟨⟨%g9, %f9, %h9, S9⟩, ⟨%g10, %f10, %h10, S10⟩, ⟨%g11, %f11, %h11, S11⟩, ⟨%g12, %f12, %h12, S12⟩, ⟨%g13, %f13, %h13, S13⟩⟩, Hg⟩, Ho, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply ((kernelRun c (grid0.coords t) _ _ _ _ _ _ _ _ _ _ _ _ _ _ _ _ _ _ _ _ _ _ _ _ f2 f3 f4 f5 f9 f13).2 f6 f7 f8 f10 f11 f12 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  isplitl [S12]; · iexact S12
  isplitl [S13]; · iexact S13
  iintro ⟨H2, H3, H4, H5, ⟨%e6, H6⟩, ⟨%e7, H7⟩, ⟨%e8, H8⟩, ⟨%e9, S9⟩, ⟨%e10, S10⟩, ⟨%e11, S11⟩, ⟨%e12, S12⟩, ⟨%e13, S13⟩⟩
  isplitl [S9 S10 S11 S12 S13 Hg]
  · isplitl [S9 S10 S11 S12 S13]
    · isplitl [S9]
      · iexists _, _; isplitr; swap; · iexact S9
        ipureintro; rfl
      isplitl [S10]
      · iexists _, _; isplitr; swap; · iexact S10
        ipureintro; rfl
      isplitl [S11]
      · iexists _, _; isplitr; swap; · iexact S11
        ipureintro; rfl
      isplitl [S12]
      · iexists _, _; isplitr; swap; · iexact S12
        ipureintro; rfl
      iexists _, _; isplitr; swap; · iexact S13
      ipureintro; rfl
    iexact Hg
  isplitl [Ho]; · iexact Ho
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the run's implicit arguments are found by unifying its conclusion with this statement
set_option backward.isDefEq.respectTransparency.types false in
/-- Every weakly fair execution of @main terminates; at its end every array of the pipeline is at what the proof data
    allows, every other unscoped buffer as the region found it, and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run each argument holds what it held at launch. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((dats m 0 c).toRForget_arrAt_iff (w := 0) rfl _ _).mp ((h c).1 0)).trans (((dats m 0 c).arrAt_in 0 rfl _).trans ((A_eq m c 0).trans (V_main_arg0 m c))),
   (((dats m 0 c).toRForget_arrAt_iff (w := 1) rfl _ _).mp ((h c).1 1)).trans (((dats m 0 c).arrAt_in 1 rfl _).trans ((A_eq m c 1).trans (V_main_arg1 m c))),
   ((h c).2 main_arg2 (Pipeline.mem_restRefs_of main_arg2 (by decide) (by decide))).trans (V_main_arg2 m c)⟩

/-- The frame: the run terminates, the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => final_args m h.1 c, h.2⟩) (run_main m ρ)

end Frm

end Cert.QtKernel.Qt

end
-- ==== Proof.QtKernelIdealFrame.lean ====
module

public import proofs.«01_k».proof.Proof.Gen.QtKernelIdeal.Frame
public import proofs.«01_k».proof.Proof.Gen.QtKernelIdeal.Loops
public import proofs.«01_k».proof.Proof.QtKernelIdealRun

@[expose] public section

set_option maxRecDepth 16384
set_option maxHeartbeats 8000000

noncomputable section

namespace Cert.QtKernelIdeal.Qt

open Cert.QtKernelIdeal Cert.QtKernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

namespace Frm

variable (m : (ℓ : Loc nD τ sig) → Buf (Elt F) ℓ) (ρ : Dev nD → PrngReg)

/-- The output windows of which nothing is said. -/
def forgets0 : Fin 7 → Bool := fun w => match w with | 4 => true | 5 => true | 6 => true | _ => false

/-- The proof data on core `c`: the arrays as the region finds them; after the body an input's buffer at its block;
    full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- The region's invariant as the body takes it: every scratch buffer at some contents, and the generator register. -/
theorem PhiA0_eq (c : Dev nD) :
    (Pipeline.ΦA spec0 c : sProp (MT nD τ sig Unit (Elt F) ℕ (UR sig nD τ) ℕ)) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 12000000 in
/-- The body at any point, by `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  unfold owns
  iintro ⟨⟨⟨⟨%g9, %f9, %h9, S9⟩, ⟨%g10, %f10, %h10, S10⟩, ⟨%g11, %f11, %h11, S11⟩, ⟨%g12, %f12, %h12, S12⟩, ⟨%g13, %f13, %h13, S13⟩⟩, Hg⟩, Ho, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply ((kernelRun c (grid0.coords t) _ _ _ _ _ _ _ _ _ _ _ _ _ _ _ _ _ _ _ _ _ _ _ _ f2 f3 f4 f5 f9 f13).2 f6 f7 f8 f10 f11 f12 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S9]; · iexact S9
  isplitl [S10]; · iexact S10
  isplitl [S11]; · iexact S11
  isplitl [S12]; · iexact S12
  isplitl [S13]; · iexact S13
  iintro ⟨H2, H3, H4, H5, ⟨%e6, H6⟩, ⟨%e7, H7⟩, ⟨%e8, H8⟩, ⟨%e9, S9⟩, ⟨%e10, S10⟩, ⟨%e11, S11⟩, ⟨%e12, S12⟩, ⟨%e13, S13⟩⟩
  isplitl [S9 S10 S11 S12 S13 Hg]
  · isplitl [S9 S10 S11 S12 S13]
    · isplitl [S9]
      · iexists _, _; isplitr; swap; · iexact S9
        ipureintro; rfl
      isplitl [S10]
      · iexists _, _; isplitr; swap; · iexact S10
        ipureintro; rfl
      isplitl [S11]
      · iexists _, _; isplitr; swap; · iexact S11
        ipureintro; rfl
      isplitl [S12]
      · iexists _, _; isplitr; swap; · iexact S12
        ipureintro; rfl
      iexists _, _; isplitr; swap; · iexact S13
      ipureintro; rfl
    iexact Hg
  isplitl [Ho]; · iexact Ho
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

-- the run's implicit arguments are found by unifying its conclusion with this statement
set_option backward.isDefEq.respectTransparency.types false in
/-- Every weakly fair execution of @main terminates; at its end every array of the pipeline is at what the proof data
    allows, every other unscoped buffer as the region found it, and every semaphore counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run each argument holds what it held at launch. -/
theorem final_args {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(((dats m 0 c).toRForget_arrAt_iff (w := 0) rfl _ _).mp ((h c).1 0)).trans (((dats m 0 c).arrAt_in 0 rfl _).trans ((A_eq m c 0).trans (V_main_arg0 m c))),
   (((dats m 0 c).toRForget_arrAt_iff (w := 1) rfl _ _).mp ((h c).1 1)).trans (((dats m 0 c).arrAt_in 1 rfl _).trans ((A_eq m c 1).trans (V_main_arg1 m c))),
   ((h c).2 main_arg2 (Pipeline.mem_restRefs_of main_arg2 (by decide) (by decide))).trans (V_main_arg2 m c)⟩

/-- The frame: the run terminates, the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => final_args m h.1 c, h.2⟩) (run_main m ρ)

end Frm

end Cert.QtKernelIdeal.Qt

end
-- ==== Proof.QtClaims.lean ====
/- The claims of `quant_t`'s scales: the programs run and leave their arguments, and over the extended reals the kernel's
   array of scales equals the reference's where the mask is set. -/
module

public import proofs.«01_k».proof.Defs
public import proofs.«01_k».proof.Proof.QtRef
public import proofs.«01_k».proof.Proof.QtArray
public import proofs.«01_k».proof.Proof.QtKernelFrame
public import proofs.«01_k».proof.Proof.QtKernelIdealFrame
public import Idealize.ShloMosaic.Lib.Quiescent

@[expose] public section

noncomputable section

namespace Cert.Proof.QtClaims

open Idealize.ShloMosaic Idealize.ShloMosaic.TcCoe Idealize.SL.Sem
open Cert.QtReferenceIdeal (S6144x4096 S6144 S192x4096)

/-- The kernel as printed runs, leaves its arguments, and ends quiescent. -/
theorem frame_k : Cert.quiescent_QtKernel := fun m ρ _ => Cert.QtKernel.Qt.Frm.frame m ρ
/-- So does its idealization, -/
theorem frame_ki : Cert.quiescent_QtKernelIdeal := fun m ρ _ => Cert.QtKernelIdeal.Qt.Frm.frame m ρ
/-- and the reference, which declares no semaphore. -/
theorem frame_ri : Cert.quiescent_QtReferenceIdeal := fun m ρ _ =>
  (θ_run Cert.QtReferenceIdeal.defs _ _).mono (fun r h => ⟨fun c => (h c).2,
      Idealize.ShloMosaic.sem_eq_zero_of_no_sems (by decide) r.2⟩)
    (Cert.QtReferenceIdeal.Value.run (F := Ideal) m ρ)

/-- The ideal pass rewrote nothing. -/
theorem preserves : Cert.preserves_QtKernel_QtKernelIdeal := trivial

/-- The scales agree where the mask is set. -/
theorem scales_eq (x : FVec Ideal S6144x4096 .bf16) (r : IVec S6144x4096 8) (s : FVec Ideal S6144 .f32) (i : S192x4096.Idx)
    (h : Cert.On_qt_in_range.fn (F := Ideal) x r s i = 1#1) :
    Cert.QtReferenceIdeal.Read.val_main_v42 (F := Ideal) x s i = Cert.QtKernelIdeal.Qt.scales x s i := by
  rw [Cert.QtReferenceIdeal.QtRef.mask_apply] at h
  obtain ⟨m, hm, ok⟩ := Cert.QtMath.okb_spec h
  rw [Cert.QtReferenceIdeal.QtRef.ref_apply, hm, Cert.QtMath.agree ok, ← hm]
  rfl

/-- From agreeing arguments the kernel's array of scales and the reference's end equal in every group whose scaled maximum
    is zero or in the range of the normal floats. -/
theorem algebraic : Cert.algebraic_QtKernelIdeal_QtReferenceIdeal_on_qt_in_range := by
  intro m ρ m' ρ' _ hagree
  refine ⟨fun c => Cert.QtKernelIdeal.Qt.G m c,
    (θ_run Cert.QtKernelIdeal.defs _ _).mono (fun _ h c => ⟨fun i _ => congrFun (h c).1 i, (h c).2⟩) (Cert.QtKernelIdeal.Qt.run m ρ),
    (θ_run Cert.QtReferenceIdeal.defs _ _).mono (fun _ h c => ⟨fun i hi => (congrFun (h c).1 i).trans ?_, (h c).2⟩)
      (Cert.QtReferenceIdeal.Value.run (F := Ideal) m' ρ')⟩
  rw [(hagree c).1, (hagree c).2.2, Cert.QtReferenceIdeal.Read.val_main_v42_eq]
  exact scales_eq _ _ _ i hi

end Cert.Proof.QtClaims

end
-- ==== Proof.lean ====
/-
  The proof of `Cert.Claim`: the frames of the three calls' printings and of their references, the ideal pass's
  preservation, and the equations of the results over the extended reals (Proof/DxClaims.lean, Proof/DwClaims.lean,
  Proof/QtClaims.lean).
-/
module

public import proofs.«01_k».proof.Defs
public import proofs.«01_k».proof.Proof.DxClaims
public import proofs.«01_k».proof.Proof.DwClaims
public import proofs.«01_k».proof.Proof.QtClaims

@[expose] public section

noncomputable section

namespace Cert.Proof

/-- Everything the certificate claims. -/
theorem claim : Cert.Claim := ⟨Cert.DxKernel.Gen.facts, Cert.DxKernelIdeal.Gen.facts, Cert.DxReferenceIdeal.Gen.facts,
  Cert.DwKernel.Gen.facts, Cert.DwKernelIdeal.Gen.facts, Cert.DwReferenceIdeal.Gen.facts,
  Cert.QtKernel.Gen.facts, Cert.QtKernelIdeal.Gen.facts, Cert.QtReferenceIdeal.Gen.facts,
  Cert.On_in_range.Gen.facts, Cert.On_qt_in_range.Gen.facts,
  DxClaims.frame_k, DxClaims.frame_ki, DxClaims.frame_ri, DwClaims.frame_k, DwClaims.frame_ki, DwClaims.frame_ri,
  QtClaims.frame_k, QtClaims.frame_ki, QtClaims.frame_ri,
  DxClaims.preserves, DxClaims.algebraic, DwClaims.preserves, DwClaims.algebraic, QtClaims.preserves, QtClaims.algebraic⟩

end Cert.Proof

end
